-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v40)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v40) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v149) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x7168 : Shape := ⟨2, ![16384, 7168]⟩
abbrev S4x64 : Shape := ⟨2, ![4, 64]⟩
abbrev S_ : Shape := ⟨0, ![]⟩

class Facts : Prop where
  bcast_S_S16384x7168 : S_.BroadcastsInDim S16384x7168 (![] : Fin 0 → Fin S16384x7168.rank)
  reducesTo_S16384x7168_S_d0_1 : S16384x7168.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384x7168 .f32) (main_arg1 : FVec F S4x64 .f32) : IVec S_ 1 :=
  let main_v0 : FVec F S16384x7168 .f32 := Host.absf main_arg0
  let main_cst : FVec F S_ .f32 := constant S_ .f32 0x7F800000#32
  let main_v1 : FVec F S16384x7168 .f32 := broadcastInDim S16384x7168 ![] bcast_S_S16384x7168 main_cst
  let main_v2 : IVec S16384x7168 1 := cmpf .olt main_v0 main_v1
  let main_c : IVec S_ 1 := constantI S_ 1 1#1
  let main_v3 : IVec S_ 1 := (fun x v => Host.reduce IntOp.andi x v reducesTo_S16384x7168_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S16384x7168 : Shape := ⟨2, ![16384, 7168]⟩
abbrev S4x64 : Shape := ⟨2, ![4, 64]⟩
abbrev S16384x1024 : Shape := ⟨2, ![16384, 1024]⟩
abbrev S512x128 : Shape := ⟨2, ![512, 128]⟩
abbrev S8192x128 : Shape := ⟨2, ![8192, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S1x64 : Shape := ⟨2, ![1, 64]⟩
abbrev S1 : Shape := ⟨1, ![1]⟩
abbrev S1x1 : Shape := ⟨2, ![1, 1]⟩

abbrev nBuf : Space → Nat
  | .hbm => 3
  | .vmem => 15
  | .smem => 0
  | _ => 0

abbrev bufTy : (tb : Table) → Fin (tcTables nBuf tb) → BufTy
  | .hbm, ⟨0, _⟩ => ⟨S16384x7168, .f32⟩
  | .hbm, ⟨1, _⟩ => ⟨S4x64, .f32⟩
  | .hbm, ⟨2, _⟩ => ⟨S16384x1024, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S4x64, .f32⟩
  | .local _ .vmem, ⟨7, _⟩ => ⟨S512x128, .f32⟩
  | .local _ .vmem, ⟨8, _⟩ => ⟨S512x128, .f32⟩
  | .local _ .vmem, ⟨9, _⟩ => ⟨S1024x128, .bf16⟩
  | .local _ .vmem, ⟨10, _⟩ => ⟨S8192x128, .bf16⟩
  | .local _ .vmem, ⟨11, _⟩ => ⟨S8192x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_18 : BitVec 32 := 0#32
  let arg2 : BitVec 32 := BitVec.ofNat 32 (i 2).val
  let v35 : BitVec 32 := Scalar.subi arg2 c0_i32_18
  let c1_i32 : BitVec 32 := 1#32
  let v37 : BitVec 32 := Scalar.divsi v35 c1_i32
  let v38 : BitVec 32 := Scalar.muli v37 c1_i32
  let v39 : BitVec 32 := Scalar.addi c0_i32_18 v38
  let c1_i32_19 : BitVec 32 := 1#32
  ⟨c0_i32_18, v39, c1_i32_19⟩
def k0_mult1 (i : grid0.Coords) (k0_t1 : Fin (k0_t1_loop i).trips) : BitVec 32 :=
  let c0_i32_18 : BitVec 32 := 0#32
  let c1_i32_19 : BitVec 32 := 1#32
  let arg14 : BitVec 32 := Scf.iv c0_i32_18 c1_i32_19 k0_t1
  let c512_i32_55 : BitVec 32 := 512#32
  let v132 : BitVec 32 := Scalar.muli arg14 c512_i32_55
  v132
def k0_off1 (i : grid0.Coords) (k0_t1 : Fin (k0_t1_loop i).trips) : Fin 2 → Nat :=
  let c0_i32_18 : BitVec 32 := 0#32
  let c1_i32_19 : BitVec 32 := 1#32
  let arg14 : BitVec 32 := Scf.iv c0_i32_18 c1_i32_19 k0_t1
  let c512_i32_55 : BitVec 32 := 512#32
  let v132 : BitVec 32 := Scalar.muli arg14 c512_i32_55
  let v133 : BitVec 32 := v132
  let v134 : Index := Scalar.indexCast v133
  let c0_56 : Index := 0#32
  ![v134.toNat, 0]
@[reducible] def k0_t2_loop (i : grid0.Coords) : Scf.Loop 32 :=
  let c0_i32_18 : BitVec 32 := 0#32
  let arg2 : BitVec 32 := BitVec.ofNat 32 (i 2).val
  let v35 : BitVec 32 := Scalar.subi arg2 c0_i32_18
  let c1_i32 : BitVec 32 := 1#32
  let v37 : BitVec 32 := Scalar.divsi v35 c1_i32
  let v38 : BitVec 32 := Scalar.muli v37 c1_i32
  let v39 : BitVec 32 := Scalar.addi c0_i32_18 v38
  let v36 : BitVec 32 := Scalar.addi c0_i32_18 v35
  let c1_i32_20 : BitVec 32 := 1#32
  ⟨v39, v36, c1_i32_20⟩
def k0_mult2 (i : grid0.Coords) (k0_t2 : Fin (k0_t2_loop i).trips) : BitVec 32 :=
  let c0_i32_18 : BitVec 32 := 0#32
  let arg2 : BitVec 32 := BitVec.ofNat 32 (i 2).val
  let v35 : BitVec 32 := Scalar.subi arg2 c0_i32_18
  let c1_i32 : BitVec 32 := 1#32
  let v37 : BitVec 32 := Scalar.divsi v35 c1_i32
  let v38 : BitVec 32 := Scalar.muli v37 c1_i32
  let v39 : BitVec 32 := Scalar.addi c0_i32_18 v38
  let c1_i32_20 : BitVec 32 := 1#32
  let arg14 : BitVec 32 := Scf.iv v39 c1_i32_20 k0_t2
  let c512_i32_55 : BitVec 32 := 512#32
  let v132 : BitVec 32 := Scalar.muli arg14 c512_i32_55
  v132
def k0_off2 (i : grid0.Coords) (k0_t2 : Fin (k0_t2_loop i).trips) : Fin 2 → Nat :=
  let c0_i32_18 : BitVec 32 := 0#32
  let arg2 : BitVec 32 := BitVec.ofNat 32 (i 2).val
  let v35 : BitVec 32 := Scalar.subi arg2 c0_i32_18
  let c1_i32 : BitVec 32 := 1#32
  let v37 : BitVec 32 := Scalar.divsi v35 c1_i32
  let v38 : BitVec 32 := Scalar.muli v37 c1_i32
  let v39 : BitVec 32 := Scalar.addi c0_i32_18 v38
  let c1_i32_20 : BitVec 32 := 1#32
  let arg14 : BitVec 32 := Scf.iv v39 c1_i32_20 k0_t2
  let c512_i32_55 : BitVec 32 := 512#32
  let v132 : BitVec 32 := Scalar.muli arg14 c512_i32_55
  let v133 : BitVec 32 := v132
  let v134 : Index := Scalar.indexCast v133
  let c0_56 : Index := 0#32
  ![v134.toNat, 0]
def k0_mult3 (i : grid0.Coords) : BitVec 32 :=
  let arg2 : BitVec 32 := BitVec.ofNat 32 (i 2).val
  let c512_i32 : BitVec 32 := 512#32
  let v40 : BitVec 32 := Scalar.muli arg2 c512_i32
  v40
def k0_off3 (i : grid0.Coords) : Fin 2 → Nat :=
  let arg2 : BitVec 32 := BitVec.ofNat 32 (i 2).val
  let c512_i32 : BitVec 32 := 512#32
  let v40 : BitVec 32 := Scalar.muli arg2 c512_i32
  let v41 : BitVec 32 := v40
  let v42 : Index := Scalar.indexCast v41
  let c0_21 : Index := 0#32
  ![v42.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "qscale" => some (((8 * (Real.log 2))⁻¹ : ℝ) : EReal)
  | _ => none
-- ==== ReferenceIdeal.lean ====
abbrev S16384x7168 : Shape := ⟨2, ![16384, 7168]⟩
abbrev S4x64 : Shape := ⟨2, ![4, 64]⟩
abbrev S16384x1024 : Shape := ⟨2, ![16384, 1024]⟩
abbrev S2x8192x8x2x64 : Shape := ⟨5, ![2, 8192, 8, 2, 64]⟩
abbrev S2x8192x8x128 : Shape := ⟨4, ![2, 8192, 8, 128]⟩
abbrev S1x64 : Shape := ⟨2, ![1, 64]⟩
abbrev S64 : Shape := ⟨1, ![64]⟩
abbrev S_ : Shape := ⟨0, ![]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩

abbrev nBuf : Space → Nat
  | .hbm => 66
  | .vmem => 0
  | .smem => 0
  | _ => 0

abbrev bufTy : (tb : Table) → Fin (tcTables nBuf tb) → BufTy
  | .hbm, ⟨0, _⟩ => ⟨S16384x7168, .f32⟩
  | .hbm, ⟨1, _⟩ => ⟨S4x64, .f32⟩
  | .hbm, ⟨2, _⟩ => ⟨S16384x1024, .f32⟩
  | .hbm, ⟨3, _⟩ => ⟨S2x8192x8x2x64, .f32⟩
  | .hbm, ⟨4, _⟩ => ⟨S16384x1024, .f32⟩
  | .hbm, ⟨5, _⟩ => ⟨S2x8192x8x2x64, .f32⟩
  | .hbm, ⟨6, _⟩ => ⟨S16384x1024, .f32⟩
  | .hbm, ⟨7, _⟩ => ⟨S2x8192x8x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x8x2x8192x8192, .f32⟩
  | .hbm, ⟨28, _⟩ => ⟨S_, .f32⟩
  | .hbm, ⟨29, _⟩ => ⟨S2x8x2x8192x8192, .f32⟩
  | .hbm, ⟨30, _⟩ => ⟨S2x8x2x8192x8192, .f32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S2x8x2x8192x8192, .i1⟩
  | .hbm, ⟨40, _⟩ => ⟨S2x8x2x8192x8192, .f32⟩
  | .hbm, ⟨41, _⟩ => ⟨S2x8x2x8192x8192, .f32⟩
  | .hbm, ⟨42, _⟩ => ⟨S_, .f32⟩
  | .hbm, ⟨43, _⟩ => ⟨S2x8x2x8192, .f32⟩
  | .hbm, ⟨44, _⟩ => ⟨S_, .f32⟩
  | .hbm, ⟨45, _⟩ => ⟨S2x8x2x8192, .f32⟩
  | .hbm, ⟨46, _⟩ => ⟨S2x8x2x8192, .f32⟩
  | .hbm, ⟨47, _⟩ => ⟨S2x8x2x8192x1, .f32⟩
  | .hbm, ⟨48, _⟩ => ⟨S2x8x2x8192x8192, .f32⟩
  | .hbm, ⟨49, _⟩ => ⟨S2x8x2x8192x8192, .f32⟩
  | .hbm, ⟨50, _⟩ => ⟨S2x8x2x8192x8192, .f32⟩
  | .hbm, ⟨51, _⟩ => ⟨S_, .f32⟩
  | .hbm, ⟨52, _⟩ => ⟨S2x8x2x8192, .f32⟩
  | .hbm, ⟨53, _⟩ => ⟨S2x8x2x8192x1, .f32⟩
  | .hbm, ⟨54, _⟩ => ⟨S2x8x2x8192x8192, .f32⟩
  | .hbm, ⟨55, _⟩ => ⟨S2x8x2x8192x8192, .f32⟩
  | .hbm, ⟨56, _⟩ => ⟨S2x8x1x8192x8192, .f32⟩
  | .hbm, ⟨57, _⟩ => ⟨S2x8x8192x8192, .f32⟩
  | .hbm, ⟨58, _⟩ => ⟨S2x8x1x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x128x8192, .f32⟩
  | .hbm, ⟨64, _⟩ => ⟨S2x8192x8x128, .f32⟩
  | .hbm, ⟨65, _⟩ => ⟨S16384x1024, .f32⟩
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S1x2048x2048 : Shape := ⟨3, ![1, 2048, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S2048, .f32⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x2048, .f32⟩
  | .hbm, ⟨21, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S16384x2048 : Shape := ⟨2, ![16384, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S2x256x2048 : Shape := ⟨3, ![2, 256, 2048]⟩
abbrev S1x2048 : Shape := ⟨2, ![1, 2048]⟩
abbrev S1x2048x2048 : Shape := ⟨3, ![1, 2048, 2048]⟩
abbrev S512x2048 : Shape := ⟨2, ![512, 2048]⟩
abbrev S2048x2048 : Shape := ⟨2, ![2048, 2048]⟩
abbrev S2048 : Shape := ⟨1, ![2048]⟩
abbrev S512 : Shape := ⟨1, ![512]⟩
abbrev S512x1 : Shape := ⟨2, ![512, 1]⟩

abbrev nBuf : Space → Nat
  | .hbm => 9
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x2048, .f32⟩
  | .hbm, ⟨3, _⟩ => ⟨S512x2048, .f32⟩
  | .hbm, ⟨4, _⟩ => ⟨S2048x2048, .f32⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference4Ideal.lean ====
abbrev S2x256x2048 : Shape := ⟨3, ![2, 256, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x2048 : Shape := ⟨2, ![2048, 2048]⟩
abbrev S512x2048 : Shape := ⟨2, ![512, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x2048, .f32⟩
  | .hbm, ⟨3, _⟩ => ⟨S2048, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2048x2048, .f32⟩
  | .hbm, ⟨21, _⟩ => ⟨S2x256x2048, .f32⟩
  | .hbm, ⟨22, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S16384x1024 : Shape := ⟨2, ![16384, 1024]⟩
abbrev S16384x7168 : Shape := ⟨2, ![16384, 7168]⟩
abbrev S1x128 : Shape := ⟨2, ![1, 128]⟩
abbrev S16384x2048 : Shape := ⟨2, ![16384, 2048]⟩
abbrev S1x2048x2048 : Shape := ⟨3, ![1, 2048, 2048]⟩
abbrev S128 : Shape := ⟨1, ![128]⟩
abbrev S2048x2048 : Shape := ⟨2, ![2048, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x7168, .f32⟩
  | .hbm, ⟨2, _⟩ => ⟨S16384x1024, .f32⟩
  | .hbm, ⟨3, _⟩ => ⟨S1x128, .f32⟩
  | .hbm, ⟨4, _⟩ => ⟨S16384x2048, .f32⟩
  | .hbm, ⟨5, _⟩ => ⟨S1x2048x2048, .f32⟩
  | .hbm, ⟨6, _⟩ => ⟨S128, .f32⟩
  | .hbm, ⟨7, _⟩ => ⟨S2048x2048, .f32⟩
  | .hbm, ⟨8, _⟩ => ⟨S2048x2048, .bf16⟩
  | .hbm, ⟨9, _⟩ => ⟨S1x128, .f32⟩
  | .hbm, ⟨10, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S256x2048, .f32⟩
  | .local _ .vmem, ⟨8, _⟩ => ⟨S256x2048, .f32⟩
  | .local _ .vmem, ⟨9, _⟩ => ⟨S2048x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S16384x7168 : Shape := ⟨2, ![16384, 7168]⟩
abbrev S1x128 : Shape := ⟨2, ![1, 128]⟩
abbrev S16384x2048 : Shape := ⟨2, ![16384, 2048]⟩
abbrev S1x2048x2048 : Shape := ⟨3, ![1, 2048, 2048]⟩
abbrev S16384x4x256 : Shape := ⟨3, ![16384, 4, 256]⟩
abbrev S16384x8x128 : Shape := ⟨3, ![16384, 8, 128]⟩
abbrev S_ : Shape := ⟨0, ![]⟩
abbrev S16384x4 : Shape := ⟨2, ![16384, 4]⟩
abbrev S16384x4x1 : Shape := ⟨3, ![16384, 4, 1]⟩
abbrev S128 : Shape := ⟨1, ![128]⟩
abbrev S16384x8 : Shape := ⟨2, ![16384, 8]⟩
abbrev S16384x8x1 : Shape := ⟨3, ![16384, 8, 1]⟩
abbrev S1x1x128 : Shape := ⟨3, ![1, 1, 128]⟩
abbrev S2048x2048 : Shape := ⟨2, ![2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x7168, .f32⟩
  | .hbm, ⟨2, _⟩ => ⟨S16384x1024, .f32⟩
  | .hbm, ⟨3, _⟩ => ⟨S1x128, .f32⟩
  | .hbm, ⟨4, _⟩ => ⟨S16384x2048, .f32⟩
  | .hbm, ⟨5, _⟩ => ⟨S1x2048x2048, .f32⟩
  | .hbm, ⟨6, _⟩ => ⟨S16384x4x256, .f32⟩
  | .hbm, ⟨7, _⟩ => ⟨S16384x1024, .f32⟩
  | .hbm, ⟨8, _⟩ => ⟨S16384x4x256, .f32⟩
  | .hbm, ⟨9, _⟩ => ⟨S16384x8x128, .f32⟩
  | .hbm, ⟨10, _⟩ => ⟨S16384x4x256, .f32⟩
  | .hbm, ⟨11, _⟩ => ⟨S_, .f32⟩
  | .hbm, ⟨12, _⟩ => ⟨S16384x4, .f32⟩
  | .hbm, ⟨13, _⟩ => ⟨S16384x4x1, .f32⟩
  | .hbm, ⟨14, _⟩ => ⟨S_, .f32⟩
  | .hbm, ⟨15, _⟩ => ⟨S16384x4x1, .f32⟩
  | .hbm, ⟨16, _⟩ => ⟨S16384x4x1, .f32⟩
  | .hbm, ⟨17, _⟩ => ⟨S_, .f32⟩
  | .hbm, ⟨18, _⟩ => ⟨S16384x4x1, .f32⟩
  | .hbm, ⟨19, _⟩ => ⟨S16384x4x1, .f32⟩
  | .hbm, ⟨20, _⟩ => ⟨S16384x4x1, .f32⟩
  | .hbm, ⟨21, _⟩ => ⟨S16384x4x256, .f32⟩
  | .hbm, ⟨22, _⟩ => ⟨S16384x4x256, .f32⟩
  | .hbm, ⟨23, _⟩ => ⟨S16384x4x256, .f32⟩
  | .hbm, ⟨24, _⟩ => ⟨S16384x4x256, .f32⟩
  | .hbm, ⟨25, _⟩ => ⟨S_, .f32⟩
  | .hbm, ⟨26, _⟩ => ⟨S16384x4x256, .f32⟩
  | .hbm, ⟨27, _⟩ => ⟨S16384x4x256, .f32⟩
  | .hbm, ⟨28, _⟩ => ⟨S_, .f32⟩
  | .hbm, ⟨29, _⟩ => ⟨S16384x4x256, .f32⟩
  | .hbm, ⟨30, _⟩ => ⟨S16384x4x256, .f32⟩
  | .hbm, ⟨31, _⟩ => ⟨S16384x4x256, .f32⟩
  | .hbm, ⟨32, _⟩ => ⟨S16384x4x256, .f32⟩
  | .hbm, ⟨33, _⟩ => ⟨S128, .f32⟩
  | .hbm, ⟨34, _⟩ => ⟨S16384x8x128, .f32⟩
  | .hbm, ⟨35, _⟩ => ⟨S_, .f32⟩
  | .hbm, ⟨36, _⟩ => ⟨S16384x8, .f32⟩
  | .hbm, ⟨37, _⟩ => ⟨S16384x8x1, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S_, .f32⟩
  | .hbm, ⟨42, _⟩ => ⟨S16384x8x1, .f32⟩
  | .hbm, ⟨43, _⟩ => ⟨S16384x8x1, .f32⟩
  | .hbm, ⟨44, _⟩ => ⟨S16384x8x1, .f32⟩
  | .hbm, ⟨45, _⟩ => ⟨S16384x8x128, .f32⟩
  | .hbm, ⟨46, _⟩ => ⟨S16384x8x128, .f32⟩
  | .hbm, ⟨47, _⟩ => ⟨S1x1x128, .f32⟩
  | .hbm, ⟨48, _⟩ => ⟨S16384x8x128, .f32⟩
  | .hbm, ⟨49, _⟩ => ⟨S16384x8x128, .f32⟩
  | .hbm, ⟨50, _⟩ => ⟨S_, .f32⟩
  | .hbm, ⟨51, _⟩ => ⟨S16384x8x128, .f32⟩
  | .hbm, ⟨52, _⟩ => ⟨S16384x8x128, .f32⟩
  | .hbm, ⟨53, _⟩ => ⟨S16384x1024, .f32⟩
  | .hbm, ⟨54, _⟩ => ⟨S16384x1024, .f32⟩
  | .hbm, ⟨55, _⟩ => ⟨S16384x2048, .f32⟩
  | .hbm, ⟨56, _⟩ => ⟨S2048x2048, .f32⟩
  | .hbm, ⟨57, _⟩ => ⟨S16384x2048, .f32⟩
  | .hbm, ⟨58, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel6.lean ====
abbrev S2x8192x2048 : Shape := ⟨3, ![2, 8192, 2048]⟩
abbrev S1x2048 : Shape := ⟨2, ![1, 2048]⟩
abbrev S1x2048x7168 : Shape := ⟨3, ![1, 2048, 7168]⟩
abbrev S16384x2048 : Shape := ⟨2, ![16384, 2048]⟩
abbrev S2048 : Shape := ⟨1, ![2048]⟩
abbrev S2048x7168 : Shape := ⟨2, ![2048, 7168]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S32 : Shape := ⟨1, ![32]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S16384x7168 : Shape := ⟨2, ![16384, 7168]⟩
abbrev S512x2048 : Shape := ⟨2, ![512, 2048]⟩
abbrev S2048x1024 : Shape := ⟨2, ![2048, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 48
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S1x2048, .f32⟩
  | .hbm, ⟨2, _⟩ => ⟨S1x2048x7168, .f32⟩
  | .hbm, ⟨3, _⟩ => ⟨S16384x2048, .f32⟩
  | .hbm, ⟨4, _⟩ => ⟨S2048, .f32⟩
  | .hbm, ⟨5, _⟩ => ⟨S2048x7168, .f32⟩
  | .hbm, ⟨6, _⟩ => ⟨S2048x7168, .bf16⟩
  | .hbm, ⟨7, _⟩ => ⟨S8192, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S8192x1, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S8192x1, .f32⟩
  | .hbm, ⟨32, _⟩ => ⟨S1x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S1x8192x1x32, .f32⟩
  | .hbm, ⟨39, _⟩ => ⟨S1x8192x4x32, .f32⟩
  | .hbm, ⟨40, _⟩ => ⟨S8192x128, .f32⟩
  | .hbm, ⟨41, _⟩ => ⟨S8192x32, .f32⟩
  | .hbm, ⟨42, _⟩ => ⟨S8192x64, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S1x2048, .f32⟩
  | .hbm, ⟨47, _⟩ => ⟨S16384x7168, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .f32⟩
  | .local _ .vmem, ⟨14, _⟩ => ⟨S512x1024, .f32⟩
  | .local _ .vmem, ⟨15, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32 : BitVec 32 := 4#32
  let v6 : BitVec 1 := Scalar.cmpi .eq arg1 c4_i32
  let c5_i32 : BitVec 32 := 5#32
  let v7 : BitVec 1 := Scalar.cmpi .eq arg1 c5_i32
  let v8 : BitVec 1 := Scalar.ori v6 v7
  let v9 : BitVec 32 := Scalar.extui v8
  let c0_i32_2 : BitVec 32 := 0#32
  let v10 : BitVec 1 := Scalar.cmpi .ne v9 c0_i32_2
  v10

def k0_cond4 (i : grid0.Coords) : BitVec 1 :=
  let arg1 : BitVec 32 := BitVec.ofNat 32 (i 1).val
  let c2_i32_3 : BitVec 32 := 2#32
  let v11 : BitVec 1 := Scalar.cmpi .eq arg1 c2_i32_3
  let c3_i32 : BitVec 32 := 3#32
  let v12 : BitVec 1 := Scalar.cmpi .eq arg1 c3_i32
  let v13 : BitVec 1 := Scalar.ori v11 v12
  let c6_i32 : BitVec 32 := 6#32
  let v14 : BitVec 1 := Scalar.cmpi .eq arg1 c6_i32
  let v15 : BitVec 1 := Scalar.ori v13 v14
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S2x8192x2048 : Shape := ⟨3, ![2, 8192, 2048]⟩
abbrev S1x2048 : Shape := ⟨2, ![1, 2048]⟩
abbrev S1x2048x7168 : Shape := ⟨3, ![1, 2048, 7168]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x7168 : Shape := ⟨2, ![2048, 7168]⟩
abbrev S2x8192x7168 : Shape := ⟨3, ![2, 8192, 7168]⟩
abbrev S8192 : Shape := ⟨1, ![8192]⟩
abbrev S2x8192x1024 : Shape := ⟨3, ![2, 8192, 1024]⟩
abbrev S2x8192x4x256 : Shape := ⟨4, ![2, 8192, 4, 256]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S1x8192x1x128 : Shape := ⟨4, ![1, 8192, 1, 128]⟩
abbrev S2x8192x4x128 : Shape := ⟨4, ![2, 8192, 4, 128]⟩
abbrev S2x8192x8x2x64 : Shape := ⟨5, ![2, 8192, 8, 2, 64]⟩
abbrev S32 : Shape := ⟨1, ![32]⟩
abbrev S1x32 : Shape := ⟨2, ![1, 32]⟩
abbrev S8192x32 : Shape := ⟨2, ![8192, 32]⟩
abbrev S1x8192x1x1x32 : Shape := ⟨5, ![1, 8192, 1, 1, 32]⟩
abbrev S2x8192x8x2x32 : Shape := ⟨5, ![2, 8192, 8, 2, 32]⟩
abbrev S16384x1024 : Shape := ⟨2, ![16384, 1024]⟩
abbrev S16384x7168 : Shape := ⟨2, ![16384, 7168]⟩

abbrev nBuf : Space → Nat
  | .hbm => 165
  | .vmem => 0
  | .smem => 0
  | _ => 0

abbrev hbmTy0_0 (i : Nat) : BufTy := match i % 128 with
  | 0 => ⟨S2x8192x2048, .f32⟩
  | 1 => ⟨S1x2048, .f32⟩
  | 2 => ⟨S1x2048x7168, .f32⟩
  | 3 => ⟨S2048, .f32⟩
  | 4 => ⟨S2x8192x2048, .f32⟩
  | 5 => ⟨S_, .f32⟩
  | 6 => ⟨S2x8192, .f32⟩
  | 7 => ⟨S2x8192x1, .f32⟩
  | 8 => ⟨S_, .f32⟩
  | 9 => ⟨S2x8192x1, .f32⟩
  | 10 => ⟨S2x8192x1, .f32⟩
  | 11 => ⟨S_, .f32⟩
  | 12 => ⟨S2x8192x1, .f32⟩
  | 13 => ⟨S2x8192x1, .f32⟩
  | 14 => ⟨S2x8192x1, .f32⟩
  | 15 => ⟨S2x8192x2048, .f32⟩
  | 16 => ⟨S2x8192x2048, .f32⟩
  | 17 => ⟨S1x1x2048, .f32⟩
  | 18 => ⟨S2x8192x2048, .f32⟩
  | 19 => ⟨S2x8192x2048, .f32⟩
  | 20 => ⟨S2048x7168, .f32⟩
  | 21 => ⟨S2x8192x7168, .f32⟩
  | 22 => ⟨S8192, .f32⟩
  | 23 => ⟨S2x8192x1024, .f32⟩
  | 24 => ⟨S2x8192x4x256, .f32⟩
  | 25 => ⟨S8192x1, .f32⟩
  | 26 => ⟨S128, .f32⟩
  | 27 => ⟨S128, .f32⟩
  | 28 => ⟨S_, .f32⟩
  | 29 => ⟨S128, .f32⟩
  | 30 => ⟨S128, .f32⟩
  | 31 => ⟨S_, .f32⟩
  | 32 => ⟨S128, .f32⟩
  | 33 => ⟨S128, .f32⟩
  | 34 => ⟨S1x128, .f32⟩
  | 35 => ⟨S8192x128, .f32⟩
  | 36 => ⟨S8192x128, .f32⟩
  | 37 => ⟨S8192x128, .f32⟩
  | 38 => ⟨S8192x128, .f32⟩
  | 39 => ⟨S1x8192x1x128, .f32⟩
  | 40 => ⟨S8192x128, .f32⟩
  | 41 => ⟨S1x8192x1x128, .f32⟩
  | 42 => ⟨S2x8192x4x128, .f32⟩
  | 43 => ⟨S2x8192x4x128, .f32⟩
  | 44 => ⟨S2x8192x4x128, .f32⟩
  | 45 => ⟨S2x8192x4x128, .f32⟩
  | 46 => ⟨S2x8192x4x128, .f32⟩
  | 47 => ⟨S2x8192x4x128, .f32⟩
  | 48 => ⟨S2x8192x4x128, .f32⟩
  | 49 => ⟨S2x8192x4x128, .f32⟩
  | 50 => ⟨S2x8192x4x128, .f32⟩
  | 51 => ⟨S2x8192x4x128, .f32⟩
  | 52 => ⟨S2x8192x4x128, .f32⟩
  | 53 => ⟨S2x8192x4x128, .f32⟩
  | 54 => ⟨S2x8192x4x256, .f32⟩
  | 55 => ⟨S2x8192x1024, .f32⟩
  | 56 => ⟨S2x8192x4x256, .f32⟩
  | 57 => ⟨S8192x1, .f32⟩
  | 58 => ⟨S128, .f32⟩
  | 59 => ⟨S128, .f32⟩
  | 60 => ⟨S_, .f32⟩
  | 61 => ⟨S128, .f32⟩
  | 62 => ⟨S128, .f32⟩
  | 63 => ⟨S_, .f32⟩
  | 64 => ⟨S128, .f32⟩
  | 65 => ⟨S128, .f32⟩
  | 66 => ⟨S1x128, .f32⟩
  | 67 => ⟨S8192x128, .f32⟩
  | 68 => ⟨S8192x128, .f32⟩
  | 69 => ⟨S8192x128, .f32⟩
  | 70 => ⟨S8192x128, .f32⟩
  | 71 => ⟨S1x8192x1x128, .f32⟩
  | 72 => ⟨S8192x128, .f32⟩
  | 73 => ⟨S1x8192x1x128, .f32⟩
  | 74 => ⟨S2x8192x4x128, .f32⟩
  | 75 => ⟨S2x8192x4x128, .f32⟩
  | 76 => ⟨S2x8192x4x128, .f32⟩
  | 77 => ⟨S2x8192x4x128, .f32⟩
  | 78 => ⟨S2x8192x4x128, .f32⟩
  | 79 => ⟨S2x8192x4x128, .f32⟩
  | 80 => ⟨S2x8192x4x128, .f32⟩
  | 81 => ⟨S2x8192x4x128, .f32⟩
  | 82 => ⟨S2x8192x4x128, .f32⟩
  | 83 => ⟨S2x8192x4x128, .f32⟩
  | 84 => ⟨S2x8192x4x128, .f32⟩
  | 85 => ⟨S2x8192x4x128, .f32⟩
  | 86 => ⟨S2x8192x4x256, .f32⟩
  | 87 => ⟨S_, .f32⟩
  | 88 => ⟨S2x8192x4x256, .f32⟩
  | 89 => ⟨S2x8192x4x256, .f32⟩
  | 90 => ⟨S2x8192x1024, .f32⟩
  | 91 => ⟨S2x8192x8x2x64, .f32⟩
  | 92 => ⟨S8192x1, .f32⟩
  | 93 => ⟨S32, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S1x32, .f32⟩
  | 102 => ⟨S8192x32, .f32⟩
  | 103 => ⟨S8192x32, .f32⟩
  | 104 => ⟨S8192x32, .f32⟩
  | 105 => ⟨S8192x32, .f32⟩
  | 106 => ⟨S1x8192x1x1x32, .f32⟩
  | 107 => ⟨S8192x32, .f32⟩
  | 108 => ⟨S1x8192x1x1x32, .f32⟩
  | 109 => ⟨S2x8192x8x2x32, .f32⟩
  | 110 => ⟨S2x8192x8x2x32, .f32⟩
  | 111 => ⟨S2x8192x8x2x32, .f32⟩
  | 112 => ⟨S2x8192x8x2x32, .f32⟩
  | 113 => ⟨S2x8192x8x2x32, .f32⟩
  | 114 => ⟨S2x8192x8x2x32, .f32⟩
  | 115 => ⟨S2x8192x8x2x32, .f32⟩
  | 116 => ⟨S2x8192x8x2x32, .f32⟩
  | 117 => ⟨S2x8192x8x2x32, .f32⟩
  | 118 => ⟨S2x8192x8x2x32, .f32⟩
  | 119 => ⟨S2x8192x8x2x32, .f32⟩
  | 120 => ⟨S2x8192x8x2x32, .f32⟩
  | 121 => ⟨S2x8192x8x2x64, .f32⟩
  | 122 => ⟨S2x8192x1024, .f32⟩
  | 123 => ⟨S2x8192x8x2x64, .f32⟩
  | 124 => ⟨S8192x1, .f32⟩
  | 125 => ⟨S32, .f32⟩
  | 126 => ⟨S32, .f32⟩
  | 127 => ⟨S_, .f32⟩
  | _ => ⟨S2x8192x2048, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S1x32, .f32⟩
  | 6 => ⟨S8192x32, .f32⟩
  | 7 => ⟨S8192x32, .f32⟩
  | 8 => ⟨S8192x32, .f32⟩
  | 9 => ⟨S8192x32, .f32⟩
  | 10 => ⟨S1x8192x1x1x32, .f32⟩
  | 11 => ⟨S8192x32, .f32⟩
  | 12 => ⟨S1x8192x1x1x32, .f32⟩
  | 13 => ⟨S2x8192x8x2x32, .f32⟩
  | 14 => ⟨S2x8192x8x2x32, .f32⟩
  | 15 => ⟨S2x8192x8x2x32, .f32⟩
  | 16 => ⟨S2x8192x8x2x32, .f32⟩
  | 17 => ⟨S2x8192x8x2x32, .f32⟩
  | 18 => ⟨S2x8192x8x2x32, .f32⟩
  | 19 => ⟨S2x8192x8x2x32, .f32⟩
  | 20 => ⟨S2x8192x8x2x32, .f32⟩
  | 21 => ⟨S2x8192x8x2x32, .f32⟩
  | 22 => ⟨S2x8192x8x2x32, .f32⟩
  | 23 => ⟨S2x8192x8x2x32, .f32⟩
  | 24 => ⟨S2x8192x8x2x32, .f32⟩
  | 25 => ⟨S2x8192x8x2x64, .f32⟩
  | 26 => ⟨S16384x1024, .f32⟩
  | 27 => ⟨S16384x1024, .f32⟩
  | 28 => ⟨S2x8192x1024, .f32⟩
  | 29 => ⟨S16384x1024, .f32⟩
  | 30 => ⟨S2x8192x1024, .f32⟩
  | 31 => ⟨S16384x1024, .f32⟩
  | 32 => ⟨S16384x1024, .f32⟩
  | 33 => ⟨S16384x1024, .f32⟩
  | 34 => ⟨S2x8192x1024, .f32⟩
  | 35 => ⟨S16384x1024, .f32⟩
  | 36 => ⟨S16384x7168, .f32⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_6 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_v84 : Ref sig .tc := ⟨.hbm, 96, rfl⟩
abbrev main_v85 : Ref sig .tc := ⟨.hbm, 97, rfl⟩
abbrev main_cst_8 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_cst_9 : Ref sig .tc := ⟨.hbm, 127, rfl⟩
abbrev main_v114 : Ref sig .tc := ⟨.hbm, 128, rfl⟩
abbrev main_v115 : Ref sig .tc := ⟨.hbm, 129, rfl⟩
abbrev main_cst_10 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩

abbrev nD : Nat := 1
abbrev τ : Topo := Topo.v7x

variable {F : FTy → Type} [FloatOps F]
-- ==== Kernel7.lean ====
abbrev S16384x2048 : Shape := ⟨2, ![16384, 2048]⟩
abbrev S2x256x2048 : Shape := ⟨3, ![2, 256, 2048]⟩
abbrev S512x2048 : Shape := ⟨2, ![512, 2048]⟩
abbrev S1x256x2048 : Shape := ⟨3, ![1, 256, 2048]⟩
abbrev S512x512 : Shape := ⟨2, ![512, 512]⟩
abbrev S1x256x512 : Shape := ⟨3, ![1, 256, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2x256x2048, .f32⟩
  | .hbm, ⟨2, _⟩ => ⟨S2x256x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S512x2048, .f32⟩
  | .local _ .vmem, ⟨7, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x2048 : Shape := ⟨2, ![16384, 2048]⟩
abbrev S2x256x2048 : Shape := ⟨3, ![2, 256, 2048]⟩
abbrev S2x8192x4x512 : Shape := ⟨4, ![2, 8192, 4, 512]⟩
abbrev S2x256x4x512 : Shape := ⟨4, ![2, 256, 4, 512]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x512x8192 : Shape := ⟨4, ![2, 4, 512, 8192]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x256x2048, .f32⟩
  | .hbm, ⟨2, _⟩ => ⟨S2x256x2048, .f32⟩
  | .hbm, ⟨3, _⟩ => ⟨S2x8192x4x512, .f32⟩
  | .hbm, ⟨4, _⟩ => ⟨S2x256x4x512, .f32⟩
  | .hbm, ⟨5, _⟩ => ⟨S2x256x4x512, .f32⟩
  | .hbm, ⟨6, _⟩ => ⟨S2x4x8192x256, .f32⟩
  | .hbm, ⟨7, _⟩ => ⟨S_, .f32⟩
  | .hbm, ⟨8, _⟩ => ⟨S2x4x8192x256, .f32⟩
  | .hbm, ⟨9, _⟩ => ⟨S2x4x8192x256, .f32⟩
  | .hbm, ⟨10, _⟩ => ⟨S_, .f32⟩
  | .hbm, ⟨11, _⟩ => ⟨S2x4x8192, .f32⟩
  | .hbm, ⟨12, _⟩ => ⟨S_, .f32⟩
  | .hbm, ⟨13, _⟩ => ⟨S2x4x8192, .f32⟩
  | .hbm, ⟨14, _⟩ => ⟨S2x4x8192, .f32⟩
  | .hbm, ⟨15, _⟩ => ⟨S2x4x8192x1, .f32⟩
  | .hbm, ⟨16, _⟩ => ⟨S2x4x8192x256, .f32⟩
  | .hbm, ⟨17, _⟩ => ⟨S2x4x8192x256, .f32⟩
  | .hbm, ⟨18, _⟩ => ⟨S2x4x8192x256, .f32⟩
  | .hbm, ⟨19, _⟩ => ⟨S_, .f32⟩
  | .hbm, ⟨20, _⟩ => ⟨S2x4x8192, .f32⟩
  | .hbm, ⟨21, _⟩ => ⟨S2x4x8192x1, .f32⟩
  | .hbm, ⟨22, _⟩ => ⟨S2x4x8192x256, .f32⟩
  | .hbm, ⟨23, _⟩ => ⟨S2x4x8192x256, .f32⟩
  | .hbm, ⟨24, _⟩ => ⟨S2x4x512x8192, .f32⟩
  | .hbm, ⟨25, _⟩ => ⟨S2x8192x4x512, .f32⟩
  | .hbm, ⟨26, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Finite.lean ====
/-
  The precondition read back: where the predicate `finite` is one, every entry of both arrays is a real number.
-/
module

public import proofs.«01_k».proof.Pre_finite
public import Idealize.ShloMosaic.Lib.Pointwise
public import Idealize.ShloMosaic.Lib.ReduceAll

@[expose] public section
noncomputable section
namespace Cert.Pre_finite.Att
open Cert.Pre_finite Idealize.ShloMosaic

/-- The shape relations the predicate's operations state. -/
theorem facts : Facts :=
  ⟨by decide, by decide, by decide, by decide, by decide⟩

/-- A value whose absolute value is below +∞ is a real number. -/
theorem real_of_lt (x : EReal) (h : FloatOps.cmpf (F := Ideal) (φ := .f32) .olt (FloatOps.hostAbsf x) (FloatOps.ofBits .f32 0x7F800000#32) = 1#1) : ∃ y : ℝ, x = (y : EReal) := by
  have e : Ideal.ofBits .f32 0x7F800000#32 = ⊤ := by simp [Ideal.ofBits, Ideal.ieee]
  have h' : Ideal.cmp .olt (max x (-x)) (Ideal.ofBits .f32 0x7F800000#32) = 1#1 := h
  rw [e] at h'
  induction x with
  | bot => simp [Ideal.cmp] at h'
  | top => simp [Ideal.cmp] at h'
  | coe y => exact ⟨y, rfl⟩

/-- Where the predicate is one, the entries of both arrays are real numbers. -/
theorem real_of_fn [Facts] (X : FVec Ideal S16384x7168 .f32) (Λ : FVec Ideal S4x64 .f32) (h : fn (F := Ideal) X Λ = fun _ => 1#1) :
    (∀ i, ∃ y : ℝ, X i = (y : EReal)) ∧ ∀ i, ∃ y : ℝ, Λ i = (y : EReal) := by
  have h0 := congrFun h ix0
  unfold fn at h0
  obtain ⟨h1, h2⟩ := IntOp.andi_eq_one.1 h0
  haveI : Subsingleton S_.Idx := ⟨fun a b => funext fun q => q.elim0⟩
  exact ⟨fun i => real_of_lt _ (Host.reduce_andi_all _ _ _ _ _ h1 i), fun i => real_of_lt _ (Host.reduce_andi_all _ _ _ _ _ h2 i)⟩

end Cert.Pre_finite.Att
-- ==== Proof.Steps.lean ====
/-
  One grid point of the kernel as vectors: the scratch arrays after the set-up, after a block of keys below the
  diagonal, after the block on the diagonal, and the block of the result that is written at the end.
-/
module

public import proofs.«01_k».proof.Proof.Gen.KernelIdeal.Value
public import Idealize.ShloMosaic.Lib.ValueIdx
public import Idealize.ShloMosaic.Lib.VecWindow

@[expose] public section
noncomputable section
namespace Cert.KernelIdeal.Att
open Cert.KernelIdeal Cert.KernelIdeal.Gen Idealize.ShloMosaic Idealize.ShloMosaic.TcCoe Idealize.SL.Sem Idealize.ShloMosaic.Tactic

/-- The three running arrays of the online softmax: row maxima, lane sums, weighted values. -/
structure St where
  m : FVec Ideal S1024x128 .f32
  l : FVec Ideal S1024x128 .f32
  a : FVec Ideal S1024x128 .f32

/-- The carried keys (or values) of block `n`: rows `512 n … 512 n + 511`. -/
def blk (x : Vec Ideal S8192x128 .bf16) (n : ℕ) : Vec Ideal S512x128 .bf16 :=
  fun j => x (ValueIdx.ix2 (⟨(512 * n + (j 0).val) % 8192, Nat.mod_lt _ (by decide)⟩ : Fin 8192) (j 1))

/-- A load of 512 rows at row `512 n` is block `n`. -/
theorem ld_blk (x : Vec Ideal S8192x128 .bf16) {off : Fin 2 → ℕ} (inb : ∀ a, off a + S512x128.size a ≤ S8192x128.size a) (n : ℕ) (h : off = ![512 * n, 0]) :
    View.ld x (Rect.unit off S512x128.size inb) = blk x n := by
  subst h
  funext j
  refine congrArg x (funext fun a => ?_)
  have h0 : 512 * n + 512 ≤ 8192 := inb 0
  have hj : (j 0).val < 512 := (j 0).isLt
  match a with
  | 0 => exact Fin.ext (by show 512 * n + 1 * (j 0).val = (512 * n + (j 0).val) % 8192; omega)
  | 1 => exact Fin.ext (by show 0 + 1 * (j 1).val = (j 1).val; omega)

/-- One full key block: queries `q`, keys `kb`, values `vb`. -/
def St.step (q : Vec Ideal S1024x128 .bf16) (kb vb : Vec Ideal S512x128 .bf16) (s : St) : St :=
  ⟨k0_pay40 (k0_pay7 kb q s.m), k0_pay13 kb q s.m s.l, k0_pay39 (k0_pay14 kb q s.m) (k0_pay15 kb q s.m s.a) vb⟩

variable (𝒱 : Variants) (c : Dev nD) (bd : Option 𝒱.V) (i : grid0.Coords) (arg3 : Memref sig .tc .vmem S512x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S4x64 .f32) (harg6 : arg6.IsWhole) (arg7 : Memref sig .tc .vmem S512x128 .f32) (harg7 : arg7.IsWhole) (arg8 : Memref sig .tc .vmem S1024x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg2 : BitVec 32) (v31 : FVec Ideal S1024x128 .f32)
  (X8 : BufTy.Contents (Elt Ideal) arg8.view.ty) (X9 : BufTy.Contents (Elt Ideal) arg9.view.ty) (X10 : BufTy.Contents (Elt Ideal) arg10.view.ty)

/-- One trip of the block loop turns the state read from the three scratch arrays into its `step`. -/
theorem trip_read (k : Fin (k0_t1_loop i).trips) (f11 : BufTy.Contents (Elt Ideal) arg11.view.ty) (f12 : BufTy.Contents (Elt Ideal) arg12.view.ty) (f13 : BufTy.Contents (Elt Ideal) arg13.view.ty) :
    let L := tripL_k0_t1 (F := Ideal) 𝒱 c bd i arg3 harg3 arg4 harg4 arg5 harg5 arg6 harg6 arg7 harg7 arg8 harg8 arg9 harg9 arg10 harg10 arg11 harg11 arg12 harg12 arg13 harg13 arg2 v31 X8 X9 X10 k f11 f12 f13
    let blk (x : Vec Ideal S8192x128 .bf16) : Vec Ideal S512x128 .bf16 := View.ld x (Rect.unit (k0_off1 i k) S512x128.size (k0_off1_inb i k))
    (⟨arg11.view.read (Elt Ideal) (arg11.view.writes (Elt Ideal) f11 L.1), arg12.view.read (Elt Ideal) (arg12.view.writes (Elt Ideal) f12 L.2.1),
      arg13.view.read (Elt Ideal) (arg13.view.writes (Elt Ideal) f13 L.2.2)⟩ : St)
      = St.step (arg8.view.read (Elt Ideal) X8) (blk (arg9.view.read (Elt Ideal) X9)) (blk (arg10.view.read (Elt Ideal) X10))
          ⟨arg11.view.read (Elt Ideal) f11, arg12.view.read (Elt Ideal) f12, arg13.view.read (Elt Ideal) f13⟩ := by
  intro L blk
  subst L blk
  unfold tripL_k0_t1 trip_k0_t1
  dsimp only
  sl_unfold_words
  unfold St.step
  congr 1 <;> refine (View.read_writes_full (s := S1024x128) _ _ _ _ _).trans ?_ <;>
    repeat rw [View.readAt_full (s := S1024x128)]
  · rfl
  · rfl
  · rfl

/-- The state after the first `n` full blocks. -/
def iter (q : Vec Ideal S1024x128 .bf16) (K V : Vec Ideal S8192x128 .bf16) (s : St) : ℕ → St
  | 0 => s
  | n + 1 => (iter q K V s n).step q (blk K n) (blk V n)

/-- The block loop, read back after `n` trips. -/
theorem pb_read (G11 : BufTy.Contents (Elt Ideal) arg11.view.ty) (G12 : BufTy.Contents (Elt Ideal) arg12.view.ty) (G13 : BufTy.Contents (Elt Ideal) arg13.view.ty) (n : ℕ) (hn : n ≤ (k0_t1_loop i).trips) :
    let L := pb_k0_t1 (F := Ideal) 𝒱 c bd i arg3 harg3 arg4 harg4 arg5 harg5 arg6 harg6 arg7 harg7 arg8 harg8 arg9 harg9 arg10 harg10 arg11 harg11 arg12 harg12 arg13 harg13 arg2 v31 X8 X9 X10 G11 G12 G13 n
    (⟨arg11.view.read (Elt Ideal) (arg11.view.writes (Elt Ideal) G11 L.1), arg12.view.read (Elt Ideal) (arg12.view.writes (Elt Ideal) G12 L.2.1),
      arg13.view.read (Elt Ideal) (arg13.view.writes (Elt Ideal) G13 L.2.2)⟩ : St)
      = iter (arg8.view.read (Elt Ideal) X8) (arg9.view.read (Elt Ideal) X9) (arg10.view.read (Elt Ideal) X10)
          ⟨arg11.view.read (Elt Ideal) G11, arg12.view.read (Elt Ideal) G12, arg13.view.read (Elt Ideal) G13⟩ n := by
  induction n with
  | zero => rfl
  | succ n ih =>
    intro L
    have hs : L = _ := pb_k0_t1_succ (F := Ideal) 𝒱 c bd i arg3 harg3 arg4 harg4 arg5 harg5 arg6 harg6 arg7 harg7 arg8 harg8 arg9 harg9 arg10 harg10 arg11 harg11 arg12 harg12 arg13 harg13 arg2 v31 X8 X9 X10 G11 G12 G13 ⟨n, hn⟩
    rw [hs]
    dsimp only
    rw [View.writes_append, View.writes_append, View.writes_append]
    have ih' := ih (by omega)
    dsimp only at ih'
    refine (trip_read 𝒱 c bd i arg3 harg3 arg4 harg4 arg5 harg5 arg6 harg6 arg7 harg7 arg8 harg8 arg9 harg9 arg10 harg10 arg11 harg11 arg12 harg12 arg13 harg13 arg2 v31 X8 X9 X10 ⟨n, hn⟩ _ _ _).trans ?_
    dsimp only
    rw [ih', iter]
    rw [ld_blk _ _ n (k0_off1_eq i ⟨n, hn⟩), ld_blk _ _ n (k0_off1_eq i ⟨n, hn⟩)]

/-- The diagonal block: the causal mask inside it. -/
def St.diag (q : Vec Ideal S1024x128 .bf16) (kb vb : Vec Ideal S512x128 .bf16) (s : St) : St :=
  ⟨k0_pay57 (k0_pay48 kb q s.m),
   k0_pay55 (k0_pay45 kb q) (k0_pay46 kb q) (k0_pay47 kb q) (k0_pay48 kb q s.m) (k0_pay49 kb q s.m) (k0_pay50 kb q s.m) s.l,
   k0_pay56 (k0_pay45 kb q) (k0_pay46 kb q) (k0_pay47 kb q) (k0_pay48 kb q s.m) (k0_pay49 kb q s.m) (k0_pay50 kb q s.m) s.a vb⟩

/-- The state the block loop starts from. -/
def init : St := ⟨k0_pay35, k0_pay36, k0_pay38 k0_pay37⟩

/-- The two heads' queries, one above the other: each half keeps its own 64 lanes. -/
def qs (x0 : Vec Ideal S512x128 .f32) : Vec Ideal S1024x128 .bf16 :=
  fun j => if h : (j 0).val < 512 then k0_pay33 x0 (ValueIdx.ix2 (⟨(j 0).val, h⟩ : Fin 512) (j 1))
    else k0_pay34 x0 (ValueIdx.ix2 (⟨(j 0).val - 512, by have : (j 0).val < 1024 := (j 0).isLt; omega⟩ : Fin 512) (j 1))

/-- One grid point's output block, from its blocks of the queries and of the carried keys and values. -/
def pt (x0 : Vec Ideal S512x128 .f32) (K V : Vec Ideal S8192x128 .bf16) (x3 : Vec Ideal S4x64 .f32) (n : ℕ) : Vec Ideal S512x128 .f32 :=
  let s := (iter (qs x0) K V init n).diag (qs x0) (blk K n) (blk V n)
  k0_pay1 (k0_pay58 x3) (k0_pay59 x3) s.a s.l

/-- The second loop makes no trips. -/
theorem t2_trips (i : grid0.Coords) : Scf.trips (k0_t2_loop i).lb (k0_t2_loop i).ub (k0_t2_loop i).st = 0 :=
  Nat.le_zero.mp (k0_t2_abs i).2.1

/-- The first loop makes as many trips as the third coordinate says. -/
theorem t1_trips (i : grid0.Coords) : Scf.trips (k0_t1_loop i).lb (k0_t1_loop i).ub (k0_t1_loop i).st = (i 2).val := by
  have r_i2 : (i 2).val < 16 := (i 2).isLt
  have h0 : Affine.IsInt 0#32 (0) := Affine.ofNat _ (by omega)
  have h_arg2 : Affine.IsInt (BitVec.ofNat 32 (i 2).val) (((i 2).val : Int)) := Affine.ofNat _ (by omega)
  have h_v35 : Affine.IsInt _ (((i 2).val : Int)) := Affine.subi h_arg2 h0 (by omega)
  have h1 : Affine.IsInt 1#32 (1) := Affine.ofNat _ (by omega)
  have h_v37 : Affine.IsInt _ (((i 2).val : Int)) := Affine.divsi h_v35 h1 (by omega)
  have h_v38 : Affine.IsInt _ (((i 2).val : Int)) := Affine.muli h_v37 h1 (by omega)
  have h_v39 : Affine.IsInt _ (((i 2).val : Int)) := Affine.addi h0 h_v38 (by omega)
  exact Affine.trips_eq h0 h_v39 h1 _ (by omega)

/-- Both block loops, read back from the initial state: the second loop has no trips. -/
theorem loops_read (v39 : BitVec 32) (f11 : BufTy.Contents (Elt Ideal) arg11.view.ty) (f12 : BufTy.Contents (Elt Ideal) arg12.view.ty) (f13 : BufTy.Contents (Elt Ideal) arg13.view.ty) :
    ∀ (J11 : BufTy.Contents (Elt Ideal) arg11.view.ty) (J12 : BufTy.Contents (Elt Ideal) arg12.view.ty) (J13 : BufTy.Contents (Elt Ideal) arg13.view.ty),
    let p1 : List (View.Piece (Elt Ideal) S1024x128 .f32) := [⟨Rect.unit ![0, 0] S1024x128.size inb_S1024x128_S1024x128_0_0, k0_pay35 (F := Ideal)⟩]
    let p2 : List (View.Piece (Elt Ideal) S1024x128 .f32) := [⟨Rect.unit ![0, 0] S1024x128.size inb_S1024x128_S1024x128_0_0, k0_pay36 (F := Ideal)⟩]
    let p3 : List (View.Piece (Elt Ideal) S1024x128 .f32) := [⟨Rect.unit ![0, 0] S1024x128.size inb_S1024x128_S1024x128_0_0, k0_pay38 (F := Ideal) k0_pay37⟩]
    let L := pb_k0_t1 (F := Ideal) 𝒱 c bd i arg3 harg3 arg4 harg4 arg5 harg5 arg6 harg6 arg7 harg7 arg8 harg8 arg9 harg9 arg10 harg10 arg11 harg11 arg12 harg12 arg13 harg13 arg2 v31 X8 X9 X10 (arg11.view.writes (Elt Ideal) f11 p1) (arg12.view.writes (Elt Ideal) f12 p2) (arg13.view.writes (Elt Ideal) f13 p3) (Scf.trips (k0_t1_loop i).lb (k0_t1_loop i).ub (k0_t1_loop i).st)
    let L' := pb_k0_t2 (F := Ideal) 𝒱 c bd i arg3 harg3 arg4 harg4 arg5 harg5 arg6 harg6 arg7 harg7 arg8 harg8 arg9 harg9 arg10 harg10 arg11 harg11 arg12 harg12 arg13 harg13 arg2 v31 v39 X8 X9 X10 J11 J12 J13 (Scf.trips (k0_t2_loop i).lb (k0_t2_loop i).ub (k0_t2_loop i).st)
    (⟨arg11.view.read (Elt Ideal) (arg11.view.writes (Elt Ideal) f11 (L'.1 ++ (L.1 ++ p1))), arg12.view.read (Elt Ideal) (arg12.view.writes (Elt Ideal) f12 (L'.2.1 ++ (L.2.1 ++ p2))),
      arg13.view.read (Elt Ideal) (arg13.view.writes (Elt Ideal) f13 (L'.2.2 ++ (L.2.2 ++ p3)))⟩ : St)
      = iter (arg8.view.read (Elt Ideal) X8) (arg9.view.read (Elt Ideal) X9) (arg10.view.read (Elt Ideal) X10) init (i 2).val := by
  intro J11 J12 J13 p1 p2 p3 L L'
  have h2 : L' = ([], [], []) := by
    show pb_k0_t2 (F := Ideal) 𝒱 c bd i arg3 harg3 arg4 harg4 arg5 harg5 arg6 harg6 arg7 harg7 arg8 harg8 arg9 harg9 arg10 harg10 arg11 harg11 arg12 harg12 arg13 harg13 arg2 v31 v39 X8 X9 X10 J11 J12 J13 _ = _
    rw [t2_trips, pb_k0_t2.eq_1]
  rw [h2]
  dsimp only
  rw [List.nil_append, List.nil_append, List.nil_append, View.writes_append, View.writes_append, View.writes_append]
  have h := pb_read 𝒱 c bd i arg3 harg3 arg4 harg4 arg5 harg5 arg6 harg6 arg7 harg7 arg8 harg8 arg9 harg9 arg10 harg10 arg11 harg11 arg12 harg12 arg13 harg13 arg2 v31 X8 X9 X10 (arg11.view.writes (Elt Ideal) f11 p1) (arg12.view.writes (Elt Ideal) f12 p2) (arg13.view.writes (Elt Ideal) f13 p3) (Scf.trips (k0_t1_loop i).lb (k0_t1_loop i).ub (k0_t1_loop i).st) le_rfl
  refine h.trans ?_
  rw [t1_trips]
  exact congrArg (fun s => iter _ _ _ s (i 2).val) (congr (congr (congrArg St.mk (View.read_writes_full (s := S1024x128) _ _ _ _ _))
    (View.read_writes_full (s := S1024x128) _ _ _ _ _)) (View.read_writes_full (s := S1024x128) _ _ _ _ _))

/-- The two stores of the scaled queries, read back whole. -/
theorem read_qs (f8 : BufTy.Contents (Elt Ideal) arg8.view.ty) (x0 : Vec Ideal S512x128 .f32) :
    arg8.view.read (Elt Ideal) (arg8.view.writes (Elt Ideal) f8 [⟨Rect.unit ![512, 0] S512x128.size inb_S1024x128_S512x128_512_0, k0_pay34 x0⟩, ⟨Rect.unit ![0, 0] S512x128.size inb_S1024x128_S512x128_0_0, k0_pay33 x0⟩]) = qs x0 := by
  funext j
  unfold qs
  have hj : (j 0).val < 1024 := (j 0).isLt
  by_cases h : (j 0).val < 512
  · rw [dif_pos h]
    refine (View.read_writes_cons_unit_of_not_mem _ _ _ _ _ j rfl 0 (.inl h)).trans ?_
    refine View.read_writes_cons_unit_of_mem _ _ _ _ _ j _ rfl fun a => ?_
    match a with
    | 0 => exact (Nat.zero_add _).symm
    | 1 => exact (Nat.zero_add _).symm
  · rw [dif_neg h]
    refine View.read_writes_cons_unit_of_mem _ _ _ _ _ j _ rfl fun a => ?_
    match a with
    | 0 => exact (show (j 0).val = 512 + ((j 0).val - 512) by omega)
    | 1 => exact (Nat.zero_add _).symm

/-- A point past the first of its head: the output block from the carried keys and values. -/
theorem out_B (hc0 : ¬cond0_0 i) (x0 : Vec Ideal S512x128 .f32) (x1 x2 : Vec Ideal S8192x128 .f32) (x3 : Vec Ideal S4x64 .f32) (xs1 xs2 : Vec Ideal S8192x128 .bf16) :
    out0_B_4 (F := Ideal) c i arg3 harg3 arg4 harg4 arg5 harg5 arg6 harg6 arg7 harg7 arg8 harg8 arg9 harg9 arg10 harg10 arg11 harg11 arg12 harg12 arg13 harg13 hc0 x0 x1 x2 x3 xs1 xs2 = pt x0 xs1 xs2 x3 (i 2).val := by
  have hl := loops_read Variants.none c none i arg3 harg3 arg4 harg4 arg5 harg5 arg6 harg6 arg7 harg7 arg8 harg8 arg9 harg9 arg10 harg10 arg11 harg11 arg12 harg12 arg13 harg13 (BitVec.ofNat 32 (i 2).val) k0_pay37 (arg8.view.writes (Elt Ideal) arg8.view.junk (kernelRun0_B.sl.HS0_2 c arg3 harg3 x0))
    (harg9.unread xs1) (harg10.unread xs2) (kernelRun0_B.sl.v39 i) arg11.view.junk arg12.view.junk arg13.view.junk
  have hq : arg8.view.read (Elt Ideal) (arg8.view.writes (Elt Ideal) arg8.view.junk (kernelRun0_B.sl.HS0_2 c arg3 harg3 x0)) = qs x0 := by
    unfold kernelRun0_B.sl.HS0_2
    rw [View.readAt_full (s := S512x128), harg3.read_unread]
    exact read_qs _ _ _
  have hk : arg9.view.read (Elt Ideal) (harg9.unread xs1) = xs1 := by
    exact harg9.read_unread _
  have hv : arg10.view.read (Elt Ideal) (harg10.unread xs2) = xs2 := by
    exact harg10.read_unread _
  rw [hq, hk, hv] at hl
  have h44 : kernelRun0_B.sl.v44 c arg3 harg3 arg8 x0 = qs x0 := (View.readAt_full (s := S1024x128) _ _ _).trans hq
  have h60 : kernelRun0_B.sl.v60 c i arg3 harg3 arg4 harg4 arg5 harg5 arg6 harg6 arg7 harg7 arg8 harg8 arg9 harg9 arg10 harg10 arg11 harg11 arg12 harg12 arg13 harg13 x0 xs1 xs2 = (iter (qs x0) xs1 xs2 init (i 2).val).m := by
    unfold kernelRun0_B.sl.v60
    exact (View.readAt_full (s := S1024x128) _ _ _).trans (congrArg St.m (hl _ _ _))
  have h78 : kernelRun0_B.sl.v78 c i arg3 harg3 arg4 harg4 arg5 harg5 arg6 harg6 arg7 harg7 arg8 harg8 arg9 harg9 arg10 harg10 arg11 harg11 arg12 harg12 arg13 harg13 x0 xs1 xs2 = (iter (qs x0) xs1 xs2 init (i 2).val).l := by
    unfold kernelRun0_B.sl.v78
    exact (View.readAt_full (s := S1024x128) _ _ _).trans (congrArg St.l (hl _ _ _))
  have h92 : kernelRun0_B.sl.v92 c i arg3 harg3 arg4 harg4 arg5 harg5 arg6 harg6 arg7 harg7 arg8 harg8 arg9 harg9 arg10 harg10 arg11 harg11 arg12 harg12 arg13 harg13 x0 xs1 xs2 = (iter (qs x0) xs1 xs2 init (i 2).val).a := by
    unfold kernelRun0_B.sl.v92
    exact (View.readAt_full (s := S1024x128) _ _ _).trans (congrArg St.a (hl _ _ _))
  have hkb : View.readAt (Elt Ideal) arg9.view (Rect.unit (s := S8192x128) (k0_off3 i) S512x128.size (k0_off3_inb i)).toLoadRect (harg9.unread xs1) = blk xs1 (i 2).val := by
    exact (ld_blk (arg9.view.read (Elt Ideal) _) _ _ (k0_off3_eq i)).trans (congrArg (fun x => blk x (i 2).val) hk)
  have hvb : View.readAt (Elt Ideal) arg10.view (Rect.unit (s := S8192x128) (k0_off3 i) S512x128.size (k0_off3_inb i)).toLoadRect (harg10.unread xs2) = blk xs2 (i 2).val := by
    exact (ld_blk (arg10.view.read (Elt Ideal) _) _ _ (k0_off3_eq i)).trans (congrArg (fun x => blk x (i 2).val) hv)
  unfold out0_B_4 kernelRun0_B
  dsimp only
  refine (View.read_writes_full (s := S512x128) _ _ _ _ _).trans ?_
  unfold kernelRun0_B.sl.v120 kernelRun0_B.sl.v121 kernelRun0_B.sl.HS5_1_1 kernelRun0_B.sl.HS4_1_1
  rw [View.readCov_full (s := S1024x128), View.readCov_full (s := S1024x128)]
  unfold kernelRun0_B.sl.r kernelRun0_B.sl.r_1 kernelRun0_B.sl.r_2 kernelRun0_B.sl.r_3 kernelRun0_B.sl.r_4 kernelRun0_B.sl.r_5 kernelRun0_B.sl.r_6 kernelRun0_B.sl.r_7
  rw [h60, h78, h92, h44, hkb, hvb, View.readAt_full (s := S4x64), harg6.read_unread]
  rfl

/-- The first point of a head: the output block from the keys and values it has just stored. -/
theorem out_A (hc0 : cond0_0 i) (x0 : Vec Ideal S512x128 .f32) (x1 x2 : Vec Ideal S8192x128 .f32) (x3 : Vec Ideal S4x64 .f32) :
    out0_A_4 (F := Ideal) c i arg3 harg3 arg4 harg4 arg5 harg5 arg6 harg6 arg7 harg7 arg8 harg8 arg9 harg9 arg10 harg10 arg11 harg11 arg12 harg12 arg13 harg13 hc0 x0 x1 x2 x3 = pt x0 (k0_pay30 x1) (k0_pay31 x2) x3 (i 2).val := by
  have hl := loops_read Variants.none c none i arg3 harg3 arg4 harg4 arg5 harg5 arg6 harg6 arg7 harg7 arg8 harg8 arg9 harg9 arg10 harg10 arg11 harg11 arg12 harg12 arg13 harg13 (BitVec.ofNat 32 (i 2).val) k0_pay37 (arg8.view.writes (Elt Ideal) arg8.view.junk (kernelRun0_A.sl.HS0_2 c arg3 harg3 x0))
    (arg9.view.writes (Elt Ideal) arg9.view.junk (kernelRun0_A.sl.HS1_1 c arg4 harg4 x1)) (arg10.view.writes (Elt Ideal) arg10.view.junk (kernelRun0_A.sl.HS2_1 c arg5 harg5 x2)) (kernelRun0_A.sl.v39 i) arg11.view.junk arg12.view.junk arg13.view.junk
  have hq : arg8.view.read (Elt Ideal) (arg8.view.writes (Elt Ideal) arg8.view.junk (kernelRun0_A.sl.HS0_2 c arg3 harg3 x0)) = qs x0 := by
    unfold kernelRun0_A.sl.HS0_2
    rw [View.readAt_full (s := S512x128), harg3.read_unread]
    exact read_qs _ _ _
  have hk : arg9.view.read (Elt Ideal) (arg9.view.writes (Elt Ideal) arg9.view.junk (kernelRun0_A.sl.HS1_1 c arg4 harg4 x1)) = (k0_pay30 x1) := by
    unfold kernelRun0_A.sl.HS1_1; rw [View.readAt_full (s := S8192x128), harg4.read_unread]; exact View.read_writes_full (s := S8192x128) _ _ _ _ _
  have hv : arg10.view.read (Elt Ideal) (arg10.view.writes (Elt Ideal) arg10.view.junk (kernelRun0_A.sl.HS2_1 c arg5 harg5 x2)) = (k0_pay31 x2) := by
    unfold kernelRun0_A.sl.HS2_1; rw [View.readAt_full (s := S8192x128), harg5.read_unread]; exact View.read_writes_full (s := S8192x128) _ _ _ _ _
  rw [hq, hk, hv] at hl
  have h44 : kernelRun0_A.sl.v44 c arg3 harg3 arg8 x0 = qs x0 := (View.readAt_full (s := S1024x128) _ _ _).trans hq
  have h60 : kernelRun0_A.sl.v60 c i arg3 harg3 arg4 harg4 arg5 harg5 arg6 harg6 arg7 harg7 arg8 harg8 arg9 harg9 arg10 harg10 arg11 harg11 arg12 harg12 arg13 harg13 x0 x1 x2 = (iter (qs x0) (k0_pay30 x1) (k0_pay31 x2) init (i 2).val).m := by
    unfold kernelRun0_A.sl.v60
    exact (View.readAt_full (s := S1024x128) _ _ _).trans (congrArg St.m (hl _ _ _))
  have h78 : kernelRun0_A.sl.v78 c i arg3 harg3 arg4 harg4 arg5 harg5 arg6 harg6 arg7 harg7 arg8 harg8 arg9 harg9 arg10 harg10 arg11 harg11 arg12 harg12 arg13 harg13 x0 x1 x2 = (iter (qs x0) (k0_pay30 x1) (k0_pay31 x2) init (i 2).val).l := by
    unfold kernelRun0_A.sl.v78
    exact (View.readAt_full (s := S1024x128) _ _ _).trans (congrArg St.l (hl _ _ _))
  have h92 : kernelRun0_A.sl.v92 c i arg3 harg3 arg4 harg4 arg5 harg5 arg6 harg6 arg7 harg7 arg8 harg8 arg9 harg9 arg10 harg10 arg11 harg11 arg12 harg12 arg13 harg13 x0 x1 x2 = (iter (qs x0) (k0_pay30 x1) (k0_pay31 x2) init (i 2).val).a := by
    unfold kernelRun0_A.sl.v92
    exact (View.readAt_full (s := S1024x128) _ _ _).trans (congrArg St.a (hl _ _ _))
  have hkb : View.readAt (Elt Ideal) arg9.view (Rect.unit (s := S8192x128) (k0_off3 i) S512x128.size (k0_off3_inb i)).toLoadRect (arg9.view.writes (Elt Ideal) arg9.view.junk (kernelRun0_A.sl.HS1_1 c arg4 harg4 x1)) = blk (k0_pay30 x1) (i 2).val := by
    exact (ld_blk (arg9.view.read (Elt Ideal) _) _ _ (k0_off3_eq i)).trans (congrArg (fun x => blk x (i 2).val) hk)
  have hvb : View.readAt (Elt Ideal) arg10.view (Rect.unit (s := S8192x128) (k0_off3 i) S512x128.size (k0_off3_inb i)).toLoadRect (arg10.view.writes (Elt Ideal) arg10.view.junk (kernelRun0_A.sl.HS2_1 c arg5 harg5 x2)) = blk (k0_pay31 x2) (i 2).val := by
    exact (ld_blk (arg10.view.read (Elt Ideal) _) _ _ (k0_off3_eq i)).trans (congrArg (fun x => blk x (i 2).val) hv)
  unfold out0_A_4 kernelRun0_A
  dsimp only
  refine (View.read_writes_full (s := S512x128) _ _ _ _ _).trans ?_
  unfold kernelRun0_A.sl.v120 kernelRun0_A.sl.v121 kernelRun0_A.sl.HS5_1_1 kernelRun0_A.sl.HS4_1_1
  rw [View.readCov_full (s := S1024x128), View.readCov_full (s := S1024x128)]
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [h60, h78, h92, h44, hkb, hvb, View.readAt_full (s := S4x64), harg6.read_unread]
  rfl

/-- The first point of a head leaves its keys in the scratch it carries. -/
theorem sout_A_1 (hc0 : cond0_0 i) (x0 : Vec Ideal S512x128 .f32) (x1 x2 : Vec Ideal S8192x128 .f32) (x3 : Vec Ideal S4x64 .f32) :
    sout0_A_1 (F := Ideal) c i arg3 harg3 arg4 harg4 arg5 harg5 arg6 harg6 arg7 harg7 arg8 harg8 arg9 harg9 arg10 harg10 arg11 harg11 arg12 harg12 arg13 harg13 hc0 x0 x1 x2 x3 = k0_pay30 x1 := by
  unfold sout0_A_1 kernelRun0_A
  dsimp only
  unfold kernelRun0_A.sl.HS1_1
  rw [View.readAt_full (s := S8192x128), harg4.read_unread]
  exact View.read_writes_full (s := S8192x128) _ _ _ _ _

/-- The first point of a head leaves its values in the scratch it carries. -/
theorem sout_A_2 (hc0 : cond0_0 i) (x0 : Vec Ideal S512x128 .f32) (x1 x2 : Vec Ideal S8192x128 .f32) (x3 : Vec Ideal S4x64 .f32) :
    sout0_A_2 (F := Ideal) c i arg3 harg3 arg4 harg4 arg5 harg5 arg6 harg6 arg7 harg7 arg8 harg8 arg9 harg9 arg10 harg10 arg11 harg11 arg12 harg12 arg13 harg13 hc0 x0 x1 x2 x3 = k0_pay31 x2 := by
  unfold sout0_A_2 kernelRun0_A
  dsimp only
  unfold kernelRun0_A.sl.HS2_1
  rw [View.readAt_full (s := S8192x128), harg5.read_unread]
  exact View.read_writes_full (s := S8192x128) _ _ _ _ _

end Cert.KernelIdeal.Att
end
-- ==== Proof.Online.lean ====
/-
  One row of the online softmax, over the extended reals: the running maximum, the scaled lane sums and the scaled
  weighted values, and what one block of 512 scores does to them. The scores are real numbers or −∞ (a masked one).
-/
module

public import proofs.«01_k».proof.Proof.Steps
public import Idealize.ShloMosaic.Lib.Pointwise

@[expose] public section
noncomputable section
namespace Cert.KernelIdeal.Att
open Cert.KernelIdeal Cert.KernelIdeal.Gen Idealize.ShloMosaic

/-- The weight of a score: `2` to the score, nothing for a masked one. -/
def wt (x : EReal) : ℝ := if x = ⊥ then 0 else (2 : ℝ) ^ x.toReal

/-- The weight of −∞ is zero. -/
theorem wt_bot : wt ⊥ = 0 := if_pos rfl
/-- The weight of a real is its power of two. -/
theorem wt_coe (x : ℝ) : wt (x : EReal) = (2 : ℝ) ^ x := by
  unfold wt; rw [if_neg (EReal.coe_ne_bot x), EReal.toReal_coe]
/-- A weight is not negative. -/
theorem wt_nonneg (x : EReal) : 0 ≤ wt x := by
  unfold wt; split
  · exact le_rfl
  · exact (Real.rpow_pos_of_pos two_pos _).le
/-- The weight of anything above −∞ is positive. -/
theorem wt_pos {x : EReal} (h : x ≠ ⊥) : 0 < wt x := by
  unfold wt; rw [if_neg h]; exact Real.rpow_pos_of_pos two_pos _

/-- The power of two of a difference to a real maximum is the quotient of the weights. -/
theorem exp2_sub {x M : EReal} (hx : x ≠ ⊤) (hM : M ≠ ⊤) (hM' : M ≠ ⊥) :
    Ideal.exp2 (x - M) = ((wt x * (wt M)⁻¹ : ℝ) : EReal) := by
  induction M with
  | bot => exact absurd rfl hM'
  | top => exact absurd rfl hM
  | coe y =>
    induction x with
    | bot => rw [wt_bot, zero_mul]; rfl
    | top => exact absurd rfl hx
    | coe x =>
      rw [wt_coe, wt_coe, ← EReal.coe_sub, Ideal.exp2_coe]
      congr 1
      show (2 : ℝ) ^ (x - y) = _
      rw [Real.rpow_sub two_pos, div_eq_mul_inv]

/-- A row's maximum over the four tiles of a block, joined with the maximum before. -/
def mx (t : Fin 512 → EReal) (μ : EReal) : EReal :=
  max μ (Finset.fold max (Ideal.ofBits .f32 0xFF800000#32) (fun x : Fin 128 => max (max (max (t ⟨0 + x.val, by omega⟩) (t ⟨128 + x.val, by omega⟩))
    (t ⟨256 + x.val, by omega⟩)) (t ⟨384 + x.val, by omega⟩)) Finset.univ)

/-- The word of −∞ is the bottom. -/
theorem negInf : Ideal.ofBits .f32 0xFF800000#32 = ⊥ := by simp [Ideal.ofBits, Ideal.ieee]

/-- The maximum over a block is below +∞ if the scores and the maximum before are. -/
theorem mx_ne_top {t : Fin 512 → EReal} {μ : EReal} (ht : ∀ j, t j ≠ ⊤) (hμ : μ ≠ ⊤) : mx t μ ≠ ⊤ := by
  unfold mx
  refine (max_lt (lt_top_iff_ne_top.2 hμ) ?_).ne
  rw [negInf, Finset.fold_max_lt]
  exact ⟨bot_lt_top, fun x _ => max_lt (max_lt (max_lt (lt_top_iff_ne_top.2 (ht _)) (lt_top_iff_ne_top.2 (ht _))) (lt_top_iff_ne_top.2 (ht _))) (lt_top_iff_ne_top.2 (ht _))⟩

/-- The maximum over a block is above −∞ if the first score is. -/
theorem mx_ne_bot {t : Fin 512 → EReal} {μ : EReal} (ht : t 0 ≠ ⊥) : mx t μ ≠ ⊥ := by
  unfold mx
  refine (lt_of_lt_of_le ?_ (le_max_right _ _)).ne'
  rw [negInf, Finset.lt_fold_max]
  exact Or.inr ⟨0, Finset.mem_univ _, lt_of_lt_of_le (bot_lt_iff_ne_bot.2 ht) ((le_max_left _ _).trans ((le_max_left _ _).trans (le_max_left _ _)))⟩

/-- A row's state: the maximum `μ` (the same in every lane), and the lane sums `L` and weighted values `A` divided by the
    maximum's weight. Before the first block the maximum is −∞ and both sums are nothing. -/
structure RowInv (s : St) (r : Fin 1024) (μ : EReal) (L A : Fin 128 → ℝ) : Prop where
  top : μ ≠ ⊤
  m : ∀ c : Fin 128, s.m (ix2 r c) = μ
  l : ∀ c : Fin 128, s.l (ix2 r c) = (((wt μ)⁻¹ * L c : ℝ) : EReal)
  a : ∀ e : Fin 128, s.a (ix2 r e) = (((wt μ)⁻¹ * A e : ℝ) : EReal)
  l0 : μ = ⊥ → ∀ c, L c = 0
  a0 : μ = ⊥ → ∀ e, A e = 0

/-- A block's update of a row: its scores `t` and values `v`. -/
structure RowUpd (s s' : St) (r : Fin 1024) (t : Fin 512 → EReal) (v : Fin 512 → Fin 128 → EReal) : Prop where
  m : ∀ μ, (∀ c : Fin 128, s.m (ix2 r c) = μ) → ∀ c : Fin 128, s'.m (ix2 r c) = mx t μ
  l : ∀ μ, (∀ c : Fin 128, s.m (ix2 r c) = μ) → ∀ c : Fin 128, s'.l (ix2 r c) = Ideal.exp2 (μ - mx t μ) * s.l (ix2 r c)
    + (((Ideal.exp2 (t ⟨0 + c.val, by omega⟩ - mx t μ) + Ideal.exp2 (t ⟨128 + c.val, by omega⟩ - mx t μ)) + Ideal.exp2 (t ⟨256 + c.val, by omega⟩ - mx t μ))
      + Ideal.exp2 (t ⟨384 + c.val, by omega⟩ - mx t μ))
  a : ∀ μ, (∀ c : Fin 128, s.m (ix2 r c) = μ) → ∀ e : Fin 128, s'.a (ix2 r e) = Ideal.exp2 (μ - mx t μ) * s.a (ix2 r e)
    + ∑ j : Fin 512, Ideal.exp2 (t j - mx t μ) * v j e

/-- A sum of reals is the same among the extended reals. -/
theorem coe_sum {ι : Type} (S : Finset ι) (f : ι → ℝ) : ((∑ i ∈ S, f i : ℝ) : EReal) = ∑ i ∈ S, (f i : EReal) := by
  classical
  induction S using Finset.induction_on with
  | empty => rfl
  | insert a S h ih => rw [Finset.sum_insert h, Finset.sum_insert h, EReal.coe_add, ih]

/-- The update keeps the invariant: the block's weights are added to the lane sums, its weighted values to theirs. -/
theorem RowUpd.inv {s s' : St} {r : Fin 1024} {t : Fin 512 → EReal} {v : Fin 512 → Fin 128 → EReal} (h : RowUpd s s' r t v)
    {μ : EReal} {L A : Fin 128 → ℝ} (hi : RowInv s r μ L A) (ht : ∀ j, t j ≠ ⊤) (ht0 : t 0 ≠ ⊥) (w : Fin 512 → Fin 128 → ℝ) (hw : ∀ j e, v j e = (w j e : EReal)) :
    RowInv s' r (mx t μ)
      (fun c => L c + (((wt (t ⟨0 + c.val, by omega⟩) + wt (t ⟨128 + c.val, by omega⟩)) + wt (t ⟨256 + c.val, by omega⟩)) + wt (t ⟨384 + c.val, by omega⟩)))
      (fun e => A e + ∑ j : Fin 512, wt (t j) * w j e) := by
  have hT := mx_ne_top ht hi.top
  have hB := mx_ne_bot (μ := μ) ht0
  have key : ∀ x : ℝ, (μ = ⊥ → x = 0) → wt μ * (wt (mx t μ))⁻¹ * ((wt μ)⁻¹ * x) = (wt (mx t μ))⁻¹ * x := by
    intro x hx
    by_cases hμ : μ = ⊥
    · rw [hx hμ]; ring
    · have := (wt_pos hμ).ne'
      field_simp
  refine ⟨hT, h.m μ hi.m, fun c => ?_, fun e => ?_, fun hb => absurd hb hB, fun hb => absurd hb hB⟩
  · rw [h.l μ hi.m, hi.l, exp2_sub hi.top hT hB, exp2_sub (ht _) hT hB, exp2_sub (ht _) hT hB, exp2_sub (ht _) hT hB, exp2_sub (ht _) hT hB,
      ← EReal.coe_mul, key _ (fun hb => hi.l0 hb c), ← EReal.coe_add, ← EReal.coe_add, ← EReal.coe_add, ← EReal.coe_add]
    congr 1; ring
  · rw [h.a μ hi.m, hi.a, exp2_sub hi.top hT hB, ← EReal.coe_mul, key _ (fun hb => hi.a0 hb e)]
    have : ∀ j, Ideal.exp2 (t j - mx t μ) * v j e = ((wt (mx t μ))⁻¹ * (wt (t j) * w j e) : ℝ) := by
      intro j
      rw [exp2_sub (ht j) hT hB, hw, ← EReal.coe_mul]; congr 1; ring
    rw [Finset.sum_congr rfl fun j _ => this j, ← coe_sum, ← EReal.coe_add, ← Finset.mul_sum, ← mul_add]

set_option maxRecDepth 16384

/-- A full block's update, row by row. -/
theorem step_upd (q : Vec Ideal S1024x128 .bf16) (kb vb : Vec Ideal S512x128 .bf16) (s : St) (r : Fin 1024) :
    RowUpd s (s.step q kb vb) r (fun j => ∑ x : Fin 128, q (ix2 r x) * kb (ix2 j x)) (fun j e => vb (ix2 j e)) := by
  have hm : ∀ μ, (∀ c : Fin 128, s.m (ix2 r c) = μ) → ∀ c : Fin 128, k0_pay7 kb q s.m (ix2 r c) = mx (fun j => ∑ x : Fin 128, q (ix2 r x) * kb (ix2 j x)) μ := by
    intro μ h c
    pointwise [k0_pay7, k0_pay6, k0_pay5, k0_pay4, k0_pay3, k0_pay2, mx]
    simp only [h]
  refine ⟨?_, ?_, ?_⟩
  · intro μ h c
    rw [← hm μ h c]
    unfold St.step
    pointwise [k0_pay40]
  · intro μ h c
    unfold St.step
    pointwise [k0_pay13, k0_pay8, k0_pay9, k0_pay10, k0_pay11, k0_pay12]
    simp only [hm μ h, h]
    pointwise [k0_pay6, k0_pay5, k0_pay4, k0_pay3, k0_pay2]
    try rfl
  · intro μ h e
    unfold St.step
    pointwise [k0_pay39, k0_pay15, k0_pay8]
    rw [hm μ h, h]
    refine congrArg₂ (· + ·) rfl (Finset.sum_congr rfl fun j _ => congrArg (· * _) ?_)
    pointwise [k0_pay14, k0_pay9, k0_pay10, k0_pay11, k0_pay12]
    simp only [hm μ h]
    pointwise [k0_pay6, k0_pay5, k0_pay4, k0_pay3, k0_pay2]
    split
    · rfl
    · split
      · refine congrArg Ideal.exp2 (congrArg (· - _) (Finset.sum_congr rfl fun x _ => congrArg (_ * ·) (congrArg kb (congrArg (ix2 · x) (Fin.ext ?_)))))
        show 128 + (j.val - 128) = j.val
        omega
      · split
        · refine congrArg Ideal.exp2 (congrArg (· - _) (Finset.sum_congr rfl fun x _ => congrArg (_ * ·) (congrArg kb (congrArg (ix2 · x) (Fin.ext ?_)))))
          show 256 + (j.val - 128 - 128) = j.val
          omega
        · refine congrArg Ideal.exp2 (congrArg (· - _) (Finset.sum_congr rfl fun x _ => congrArg (_ * ·) (congrArg kb (congrArg (ix2 · x) (Fin.ext ?_)))))
          show 384 + (j.val - 128 - 128 - 128) = j.val
          omega

/-- The mask's word comparison: key `a` of the block against query row `b` of its half. -/
theorem word_sle (a b : ℕ) (ha : a < 512) (hb : b < 1024) :
    IntOp.cmpi .sle (BitVec.ofNat 32 a) (Scalar.select (IntOp.cmpi .sge (BitVec.ofNat 32 b) 512#32) (IntOp.subi (BitVec.ofNat 32 b) 512#32) (BitVec.ofNat 32 b))
      = BitVec.ofBool (decide (a ≤ b % 512)) := by
  have hs : ∀ n : ℕ, n < 1024 → (BitVec.ofNat 32 n).toInt = n := by
    intro n hn
    rw [BitVec.toInt_eq_toNat_of_lt (by rw [BitVec.toNat_ofNat]; omega), BitVec.toNat_ofNat]; omega
  have hle : ∀ n m : ℕ, n < 1024 → m < 1024 → (BitVec.ofNat 32 n).sle (BitVec.ofNat 32 m) = decide (n ≤ m) := by
    intro n m hn hm
    rw [BitVec.sle, hs n hn, hs m hm]; simp
  have hc : IntOp.cmpi .sge (BitVec.ofNat 32 b) 512#32 = BitVec.ofBool (decide (512 ≤ b)) := congrArg BitVec.ofBool (hle 512 b (by omega) hb)
  rw [hc]
  by_cases h : 512 ≤ b
  · have hsub : IntOp.subi (BitVec.ofNat 32 b) 512#32 = BitVec.ofNat 32 (b - 512) := by
      show BitVec.ofNat 32 b - BitVec.ofNat 32 512 = _
      apply BitVec.eq_of_toNat_eq
      rw [BitVec.toNat_sub, BitVec.toNat_ofNat, BitVec.toNat_ofNat, BitVec.toNat_ofNat]; omega
    rw [hsub, show b % 512 = b - 512 by omega]
    simp only [Scalar.select, h, decide_true, BitVec.ofBool_true, ↓reduceIte]
    exact congrArg BitVec.ofBool (hle a (b - 512) (by omega) (by omega))
  · rw [show b % 512 = b by omega]
    simp only [Scalar.select, h, decide_false, BitVec.ofBool_false]
    exact congrArg BitVec.ofBool (hle a b (by omega) hb)

/-- The diagonal block's update, row by row. -/
theorem diag_upd (q : Vec Ideal S1024x128 .bf16) (kb vb : Vec Ideal S512x128 .bf16) (s : St) (r : Fin 1024) :
    RowUpd s (s.diag q kb vb) r (fun j => if j.val ≤ r.val % 512 then ∑ x : Fin 128, q (ix2 r x) * kb (ix2 j x) else ⊥) (fun j e => vb (ix2 j e)) := by
  have ht : ∀ j : Fin 512, k0_pay43 kb q (ix2 r j) = if j.val ≤ r.val % 512 then ∑ x : Fin 128, q (ix2 r x) * kb (ix2 j x) else ⊥ := by
    intro j
    pointwise [k0_pay43]
    rw [word_sle j.val r.val j.isLt r.isLt, show Named.named (F := Ideal) (φ := .f32) κ "mask" 4048155338#32 = (⊥ : EReal) from IdealRules.named_const.ideal_named_scalar _ _ _ _ rfl]
    unfold Scalar.select
    by_cases h : j.val ≤ r.val % 512
    · simp [h]
    · simp [h]
  simp only [← ht]
  have hm : ∀ μ, (∀ c : Fin 128, s.m (ix2 r c) = μ) → ∀ c : Fin 128, k0_pay48 kb q s.m (ix2 r c) = mx (fun j => k0_pay43 kb q (ix2 r j)) μ := by
    intro μ h c
    pointwise [k0_pay48, k0_pay47, k0_pay46, k0_pay45, k0_pay44, mx]
    simp only [h]
  refine ⟨?_, ?_, ?_⟩
  · intro μ h c
    rw [← hm μ h c]
    unfold St.diag
    pointwise [k0_pay57]
  · intro μ h c
    unfold St.diag
    pointwise [k0_pay55, k0_pay49, k0_pay50, k0_pay51, k0_pay52, k0_pay53, k0_pay54]
    simp only [hm μ h, h]
    pointwise [k0_pay44, k0_pay45, k0_pay46, k0_pay47]
    try rfl
  · intro μ h e
    unfold St.diag
    pointwise [k0_pay56, k0_pay49]
    rw [hm μ h, h]
    refine congrArg₂ (· + ·) rfl ?_
    refine Finset.sum_congr rfl fun j _ => ?_
    refine Ideal.mul_congr ?_ rfl
    pointwise [k0_pay50, k0_pay51, k0_pay52, k0_pay53, k0_pay54]
    simp only [hm μ h]
    pointwise [k0_pay44, k0_pay45, k0_pay46, k0_pay47]
    generalize k0_pay43 kb q = T
    generalize mx _ μ = M
    split
    · rfl
    · split
      · refine congrArg Ideal.exp2 (congrArg (· - _) (congrArg T (congrArg (ix2 r) (Fin.ext ?_))))
        show 128 + (j.val - 128) = j.val
        omega
      · split
        · refine congrArg Ideal.exp2 (congrArg (· - _) (congrArg T (congrArg (ix2 r) (Fin.ext ?_))))
          show 256 + (j.val - 128 - 128) = j.val
          omega
        · refine congrArg Ideal.exp2 (congrArg (· - _) (congrArg T (congrArg (ix2 r) (Fin.ext ?_))))
          show 384 + (j.val - 128 - 128 - 128) = j.val
          omega

end Cert.KernelIdeal.Att
-- ==== Proof.Rows.lean ====
/-
  The row invariant followed through all of a query block's key blocks: what the queries, the starting state and a
  carried block hold at an index, and the sums a row has gathered after the diagonal block.
-/
module

public import proofs.«01_k».proof.Proof.Online

@[expose] public section
noncomputable section
namespace Cert.KernelIdeal.Att
open Cert.KernelIdeal Cert.KernelIdeal.Gen Idealize.ShloMosaic
set_option maxRecDepth 16384

/-- The scale of the queries at exact values. -/
def qsc : ℝ := (8 * Real.log 2)⁻¹

/-- An entry of a block of rows. -/
theorem blk_apply (x : Vec Ideal S8192x128 .bf16) (n : ℕ) (j : Fin 512) (e : Fin 128) :
    blk x n (ix2 j e) = x (ix2 (⟨(512 * n + j.val) % 8192, Nat.mod_lt _ (by decide)⟩ : Fin 8192) e) := by
  exact congrArg x (ix2_eq_valueIdx _ _).symm

/-- The query row `r` of the two stacked halves: the head's own 64 lanes, scaled, and nothing in the others. -/
theorem qs_apply (x0 : Vec Ideal S512x128 .f32) (r : Fin 1024) (k : Fin 128) :
    qs x0 (ix2 r k) = if r.val / 512 = k.val / 64 then x0 (ix2 (⟨r.val % 512, Nat.mod_lt _ (by decide)⟩ : Fin 512) k) * (qsc : EReal) else 0 := by
  have hk : ∀ p : Bool, Scalar.select (BitVec.ofBool p) (x0 (ix2 (⟨r.val % 512, Nat.mod_lt _ (by decide)⟩ : Fin 512) k) * (qsc : EReal)) (0 : EReal)
      = if p then x0 (ix2 (⟨r.val % 512, Nat.mod_lt _ (by decide)⟩ : Fin 512) k) * (qsc : EReal) else 0 := by
    intro p; cases p <;> rfl
  have hn : Named.named (F := Ideal) (φ := .f32) κ "qscale" 1043900987#32 = (qsc : EReal) := IdealRules.named_const.ideal_named_scalar _ _ _ _ rfl
  have hs : ∀ n : ℕ, n < 1024 → (BitVec.ofNat 32 n).toInt = n := by
    intro n hn
    rw [BitVec.toInt_eq_toNat_of_lt (by rw [BitVec.toNat_ofNat]; omega), BitVec.toNat_ofNat]; omega
  have hlt : IntOp.cmpi .slt (BitVec.ofNat 32 k.val) 64#32 = BitVec.ofBool (decide (k.val < 64)) := by
    show BitVec.ofBool ((BitVec.ofNat 32 k.val).slt (BitVec.ofNat 32 64)) = _
    rw [BitVec.slt, hs k.val (by omega), hs 64 (by omega)]; norm_cast
  have hge : IntOp.cmpi .sge (BitVec.ofNat 32 k.val) 64#32 = BitVec.ofBool (decide (64 ≤ k.val)) := by
    show BitVec.ofBool ((BitVec.ofNat 32 64).sle (BitVec.ofNat 32 k.val)) = _
    rw [BitVec.sle, hs k.val (by omega), hs 64 (by omega)]; norm_cast
  unfold qs
  simp only [← ix2_eq_valueIdx]
  by_cases h : r.val < 512
  · have hr : (⟨r.val, h⟩ : Fin 512) = ⟨r.val % 512, Nat.mod_lt _ (by decide)⟩ := Fin.ext (Nat.mod_eq_of_lt h).symm
    refine (dif_pos h).trans ?_
    show k0_pay33 x0 (ix2 ⟨r.val, h⟩ k) = _
    rw [hr]
    pointwise [k0_pay33, k0_pay32]
    rw [hlt, hn, hk]
    exact if_congr (by rw [decide_eq_true_iff]; omega) rfl rfl
  · have hr : (⟨r.val - 512, by omega⟩ : Fin 512) = ⟨r.val % 512, Nat.mod_lt _ (by decide)⟩ := Fin.ext (by show r.val - 512 = r.val % 512; omega)
    refine (dif_neg h).trans ?_
    show k0_pay34 x0 (ix2 ⟨r.val - 512, _⟩ k) = _
    rw [hr]
    pointwise [k0_pay34, k0_pay32]
    rw [hge, hn, hk]
    exact if_congr (by rw [decide_eq_true_iff]; omega) rfl rfl

/-- Before the first block: the maximum is −∞ and both sums are nothing. -/
theorem init_inv (r : Fin 1024) : RowInv init r ⊥ (fun _ => 0) (fun _ => 0) := by
  refine ⟨bot_ne_top, fun c => ?_, fun c => ?_, fun e => ?_, fun _ _ => rfl, fun _ _ => rfl⟩
  · unfold init
    pointwise [k0_pay35]
    exact IdealRules.named_const.ideal_named_scalar _ _ _ _ rfl
  · unfold init
    rw [mul_zero]
    pointwise [k0_pay36]
    rfl
  · unfold init
    rw [mul_zero]
    pointwise [k0_pay37, k0_pay38]
    rfl

/-- The lane sums after `k` blocks. -/
def Ls (f : ℕ → EReal) (k : ℕ) (c : Fin 128) : ℝ :=
  ∑ i ∈ Finset.range k, (((wt (f (512 * i + (0 + c.val))) + wt (f (512 * i + (128 + c.val)))) + wt (f (512 * i + (256 + c.val)))) + wt (f (512 * i + (384 + c.val))))
/-- The weighted values after `k` blocks. -/
def As (f : ℕ → EReal) (v : ℕ → Fin 128 → ℝ) (k : ℕ) (e : Fin 128) : ℝ :=
  ∑ i ∈ Finset.range k, ∑ j : Fin 512, wt (f (512 * i + j.val)) * v (512 * i + j.val) e

/-- The lane sums after one more block. -/
theorem Ls_succ (f : ℕ → EReal) (k : ℕ) (c : Fin 128) : Ls f (k + 1) c = Ls f k c
    + (((wt (f (512 * k + (0 + c.val))) + wt (f (512 * k + (128 + c.val)))) + wt (f (512 * k + (256 + c.val)))) + wt (f (512 * k + (384 + c.val)))) :=
  Finset.sum_range_succ _ _
/-- The weighted sums after one more block. -/
theorem As_succ (f : ℕ → EReal) (v : ℕ → Fin 128 → ℝ) (k : ℕ) (e : Fin 128) :
    As f v (k + 1) e = As f v k e + ∑ j : Fin 512, wt (f (512 * k + j.val)) * v (512 * k + j.val) e :=
  Finset.sum_range_succ _ _

/-- The block sums are sums over the keys. -/
theorem As_eq (f : ℕ → EReal) (v : ℕ → Fin 128 → ℝ) (k : ℕ) (e : Fin 128) : As f v k e = ∑ j ∈ Finset.range (512 * k), wt (f j) * v j e := by
  unfold As
  induction k with
  | zero => rfl
  | succ k ih => rw [Finset.sum_range_succ, ih, Nat.mul_succ, Finset.sum_range_add, Finset.sum_range (n := 512)]

/-- The lane sums, added over the lanes, are the sum over the keys. -/
theorem Ls_eq (f : ℕ → EReal) (k : ℕ) : ∑ c : Fin 128, Ls f k c = ∑ j ∈ Finset.range (512 * k), wt (f j) := by
  induction k with
  | zero => exact Finset.sum_eq_zero fun c _ => rfl
  | succ k ih =>
    rw [Finset.sum_congr rfl fun c _ => Ls_succ f k c, Finset.sum_add_distrib, ih, Nat.mul_succ, Finset.sum_range_add]
    congr 1
    rw [show (512 : ℕ) = 128 + 128 + 128 + 128 from rfl, Finset.sum_range_add, Finset.sum_range_add, Finset.sum_range_add]
    simp only [Finset.sum_range (n := 128), zero_add, Finset.sum_add_distrib]

/-- After `k` full blocks and the diagonal one, the row's state holds the sums over all keys not after the query. -/
theorem row_inv (q : Vec Ideal S1024x128 .bf16) (K V : Vec Ideal S8192x128 .bf16) (n : ℕ) (hn : n < 16) (r : Fin 1024)
    (σ : ℕ → ℝ) (v : ℕ → Fin 128 → ℝ)
    (hσ : ∀ j : Fin 8192, ∑ x : Fin 128, q (ix2 r x) * K (ix2 j x) = (σ j.val : EReal)) (hv : ∀ (j : Fin 8192) e, V (ix2 j e) = (v j.val e : EReal)) :
    ∃ μ : EReal, μ ≠ ⊥ ∧ RowInv ((iter q K V init n).diag q (blk K n) (blk V n)) r μ
      (Ls (fun j => if j ≤ 512 * n + r.val % 512 then (σ j : EReal) else ⊥) (n + 1))
      (As (fun j => if j ≤ 512 * n + r.val % 512 then (σ j : EReal) else ⊥) v (n + 1)) := by
  have hb : ∀ i : ℕ, i < 16 → ∀ j : Fin 512, ∑ x : Fin 128, q (ix2 r x) * blk K i (ix2 j x) = (σ (512 * i + j.val) : EReal) := by
    intro i hi j
    simp only [blk_apply]
    rw [hσ]
    show ((σ ((512 * i + j.val) % 8192) : ℝ) : EReal) = _
    rw [Nat.mod_eq_of_lt (by omega)]
  have hvb : ∀ i : ℕ, i < 16 → ∀ (j : Fin 512) (e : Fin 128), blk V i (ix2 j e) = (v (512 * i + j.val) e : EReal) := by
    intro i hi j e
    rw [blk_apply, hv]
    show ((v ((512 * i + j.val) % 8192) e : ℝ) : EReal) = _
    rw [Nat.mod_eq_of_lt (by omega)]
  have hit : ∀ k : ℕ, k ≤ n → ∃ μ : EReal, RowInv (iter q K V init k) r μ
      (Ls (fun j => if j ≤ 512 * n + r.val % 512 then (σ j : EReal) else ⊥) k)
      (As (fun j => if j ≤ 512 * n + r.val % 512 then (σ j : EReal) else ⊥) v k) := by
    intro k
    induction k with
    | zero => intro _; exact ⟨⊥, init_inv r⟩
    | succ k ih =>
      intro hk
      obtain ⟨μ, hi⟩ := ih (by omega)
      have ht : ∀ j : Fin 512, ∑ x : Fin 128, q (ix2 r x) * blk K k (ix2 j x)
          = if 512 * k + j.val ≤ 512 * n + r.val % 512 then (σ (512 * k + j.val) : EReal) else ⊥ := by
        intro j; rw [hb k (by omega), if_pos (by omega)]
      have hu := step_upd q (blk K k) (blk V k) (iter q K V init k) r
      simp only [ht] at hu
      have := hu.inv hi (fun j => by split <;> simp) (by rw [if_pos (by show 512 * k + 0 ≤ _; omega)]; simp) (fun j e => v (512 * k + j.val) e) (hvb k (by omega))
      rw [funext (Ls_succ _ k), funext (As_succ _ v k)]
      exact ⟨_, this⟩
  obtain ⟨μ, hi⟩ := hit n le_rfl
  have ht : ∀ j : Fin 512, (if j.val ≤ r.val % 512 then ∑ x : Fin 128, q (ix2 r x) * blk K n (ix2 j x) else ⊥)
      = if 512 * n + j.val ≤ 512 * n + r.val % 512 then (σ (512 * n + j.val) : EReal) else ⊥ := by
    intro j; rw [hb n hn]; exact if_congr (by omega) rfl rfl
  have hu := diag_upd q (blk K n) (blk V n) (iter q K V init n) r
  simp only [ht] at hu
  have h0 : (if 512 * n + (0 : Fin 512).val ≤ 512 * n + r.val % 512 then (σ (512 * n + (0 : Fin 512).val) : EReal) else ⊥) ≠ ⊥ := by
    rw [if_pos (by show 512 * n + 0 ≤ _; omega)]; simp
  have := hu.inv hi (fun j => by split <;> simp) h0 (fun j e => v (512 * n + j.val) e) (hvb n hn)
  rw [funext (Ls_succ _ n), funext (As_succ _ v n)]
  exact ⟨_, mx_ne_bot (t := fun j : Fin 512 => if 512 * n + j.val ≤ 512 * n + r.val % 512 then (σ (512 * n + j.val) : EReal) else ⊥) (μ := μ) h0, this⟩

end Cert.KernelIdeal.Att
-- ==== Proof.Arr.lean ====
/-
  The kernel's result array, point by point: each grid point writes its own 512×128 block (`Att.pt`) of the queries'
  block of its batch, head and row block, over the keys and values of its batch and head.
-/
module

public import proofs.«01_k».proof.Proof.Steps
public import Idealize.ShloMosaic.Lib.Pipeline.Value

@[expose] public section
noncomputable section
namespace Cert.KernelIdeal.Att
open Cert.KernelIdeal Cert.KernelIdeal.Gen Idealize.ShloMosaic Idealize.ShloMosaic.TcCoe Idealize.SL.Sem
open Idealize.ShloMosaic.Pipeline (Dat)

/-- Entry (row, column) of the projected array, indices by natural numbers (in range wherever used). -/
def at' (X : Vec Ideal S16384x7168 .f32) (r c : ℕ) : EReal :=
  X (ValueIdx.ix2 (⟨r % 16384, Nat.mod_lt _ (by decide)⟩ : Fin 16384) (⟨c % 7168, Nat.mod_lt _ (by decide)⟩ : Fin 7168))

/-- The queries' block of row block `n` in batch and head `u` (`u = 8 b + h`). -/
def qB (X : Vec Ideal S16384x7168 .f32) (u n : ℕ) : Vec Ideal S512x128 .f32 :=
  fun j => at' X (8192 * (u / 8) + 512 * n + (j 0).val) (4096 + 128 * (u % 8) + (j 1).val)

/-- The keys of batch and head `u`. -/
def kB (X : Vec Ideal S16384x7168 .f32) (u : ℕ) : Vec Ideal S8192x128 .f32 :=
  fun j => at' X (8192 * (u / 8) + (j 0).val) (5120 + 128 * (u % 8) + (j 1).val)

/-- The values of batch and head `u`. -/
def vB (X : Vec Ideal S16384x7168 .f32) (u : ℕ) : Vec Ideal S8192x128 .f32 :=
  fun j => at' X (8192 * (u / 8) + (j 0).val) (6144 + 128 * (u % 8) + (j 1).val)

variable (m : (ℓ : Loc nD τ sig) → Buf (Elt Ideal) ℓ)

/-- The block of window 0 at a point. -/
theorem idx0 : ∀ t : Fin cfg0.N, win0_0.index t 0 = 16 * (t.val / 128) + t.val % 16 ∧ win0_0.index t 1 = 32 + t.val / 16 % 8 :=
  (by decide +kernel : ∀ t : Fin grid0.N, win0_0.index t 0 = 16 * (t.val / 128) + t.val % 16 ∧ win0_0.index t 1 = 32 + t.val / 16 % 8)
/-- The block of window 1 at a point. -/
theorem idx1 : ∀ t : Fin cfg0.N, win0_1.index t 0 = t.val / 128 ∧ win0_1.index t 1 = 40 + t.val / 16 % 8 :=
  (by decide +kernel : ∀ t : Fin grid0.N, win0_1.index t 0 = t.val / 128 ∧ win0_1.index t 1 = 40 + t.val / 16 % 8)
/-- The block of window 2 at a point. -/
theorem idx2 : ∀ t : Fin cfg0.N, win0_2.index t 0 = t.val / 128 ∧ win0_2.index t 1 = 48 + t.val / 16 % 8 :=
  (by decide +kernel : ∀ t : Fin grid0.N, win0_2.index t 0 = t.val / 128 ∧ win0_2.index t 1 = 48 + t.val / 16 % 8)
/-- The block of window 3 at a point. -/
theorem idx3 : ∀ t : Fin cfg0.N, win0_3.index t 0 = 0 ∧ win0_3.index t 1 = 0 :=
  (by decide +kernel : ∀ t : Fin grid0.N, win0_3.index t 0 = 0 ∧ win0_3.index t 1 = 0)
/-- The block of window 4 at a point. -/
theorem idx4 : ∀ t : Fin cfg0.N, win0_4.index t 0 = 16 * (t.val / 128) + t.val % 16 ∧ win0_4.index t 1 = t.val / 16 % 8 :=
  (by decide +kernel : ∀ t : Fin grid0.N, win0_4.index t 0 = 16 * (t.val / 128) + t.val % 16 ∧ win0_4.index t 1 = t.val / 16 % 8)
/-- The third coordinate of a point. -/
theorem crd2 : ∀ t : Fin cfg0.N, (grid0.coords t 2).val = t.val % 16 :=
  (by decide +kernel : ∀ t : Fin grid0.N, (grid0.coords t 2).val = t.val % 16)

/-- What window 0 reads at point `t`. -/
theorem iblk0 (c : Dev nD) (t : Fin cfg0.N) : (iblk m c 0 t : Vec Ideal S512x128 .f32) = qB (m ((c : Thread nD τ).loc main_arg0)) (t.val / 16) (t.val % 16) := by
  have hi := idx0 t
  have hN : t.val < 256 := lt_of_lt_of_eq t.isLt (show cfg0.N = 256 from N_0)
  funext j
  have hj0 : (j 0).val < 512 := (j 0).isLt
  have hj1 : (j 1).val < 128 := (j 1).isLt
  unfold iblk qB at'
  rw [View.read_apply]
  show V m c main_arg0 _ = m (c.tc.loc main_arg0) _
  unfold V
  congr 1
  funext a
  apply Fin.ext
  match a with
  | ⟨0, _⟩ => show win0_0.index t 0 * 512 + 1 * (j 0).val = (8192 * (t.val / 16 / 8) + 512 * (t.val % 16) + (j 0).val) % 16384; rw [hi.1]; omega
  | ⟨1, _⟩ => show win0_0.index t 1 * 128 + 1 * (j 1).val = (4096 + 128 * (t.val / 16 % 8) + (j 1).val) % 7168; rw [hi.2]; omega

/-- What window 1 reads at point `t`. -/
theorem iblk1 (c : Dev nD) (t : Fin cfg0.N) : (iblk m c 1 t : Vec Ideal S8192x128 .f32) = kB (m ((c : Thread nD τ).loc main_arg0)) (t.val / 16) := by
  have hi := idx1 t
  have hN : t.val < 256 := lt_of_lt_of_eq t.isLt (show cfg0.N = 256 from N_0)
  funext j
  have hj0 : (j 0).val < 8192 := (j 0).isLt
  have hj1 : (j 1).val < 128 := (j 1).isLt
  unfold iblk kB at'
  rw [View.read_apply]
  show V m c main_arg0 _ = m (c.tc.loc main_arg0) _
  unfold V
  congr 1
  funext a
  apply Fin.ext
  match a with
  | ⟨0, _⟩ => show win0_1.index t 0 * 8192 + 1 * (j 0).val = (8192 * (t.val / 16 / 8) + (j 0).val) % 16384; rw [hi.1]; omega
  | ⟨1, _⟩ => show win0_1.index t 1 * 128 + 1 * (j 1).val = (5120 + 128 * (t.val / 16 % 8) + (j 1).val) % 7168; rw [hi.2]; omega

/-- What window 2 reads at point `t`. -/
theorem iblk2 (c : Dev nD) (t : Fin cfg0.N) : (iblk m c 2 t : Vec Ideal S8192x128 .f32) = vB (m ((c : Thread nD τ).loc main_arg0)) (t.val / 16) := by
  have hi := idx2 t
  have hN : t.val < 256 := lt_of_lt_of_eq t.isLt (show cfg0.N = 256 from N_0)
  funext j
  have hj0 : (j 0).val < 8192 := (j 0).isLt
  have hj1 : (j 1).val < 128 := (j 1).isLt
  unfold iblk vB at'
  rw [View.read_apply]
  show V m c main_arg0 _ = m (c.tc.loc main_arg0) _
  unfold V
  congr 1
  funext a
  apply Fin.ext
  match a with
  | ⟨0, _⟩ => show win0_2.index t 0 * 8192 + 1 * (j 0).val = (8192 * (t.val / 16 / 8) + (j 0).val) % 16384; rw [hi.1]; omega
  | ⟨1, _⟩ => show win0_2.index t 1 * 128 + 1 * (j 1).val = (6144 + 128 * (t.val / 16 % 8) + (j 1).val) % 7168; rw [hi.2]; omega

/-- What window 3 reads at every point: the four lambda rows. -/
theorem iblk3 (c : Dev nD) (t : Fin cfg0.N) : (iblk m c 3 t : Vec Ideal S4x64 .f32) = m ((c : Thread nD τ).loc main_arg1) := by
  have hi := idx3 t
  funext j
  unfold iblk
  rw [View.read_apply]
  show V m c main_arg1 _ = m (c.tc.loc main_arg1) _
  unfold V
  congr 1
  funext a
  apply Fin.ext
  match a with
  | ⟨0, _⟩ => show win0_3.index t 0 * 4 + 1 * (j 0).val = (j 0).val; rw [hi.1]; omega
  | ⟨1, _⟩ => show win0_3.index t 1 * 64 + 1 * (j 1).val = (j 1).val; rw [hi.2]; omega

/-- Narrowing the keys is the identity over the extended reals. -/
theorem pay30_eq (x : Vec Ideal S8192x128 .f32) : (k0_pay30 x : Vec Ideal S8192x128 .bf16) = x := by
  unfold k0_pay30; exact shapeCast_self _ _
/-- Narrowing the values is the identity over the extended reals. -/
theorem pay31_eq (x : Vec Ideal S8192x128 .f32) : (k0_pay31 x : Vec Ideal S8192x128 .bf16) = x := by
  unfold k0_pay31; exact shapeCast_self _ _

/-- The carried keys and values after every point are those of the point's batch and head. -/
theorem carried (c : Dev nD) : ∀ (n : ℕ) (h : n < cfg0.N),
    (outsAt0 m c n h).2.1 = kB (m ((c : Thread nD τ).loc main_arg0)) (n / 16) ∧ (outsAt0 m c n h).2.2 = vB (m ((c : Thread nD τ).loc main_arg0)) (n / 16) := by
  have hA : ∀ t : Fin cfg0.N, t.val % 16 = 0 → (outsAt0 m c t.val t.isLt).2.1 = kB (m ((c : Thread nD τ).loc main_arg0)) (t.val / 16)
      ∧ (outsAt0 m c t.val t.isLt).2.2 = vB (m ((c : Thread nD τ).loc main_arg0)) (t.val / 16) := fun t h0 => by
    rw [outsAt0_A m c t h0]
    dsimp only
    rw [sout_A_1, sout_A_2, pay30_eq, pay31_eq, iblk1, iblk2]
    exact ⟨rfl, rfl⟩
  have hB : ∀ t : Fin cfg0.N, ¬t.val % 16 = 0 → (outsAt0 m c t.val t.isLt).2 = (outsAt0 m c (t.val - 1) (Nat.lt_of_le_of_lt (Nat.sub_le _ _) t.isLt)).2 := fun t h0 => by
    rw [outsAt0_B m c t h0]
    rfl
  intro n
  induction n with
  | zero => exact fun h => hA ⟨0, h⟩ rfl
  | succ n ih =>
    intro h
    by_cases h0 : (n + 1) % 16 = 0
    · exact hA ⟨n + 1, h⟩ h0
    · have e := hB ⟨n + 1, h⟩ h0
      have hd : (n + 1) / 16 = n / 16 := by omega
      rw [hd]
      have ih' := ih (Nat.lt_of_succ_lt h)
      exact ⟨(congrArg Prod.fst e).trans ih'.1, (congrArg Prod.snd e).trans ih'.2⟩

/-- The result array: index (row, column) belongs to batch and head `u`, row block `n`. -/
def G (X : Vec Ideal S16384x7168 .f32) (Λ : Vec Ideal S4x64 .f32) : Vec Ideal S16384x1024 .f32 := fun i =>
  pt (qB X (8 * ((i 0).val / 8192) + (i 1).val / 128) ((i 0).val % 8192 / 512)) (kB X (8 * ((i 0).val / 8192) + (i 1).val / 128))
    (vB X (8 * ((i 0).val / 8192) + (i 1).val / 128)) Λ ((i 0).val % 8192 / 512)
    (ValueIdx.ix2 (⟨(i 0).val % 512, Nat.mod_lt _ (by decide)⟩ : Fin 512) (⟨(i 1).val % 128, Nat.mod_lt _ (by decide)⟩ : Fin 128))

/-- `G` at an index given by its batch and head, row block, row and lane. -/
theorem G_at (X : Vec Ideal S16384x7168 .f32) (Λ : Vec Ideal S4x64 .f32) (i : S16384x1024.Idx) (u n : ℕ) (hn : n < 16) (j : S512x128.Idx)
    (h0 : (i 0).val = 8192 * (u / 8) + 512 * n + (j 0).val) (h1 : (i 1).val = 128 * (u % 8) + (j 1).val) :
    G X Λ i = pt (qB X u n) (kB X u) (vB X u) Λ n j := by
  have hj0 : (j 0).val < 512 := (j 0).isLt
  have hj1 : (j 1).val < 128 := (j 1).isLt
  unfold G
  have e1 : 8 * ((i 0).val / 8192) + (i 1).val / 128 = u := by omega
  have e2 : (i 0).val % 8192 / 512 = n := by omega
  rw [e1, e2]
  congr 1
  funext a
  match a with
  | ⟨0, _⟩ => exact Fin.ext (by show (i 0).val % 512 = (j 0).val; omega)
  | ⟨1, _⟩ => exact Fin.ext (by show (i 1).val % 128 = (j 1).val; omega)

/-- What point `t` leaves in the output's block. -/
theorem out_pt (c : Dev nD) (t : Fin cfg0.N) :
    (outsAt0 m c t.val t.isLt).1 = pt (qB (m ((c : Thread nD τ).loc main_arg0)) (t.val / 16) (t.val % 16)) (kB (m ((c : Thread nD τ).loc main_arg0)) (t.val / 16))
      (vB (m ((c : Thread nD τ).loc main_arg0)) (t.val / 16)) (m ((c : Thread nD τ).loc main_arg1)) (t.val % 16) := by
  by_cases h0 : t.val % 16 = 0
  · rw [outsAt0_A m c t h0]
    dsimp only
    rw [out_A]
    rw [iblk0, iblk1, iblk2, iblk3, crd2, pay30_eq, pay31_eq]
  · rw [outsAt0_B m c t h0]
    dsimp only
    rw [out_B]
    have hc := carried m c (t.val - 1) (Nat.lt_of_le_of_lt (Nat.sub_le _ _) t.isLt)
    have hd : (t.val - 1) / 16 = t.val / 16 := by omega
    rw [hd] at hc
    rw [iblk0, iblk3, crd2, hc.1, hc.2]

/-- Each write-back writes the block of `G` its point reads. -/
theorem flushed_eq (c : Dev nD) (t : Fin cfg0.N) (hf : (cfg0.win 4).flush t = true) :
    (dats m 0 c).flushed 4 t = ((cfg0.win 4).blk t).view.read (Elt Ideal) (G (m ((c : Thread nD τ).loc main_arg0)) (m ((c : Thread nD τ).loc main_arg1))) := by
  have hi := idx4 t
  have hN : t.val < 256 := lt_of_lt_of_eq t.isLt (show cfg0.N = 256 from N_0)
  rw [show (dats m 0 c).flushed 4 t = (cfg0.win 4).cut (grid0.coords t) (outsAt0 m c t.val t.isLt).1 from Value.flushed4 m c t, out_pt]
  funext j
  have hj0 : (j 0).val < 512 := (j 0).isLt
  have hj1 : (j 1).val < 128 := (j 1).isLt
  rw [View.read_apply]
  refine (G_at _ _ _ _ _ (Nat.mod_lt _ (by decide)) _ ?_ ?_).symm
  · show win0_4.index t 0 * 512 + 1 * (j 0).val = 8192 * (t.val / 16 / 8) + 512 * (t.val % 16) + (j 0).val
    rw [hi.1]; omega
  · show win0_4.index t 1 * 128 + 1 * (j 1).val = 128 * (t.val / 16 % 8) + (j 1).val
    rw [hi.2]; omega

/-- The result array after the run. -/
theorem final (c : Dev nD) : (dats m 0 c).arrAt 4 cfg0.N = G (m ((c : Thread nD τ).loc main_arg0)) (m ((c : Thread nD τ).loc main_arg1)) :=
  (dats m 0 c).arrAt_eq_of_cover 4 _ (flushed_eq m c) fun i => by
    have h0 : ((i : S16384x1024.Idx) 0).val < 16384 := (i 0).isLt
    have h1 : ((i : S16384x1024.Idx) 1).val < 1024 := (i 1).isLt
    have hN : cfg0.N = 256 := N_0
    refine ⟨⟨128 * ((i 0).val / 8192) + 16 * ((i 1).val / 128) + (i 0).val % 8192 / 512, by rw [hN]; omega⟩, flush0_4 _, ?_⟩
    generalize ht : (⟨128 * ((i 0).val / 8192) + 16 * ((i 1).val / 128) + (i 0).val % 8192 / 512, _⟩ : Fin cfg0.N) = t
    have hv : t.val = 128 * ((i 0).val / 8192) + 16 * ((i 1).val / 128) + (i 0).val % 8192 / 512 := by rw [← ht]
    have hi := idx4 t
    show i ∈ ((View.whole main_v0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [hi.1]; omega
    | ⟨1, _⟩ => show win0_4.index t 1 * 128 ≤ (i 1 : Nat) ∧ (i 1 : Nat) < win0_4.index t 1 * 128 + 128
                rw [hi.2]; omega

end Cert.KernelIdeal.Att
end
-- ==== Proof.Out.lean ====
/-
  The kernel's result at an index, as a formula over the real numbers: the first component's attention less `lam` times
  the second's.
-/
module

public import proofs.«01_k».proof.Proof.Rows
public import proofs.«01_k».proof.Proof.Arr

@[expose] public section
noncomputable section
namespace Cert.KernelIdeal.Att
open Cert.KernelIdeal Cert.KernelIdeal.Gen Idealize.ShloMosaic
set_option maxRecDepth 16384

/-- Entry (row, column) of the projected array as a real number. -/
def xr (X : Vec Ideal S16384x7168 .f32) (r c : ℕ) : ℝ := (at' X r c).toReal

/-- Every entry of an array is a real number. -/
def Fin' {S : Shape} (X : FVec Ideal S .f32) : Prop := ∀ i, ∃ y : ℝ, X i = (y : EReal)

/-- An entry of a finite array, by row and column, is its real number. -/
theorem at_xr {X : Vec Ideal S16384x7168 .f32} (hX : Fin' X) (r c : ℕ) : at' X r c = (xr X r c : EReal) := by
  obtain ⟨y, hy⟩ := hX (ValueIdx.ix2 (⟨r % 16384, Nat.mod_lt _ (by decide)⟩ : Fin 16384) (⟨c % 7168, Nat.mod_lt _ (by decide)⟩ : Fin 7168))
  have h : at' X r c = (y : EReal) := hy
  rw [xr, h, EReal.toReal_coe]

/-- The product of query `p` and key `j`, batch `b`, head `h`, component `i` of the head's two. -/
def dt (X : Vec Ideal S16384x7168 .f32) (b h i p j : ℕ) : ℝ :=
  ∑ k : Fin 64, xr X (8192 * b + p) (4096 + 128 * h + (64 * i + k.val)) * xr X (8192 * b + j) (5120 + 128 * h + (64 * i + k.val))

/-- Its weight in the causal softmax, before the division. -/
def ew (X : Vec Ideal S16384x7168 .f32) (b h i p j : ℕ) : ℝ := if j ≤ p then Real.exp (dt X b h i p j / 8) else 0

/-- Entry `e` of component `i`'s attention of query `p`. -/
def av (X : Vec Ideal S16384x7168 .f32) (b h i p e : ℕ) : ℝ :=
  (∑ j ∈ Finset.range 8192, ew X b h i p j * xr X (8192 * b + j) (6144 + 128 * h + e)) / ∑ j ∈ Finset.range 8192, ew X b h i p j

/-- The weight of the second component. -/
def lam (Λ : Vec Ideal S4x64 .f32) : EReal :=
  Ideal.exp (∑ k : Fin 64, Λ (ix2 0 k) * Λ (ix2 1 k)) - Ideal.exp (∑ k : Fin 64, Λ (ix2 2 k) * Λ (ix2 3 k)) + Ideal.ofBits .f32 0x3E4CCCCD#32

/-- The sum of the weights over all keys is positive. -/
theorem ew_pos {X : Vec Ideal S16384x7168 .f32} (b h i p : ℕ) : 0 < ∑ j ∈ Finset.range 8192, ew X b h i p j := by
  refine Finset.sum_pos' (fun j _ => ?_) ⟨0, Finset.mem_range.2 (by decide), ?_⟩
  · unfold ew; split
    · exact (Real.exp_pos _).le
    · exact le_rfl
  · unfold ew; rw [if_pos (Nat.zero_le _)]; exact Real.exp_pos _

/-- A power of two of the scaled product is the exponential of an eighth of it. -/
theorem wt_qsc (x : ℝ) : wt ((x * qsc : ℝ) : EReal) = Real.exp (x / 8) := by
  have h2 : Real.log 2 ≠ 0 := (Real.log_pos (by norm_num)).ne'
  rw [wt_coe, Real.rpow_def_of_pos two_pos]
  congr 1
  unfold qsc
  field_simp

/-- The score of a stacked query row is the product of its own component, scaled. -/
theorem score {X : Vec Ideal S16384x7168 .f32} (hX : Fin' X) (u n : ℕ) (r : Fin 1024) (j : Fin 8192) :
    ∑ x : Fin 128, qs (qB X u n) (ix2 r x) * kB X u (ix2 j x) = ((dt X (u / 8) (u % 8) (r.val / 512) (512 * n + r.val % 512) j.val * qsc : ℝ) : EReal) := by
  have e : ∀ x : Fin 128, qs (qB X u n) (ix2 r x) * kB X u (ix2 j x)
      = ((if r.val / 512 = x.val / 64 then xr X (8192 * (u / 8) + 512 * n + r.val % 512) (4096 + 128 * (u % 8) + x.val) * xr X (8192 * (u / 8) + j.val) (5120 + 128 * (u % 8) + x.val) * qsc else 0 : ℝ) : EReal) := by
    intro x
    rw [qs_apply]
    have hq : qB X u n (ix2 (⟨r.val % 512, Nat.mod_lt _ (by decide)⟩ : Fin 512) x) = (xr X (8192 * (u / 8) + 512 * n + r.val % 512) (4096 + 128 * (u % 8) + x.val) : EReal) := at_xr hX _ _
    have hk : kB X u (ix2 j x) = (xr X (8192 * (u / 8) + j.val) (5120 + 128 * (u % 8) + x.val) : EReal) := at_xr hX _ _
    rw [hq, hk]
    split
    · rw [← EReal.coe_mul, ← EReal.coe_mul]; congr 1; ring
    · rw [zero_mul]; rfl
  rw [Finset.sum_congr rfl fun x _ => e x, ← coe_sum]
  congr 1
  rw [Fin.sum_univ_two_halves 64 64 rfl]
  unfold dt
  rw [Finset.sum_mul]
  have hr : r.val / 512 = 0 ∨ r.val / 512 = 1 := by omega
  rcases hr with hr | hr
  · rw [hr, Finset.sum_congr rfl fun k _ => if_pos (Nat.div_eq_of_lt k.isLt).symm,
      Finset.sum_eq_zero (s := Finset.univ (α := Fin 64)) fun k _ => if_neg (by show ¬ 0 = (64 + k.val) / 64; omega), add_zero]
    refine Finset.sum_congr rfl fun k _ => ?_
    simp only [Nat.mul_zero, Nat.zero_add, Nat.add_assoc]
  · rw [hr, Finset.sum_eq_zero (s := Finset.univ (α := Fin 64)) fun k _ => if_neg (by show ¬ 1 = k.val / 64; omega),
      Finset.sum_congr rfl fun k _ => if_pos (show 1 = (64 + k.val) / 64 by omega), zero_add]
    refine Finset.sum_congr rfl fun k _ => ?_
    simp only [Nat.mul_one, Nat.add_assoc]

/-- One grid point's block at an index. -/
theorem pt_apply {X : Vec Ideal S16384x7168 .f32} (hX : Fin' X) (Λ : Vec Ideal S4x64 .f32) (u n : ℕ) (hn : n < 16) (p : Fin 512) (e : Fin 128) :
    pt (qB X u n) (kB X u) (vB X u) Λ n (ix2 p e)
      = (av X (u / 8) (u % 8) 0 (512 * n + p.val) e.val : EReal) - lam Λ * (av X (u / 8) (u % 8) 1 (512 * n + p.val) e.val : EReal) := by
  have row : ∀ r : Fin 1024, Ideal.div (((iter (qs (qB X u n)) (kB X u) (vB X u) init n).diag (qs (qB X u n)) (blk (kB X u) n) (blk (vB X u) n)).a (ix2 r e))
      (∑ c : Fin 128, ((iter (qs (qB X u n)) (kB X u) (vB X u) init n).diag (qs (qB X u n)) (blk (kB X u) n) (blk (vB X u) n)).l (ix2 r c))
      = (av X (u / 8) (u % 8) (r.val / 512) (512 * n + r.val % 512) e.val : EReal) := by
    intro r
    obtain ⟨μ, hμ, hi⟩ := row_inv (qs (qB X u n)) (kB X u) (vB X u) n hn r (fun j => dt X (u / 8) (u % 8) (r.val / 512) (512 * n + r.val % 512) j * qsc) (fun j e => xr X (8192 * (u / 8) + j) (6144 + 128 * (u % 8) + e.val))
      (fun j => score hX u n r j) (fun j e => at_xr hX _ _)
    rw [hi.a, Finset.sum_congr rfl fun c _ => hi.l c, ← coe_sum, ← Finset.mul_sum, Ls_eq, As_eq]
    have hw : ∀ j, wt (if j ≤ 512 * n + r.val % 512 then ((dt X (u / 8) (u % 8) (r.val / 512) (512 * n + r.val % 512) j * qsc : ℝ) : EReal) else ⊥)
        = ew X (u / 8) (u % 8) (r.val / 512) (512 * n + r.val % 512) j := by
      intro j
      unfold ew
      split
      · exact wt_qsc _
      · exact wt_bot
    have hsub : ∀ g : ℕ → ℝ, ∑ j ∈ Finset.range (512 * (n + 1)), ew X (u / 8) (u % 8) (r.val / 512) (512 * n + r.val % 512) j * g j
        = ∑ j ∈ Finset.range 8192, ew X (u / 8) (u % 8) (r.val / 512) (512 * n + r.val % 512) j * g j := by
      intro g
      refine Finset.sum_subset (fun j hj => Finset.mem_range.2 (by have := Finset.mem_range.1 hj; omega)) fun j _ hj => ?_
      have hj' : ¬ j ≤ 512 * n + r.val % 512 := fun h => hj (Finset.mem_range.2 (by omega))
      unfold ew
      rw [if_neg hj', zero_mul]
    have h1 := hsub fun _ => 1
    simp only [mul_one] at h1
    simp only [hw]
    rw [h1, hsub]
    have hp := (ew_pos (X := X) (u / 8) (u % 8) (r.val / 512) (512 * n + r.val % 512)).ne'
    have hm := (wt_pos hμ).ne'
    rw [Ideal.div_coe (mul_ne_zero (inv_ne_zero hm) hp), ← EReal.coe_mul]
    congr 1
    unfold av
    field_simp
  unfold pt
  pointwise [k0_pay1, k0_pay58, k0_pay59]
  rw [row, row]
  have e1 : p.val / 512 = 0 := Nat.div_eq_of_lt p.isLt
  have e2 : p.val % 512 = p.val := Nat.mod_eq_of_lt p.isLt
  have e3 : (512 + p.val) / 512 = 1 := by omega
  have e4 : (512 + p.val) % 512 = p.val := by omega
  simp only [e1, e2, e3, e4]
  rfl

/-- The kernel's result at an index. -/
theorem G_apply {X : Vec Ideal S16384x7168 .f32} (hX : Fin' X) (Λ : Vec Ideal S4x64 .f32) (a : Fin 16384) (c : Fin 1024) :
    G X Λ (ix2 a c) = (av X (a.val / 8192) (c.val / 128) 0 (a.val % 8192) (c.val % 128) : EReal) - lam Λ * (av X (a.val / 8192) (c.val / 128) 1 (a.val % 8192) (c.val % 128) : EReal) := by
  have h := G_at X Λ (ix2 a c) (8 * (a.val / 8192) + c.val / 128) (a.val % 8192 / 512) (by omega)
    (ix2 (⟨a.val % 512, Nat.mod_lt _ (by decide)⟩ : Fin 512) (⟨c.val % 128, Nat.mod_lt _ (by decide)⟩ : Fin 128))
    (by show a.val = 8192 * ((8 * (a.val / 8192) + c.val / 128) / 8) + 512 * (a.val % 8192 / 512) + a.val % 512; omega)
    (by show c.val = 128 * ((8 * (a.val / 8192) + c.val / 128) % 8) + c.val % 128; omega)
  rw [h, pt_apply hX Λ _ _ (by omega)]
  have e1 : (8 * (a.val / 8192) + c.val / 128) / 8 = a.val / 8192 := by omega
  have e2 : (8 * (a.val / 8192) + c.val / 128) % 8 = c.val / 128 := by omega
  have e3 : 512 * (a.val % 8192 / 512) + a.val % 512 = a.val % 8192 := by omega
  simp only [e1, e2, e3]

end Cert.KernelIdeal.Att
-- ==== Proof.RefMax.lean ====
/-
  The reference's result at an index, as the same formula over the real numbers.
-/
module

public import proofs.«01_k».proof.Proof.Out
public import proofs.«01_k».proof.Proof.Gen.ReferenceIdeal.Read

@[expose] public section
noncomputable section
namespace Cert.ReferenceIdeal.Att
open Cert.ReferenceIdeal Cert.ReferenceIdeal.Gen Cert.ReferenceIdeal.Read Idealize.ShloMosaic
open Cert.KernelIdeal.Att (xr at' Fin' at_xr dt ew av lam ew_pos coe_sum)
set_option maxRecDepth 16384

/-- An entry by its row and column. -/
theorem at_ix (X : Vec Ideal S16384x7168 .f32) (r c : ℕ) (hr : r < 16384) (hc : c < 7168) : X (ix2 ⟨r, hr⟩ ⟨c, hc⟩) = at' X r c := by
  unfold at'
  rw [ix2_eq_valueIdx]
  exact congrArg X (congrArg₂ ValueIdx.ix2 (Fin.ext (Nat.mod_eq_of_lt hr).symm) (Fin.ext (Nat.mod_eq_of_lt hc).symm))

/-- The queries, by batch, row, head, component and lane. -/
theorem q_at (X : Vec Ideal S16384x7168 .f32) (b : Fin 2) (h : Fin 8) (i : Fin 2) (p : Fin 8192) (k : Fin 64) :
    val_main_v1 (F := Ideal) X (ix5 b p h i k) = at' X (8192 * b.val + p.val) (4096 + 128 * h.val + (64 * i.val + k.val)) := by
  pointwise [val_main_v1, val_main_v0]
  refine (at_ix X _ _ _ _).trans ?_
  congr 1 <;> omega

/-- The keys, likewise. -/
theorem k_at (X : Vec Ideal S16384x7168 .f32) (b : Fin 2) (h : Fin 8) (i : Fin 2) (p : Fin 8192) (k : Fin 64) :
    val_main_v3 (F := Ideal) X (ix5 b p h i k) = at' X (8192 * b.val + p.val) (5120 + 128 * h.val + (64 * i.val + k.val)) := by
  pointwise [val_main_v3, val_main_v2]
  refine (at_ix X _ _ _ _).trans ?_
  congr 1 <;> omega

/-- The word of one eighth. -/
theorem eighth : Ideal.ofBits .f32 0x3E000000#32 = ((1 / 8 : ℝ) : EReal) := by
  simp [Ideal.ofBits, Ideal.ieee]
  rw [← EReal.coe_mul]
  congr 1
  norm_num

/-- The scores of finite inputs. -/
theorem s_at {X : Vec Ideal S16384x7168 .f32} (hX : Fin' X) (b : Fin 2) (h : Fin 8) (i : Fin 2) (p j : Fin 8192) :
    val_main_v24 (F := Ideal) X (ix5 b h i p j) = ((dt X b.val h.val i.val p.val j.val / 8 : ℝ) : EReal) := by
  pointwise [val_main_v24, val_main_v23, val_main_v22, val_main_cst_2]
  have e : ∀ k : Fin 64, val_main_v1 (F := Ideal) X (ix5 b p h i k) * val_main_v3 (F := Ideal) X (ix5 b j h i k)
      = ((xr X (8192 * b.val + p.val) (4096 + 128 * h.val + (64 * i.val + k.val)) * xr X (8192 * b.val + j.val) (5120 + 128 * h.val + (64 * i.val + k.val)) : ℝ) : EReal) := by
    intro k
    rw [q_at, k_at, at_xr hX, at_xr hX, EReal.coe_mul]
  rw [Finset.sum_congr rfl fun k _ => e k, ← coe_sum, eighth, ← EReal.coe_mul]
  congr 1
  unfold dt
  ring

/-- The causally masked scores. -/
theorem t_at {X : Vec Ideal S16384x7168 .f32} (hX : Fin' X) (b : Fin 2) (h : Fin 8) (i : Fin 2) (p j : Fin 8192) :
    val_main_v31 (F := Ideal) X (ix5 b h i p j) = if j.val ≤ p.val then ((dt X b.val h.val i.val p.val j.val / 8 : ℝ) : EReal) else ⊥ := by
  pointwise [val_main_v31, val_main_call0_v2, val_main_call0_v1, val_main_call0_v0, val_main_v30, val_main_v29, val_main_v28, val_main_v27, val_main_v26, val_main_v25, val_main_cst_3]
  rw [s_at hX]
  have hs : ∀ n : ℕ, n < 8192 → (BitVec.ofNat 32 n).toInt = n := by
    intro n hn
    rw [BitVec.toInt_eq_toNat_of_lt (by rw [BitVec.toNat_ofNat]; omega), BitVec.toNat_ofNat]; omega
  have hc : IntOp.cmpi .sle (BitVec.ofNat 32 j.val) (BitVec.ofNat 32 p.val) = BitVec.ofBool (decide (j.val ≤ p.val)) := by
    show BitVec.ofBool ((BitVec.ofNat 32 j.val).sle (BitVec.ofNat 32 p.val)) = _
    rw [BitVec.sle, hs j.val j.isLt, hs p.val p.isLt]
    exact congrArg BitVec.ofBool (decide_eq_decide.2 Nat.cast_le)
  rw [hc]
  unfold Scalar.select
  by_cases hjp : j.val ≤ p.val
  · simp [hjp]
  · simp only [hjp, decide_false, BitVec.ofBool_false, if_false]
    exact Cert.KernelIdeal.Att.negInf

/-- A maximum over finitely many values, from −∞, none of them +∞ and one of them not −∞, is a real number. -/
theorem fold_real {ι : Type} [Fintype ι] (f : EReal → EReal → EReal) [Std.Commutative f] [Std.Associative f] (hf : f = max) (z : EReal) (hz : z = ⊥)
    (g : ι → EReal) (hg : ∀ k, g k ≠ ⊤) (k : ι) (hk : g k ≠ ⊥) : ∃ y : ℝ, Finset.univ.fold f z g = (y : EReal) := by
  subst hf hz
  have htop : Finset.univ.fold max ⊥ g ≠ ⊤ := ne_of_lt ((Finset.fold_max_lt _).2 ⟨bot_lt_top, fun k _ => lt_top_iff_ne_top.2 (hg k)⟩)
  have hbot : Finset.univ.fold max ⊥ g ≠ ⊥ := ne_of_gt ((Finset.lt_fold_max _).2 (Or.inr ⟨k, Finset.mem_univ _, bot_lt_iff_ne_bot.2 hk⟩))
  exact ⟨_, (EReal.coe_toReal htop hbot).symm⟩

/-- The maximum over the keys' axis of such an array is a real number. -/
theorem red_at (y : FVec Ideal S2x8x2x8192x8192 .f32) (b : Fin 2) (h : Fin 8) (i : Fin 2) (p : Fin 8192) (htop : ∀ j, y j ≠ ⊤) (hbot : y (ix5 b h i p 0) ≠ ⊥) :
    ∃ z : ℝ, Host.reduce FloatOps.maximumf y (val_main_cst_4 (F := Ideal)) reducesTo_S2x8x2x8192x8192_S2x8x2x8192_d4 h_S_ (ix4 b h i p) = (z : EReal) := by
  have hr : S2x8x2x8192x8192.Reduces [4] S2x8x2x8192 := by decide
  have e : ∀ k : Fin 8192, y (hr.lift (ix4 b h i p) k) = y (ix5 b h i p k) := fun k =>
    congrArg y (funext fun a => Fin.ext (by match a with | ⟨0, _⟩ => rfl | ⟨1, _⟩ => rfl | ⟨2, _⟩ => rfl | ⟨3, _⟩ => rfl | ⟨4, _⟩ => rfl))
  have hz : val_main_cst_4 (F := Ideal) (Shape.Idx.first h_S_) = ⊥ := (val_main_cst_4_apply _).trans Cert.KernelIdeal.Att.negInf
  rw [Host.reduce_eq_fold_single FloatOps.maximumf y _ _ hr, hz]
  have h1 : ∀ k, (y ∘ hr.lift (ix4 b h i p)) k ≠ ⊤ := fun k => htop _
  have h2 : (y ∘ hr.lift (ix4 b h i p)) (0 : Fin 8192) ≠ ⊥ := fun q => hbot ((e 0).symm.trans q)
  generalize y ∘ hr.lift (ix4 b h i p) = g at h1 h2 ⊢
  exact fold_real _ rfl _ rfl g h1 _ h2

/-- The row maximum of finite inputs, joined with −∞ and spread over the row, is a real number (which one does not matter). -/
theorem m_at {X : Vec Ideal S16384x7168 .f32} (hX : Fin' X) (b : Fin 2) (h : Fin 8) (i : Fin 2) (p : Fin 8192) :
    ∃ y : ℝ, ∀ j, val_main_v36 (F := Ideal) X (ix5 b h i p j) = (y : EReal) := by
  have htop : ∀ j : S2x8x2x8192x8192.Idx, val_main_v31 (F := Ideal) X j ≠ ⊤ := by
    intro j
    obtain ⟨b, h, i, p, k, rfl⟩ : ∃ (b : Fin 2) (h : Fin 8) (i : Fin 2) (p k : Fin 8192), j = ix5 b h i p k := ⟨j 0, j 1, j 2, j 3, j 4, eq_ix5 j⟩
    rw [t_at hX]
    split
    · exact EReal.coe_ne_top _
    · exact bot_ne_top
  have hbot : val_main_v31 (F := Ideal) X (ix5 b h i p 0) ≠ ⊥ := by
    rw [t_at hX, if_pos (show (0 : Fin 8192).val ≤ p.val from Nat.zero_le _)]
    exact EReal.coe_ne_bot _
  obtain ⟨y, hy⟩ := red_at _ b h i p htop hbot
  refine ⟨y, fun j => ?_⟩
  have hi : idx_main_v35 (idx_main_v36 (ix5 b h i p j)) = ix4 b h i p := by
    funext a
    match a with | ⟨0, _⟩ => rfl | ⟨1, _⟩ => rfl | ⟨2, _⟩ => rfl | ⟨3, _⟩ => rfl
  have hv : val_main_v32 (F := Ideal) X (ix4 b h i p) = (y : EReal) := hy
  rw [val_main_v36_apply, val_main_v35_apply, hi, val_main_v34_apply, hv, val_main_v33_apply, val_main_cst_5_apply]
  exact (congrArg (max · (y : EReal)) Cert.KernelIdeal.Att.negInf).trans (max_eq_right bot_le)

end Cert.ReferenceIdeal.Att
-- ==== Proof.RefOut.lean ====
/-
  The reference's result at an index: the two softmaxes, their weighted difference and its product with the values are
  the same formula over the real numbers as the kernel's result.
-/
module

public import proofs.«01_k».proof.Proof.RefMax

@[expose] public section
noncomputable section
namespace Cert.ReferenceIdeal.Att
open Cert.ReferenceIdeal Cert.ReferenceIdeal.Gen Cert.ReferenceIdeal.Read Idealize.ShloMosaic
open Cert.KernelIdeal.Att (xr at' Fin' at_xr dt ew av lam ew_pos coe_sum)
set_option maxRecDepth 16384

/-- The softmax of a component. -/
theorem p_at {X : Vec Ideal S16384x7168 .f32} (hX : Fin' X) (b : Fin 2) (h : Fin 8) (i : Fin 2) (p j : Fin 8192) :
    val_main_v42 (F := Ideal) X (ix5 b h i p j)
      = ((ew X b.val h.val i.val p.val j.val / ∑ k ∈ Finset.range 8192, ew X b.val h.val i.val p.val k : ℝ) : EReal) := by
  obtain ⟨y, hy⟩ := m_at hX b h i p
  pointwise [val_main_v37, val_main_v38, val_main_v39, val_main_v40, val_main_v41, val_main_v42, val_main_cst_6]
  have e : ∀ j : Fin 8192, Ideal.exp (val_main_v31 (F := Ideal) X (ix5 b h i p j) - val_main_v36 (F := Ideal) X (ix5 b h i p j))
      = ((ew X b.val h.val i.val p.val j.val * (Real.exp y)⁻¹ : ℝ) : EReal) := by
    intro j
    rw [hy, t_at hX]
    unfold ew
    split
    · rw [← EReal.coe_sub, Ideal.exp_coe, Real.exp_sub, div_eq_mul_inv]
    · rw [zero_mul]; rfl
  rw [e, Finset.sum_congr rfl fun k _ => e k, ← coe_sum, ← Finset.sum_mul, ← Finset.sum_range (fun k => ew X b.val h.val i.val p.val k)]
  have hp := (ew_pos (X := X) b.val h.val i.val p.val).ne'
  have hm := (Real.exp_pos y).ne'
  rw [Ideal.div_coe (mul_ne_zero hp (inv_ne_zero hm)), ← EReal.coe_mul]
  congr 1
  field_simp

/-- The weight of the second component. -/
theorem l_at (Λ : Vec Ideal S4x64 .f32) : val_main_v21 (F := Ideal) Λ ix0 = lam Λ := by
  unfold lam
  pointwise [val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1]

/-- The difference of the two softmaxes. -/
theorem w_at (X : Vec Ideal S16384x7168 .f32) (Λ : Vec Ideal S4x64 .f32) (b : Fin 2) (h : Fin 8) (p j : Fin 8192) :
    val_main_v49 (F := Ideal) X Λ (ix4 b h p j) = val_main_v42 (F := Ideal) X (ix5 b h 0 p j) - lam Λ * val_main_v42 (F := Ideal) X (ix5 b h 1 p j) := by
  have e0 : idx_main_v43 (idx_main_v44 (ix4 b h p j)) = ix5 b h 0 p j := by
    funext a
    apply Fin.ext
    match a with
    | ⟨0, _⟩ => show (((b.val * 8 + h.val) * 8192 + p.val) * 8192 + j.val) / 536870912 = b.val; omega
    | ⟨1, _⟩ => show (((b.val * 8 + h.val) * 8192 + p.val) * 8192 + j.val) / 67108864 % 8 = h.val; omega
    | ⟨2, _⟩ => rfl
    | ⟨3, _⟩ => show (((b.val * 8 + h.val) * 8192 + p.val) * 8192 + j.val) / 8192 % 8192 = p.val; omega
    | ⟨4, _⟩ => show (((b.val * 8 + h.val) * 8192 + p.val) * 8192 + j.val) % 8192 = j.val; omega
  have e1 : idx_main_v45 (idx_main_v46 (ix4 b h p j)) = ix5 b h 1 p j := by
    funext a
    apply Fin.ext
    match a with
    | ⟨0, _⟩ => show (((b.val * 8 + h.val) * 8192 + p.val) * 8192 + j.val) / 536870912 = b.val; omega
    | ⟨1, _⟩ => show (((b.val * 8 + h.val) * 8192 + p.val) * 8192 + j.val) / 67108864 % 8 = h.val; omega
    | ⟨2, _⟩ => rfl
    | ⟨3, _⟩ => show (((b.val * 8 + h.val) * 8192 + p.val) * 8192 + j.val) / 8192 % 8192 = p.val; omega
    | ⟨4, _⟩ => show (((b.val * 8 + h.val) * 8192 + p.val) * 8192 + j.val) % 8192 = j.val; omega
  rw [val_main_v49_apply, val_main_v48_apply, val_main_v47_apply, val_main_v46_apply, val_main_v45_apply, val_main_v44_apply, val_main_v43_apply, e0, e1]
  have hl : val_main_v21 (F := Ideal) Λ (idx_main_v47 (ix4 b h p j)) = lam Λ := (congrArg _ (funext fun a => a.elim0)).trans (l_at Λ)
  rw [hl]
  rfl

/-- The weight of the second component is a real number for finite inputs. -/
theorem lam_real {Λ : Vec Ideal S4x64 .f32} (hΛ : Fin' Λ) : ∃ y : ℝ, lam Λ = (y : EReal) := by
  have hs : ∀ a b : Fin 4, ∃ y : ℝ, ∑ k : Fin 64, Λ (ix2 a k) * Λ (ix2 b k) = (y : EReal) := by
    intro a b
    have hr : ∀ j, Λ j = ((Λ j).toReal : EReal) := fun j => by obtain ⟨y, hy⟩ := hΛ j; rw [hy, EReal.toReal_coe]
    refine ⟨∑ k : Fin 64, (Λ (ix2 a k)).toReal * (Λ (ix2 b k)).toReal, ?_⟩
    rw [coe_sum]
    refine Finset.sum_congr rfl fun k _ => ?_
    rw [EReal.coe_mul, ← hr, ← hr]
  have hc : ∃ y : ℝ, Ideal.ofBits .f32 0x3E4CCCCD#32 = (y : EReal) := by
    have h1 : Ideal.ofBits .f32 0x3E4CCCCD#32 ≠ ⊤ := by
      simp [Ideal.ofBits, Ideal.ieee]
      rw [← EReal.coe_mul]
      exact EReal.coe_ne_top _
    have h2 : Ideal.ofBits .f32 0x3E4CCCCD#32 ≠ ⊥ := by
      simp [Ideal.ofBits, Ideal.ieee]
      rw [← EReal.coe_mul]
      exact EReal.coe_ne_bot _
    exact ⟨_, (EReal.coe_toReal h1 h2).symm⟩
  obtain ⟨x, hx⟩ := hs 0 1
  obtain ⟨y, hy⟩ := hs 2 3
  obtain ⟨z, hz⟩ := hc
  unfold lam
  rw [hx, hy, hz, Ideal.exp_coe, Ideal.exp_coe, ← EReal.coe_sub, ← EReal.coe_add]
  exact ⟨_, rfl⟩

/-- The reference's result at an index. -/
theorem out_apply {X : Vec Ideal S16384x7168 .f32} (hX : Fin' X) {Λ : Vec Ideal S4x64 .f32} (hΛ : Fin' Λ) (a : Fin 16384) (c : Fin 1024) :
    val_main_v52 (F := Ideal) X Λ (ix2 a c)
      = (av X (a.val / 8192) (c.val / 128) 0 (a.val % 8192) (c.val % 128) : EReal) - lam Λ * (av X (a.val / 8192) (c.val / 128) 1 (a.val % 8192) (c.val % 128) : EReal) := by
  obtain ⟨y, hy⟩ := lam_real hΛ
  pointwise [val_main_v52, val_main_v51, val_main_v50, val_main_v5, val_main_v4]
  have e : ∀ x : Fin 8192, X (ix2 (⟨a.val / 8192 * 8192 + x.val, by omega⟩ : Fin 16384) (⟨6144 + c.val, by omega⟩ : Fin 7168))
        * val_main_v49 (F := Ideal) X Λ (ix4 (⟨a.val / 8192, by omega⟩ : Fin 2) (⟨c.val / 128, by omega⟩ : Fin 8) (⟨a.val % 8192, by omega⟩ : Fin 8192) x)
      = ((ew X (a.val / 8192) (c.val / 128) 0 (a.val % 8192) x.val * xr X (8192 * (a.val / 8192) + x.val) (6144 + 128 * (c.val / 128) + c.val % 128)
            / (∑ k ∈ Finset.range 8192, ew X (a.val / 8192) (c.val / 128) 0 (a.val % 8192) k)
          - y * (ew X (a.val / 8192) (c.val / 128) 1 (a.val % 8192) x.val * xr X (8192 * (a.val / 8192) + x.val) (6144 + 128 * (c.val / 128) + c.val % 128)
            / (∑ k ∈ Finset.range 8192, ew X (a.val / 8192) (c.val / 128) 1 (a.val % 8192) k)) : ℝ) : EReal) := by
    intro x
    rw [at_ix X (a.val / 8192 * 8192 + x.val) (6144 + c.val), at_xr hX, w_at, p_at hX, p_at hX, hy, ← EReal.coe_mul, ← EReal.coe_sub, ← EReal.coe_mul,
      show a.val / 8192 * 8192 + x.val = 8192 * (a.val / 8192) + x.val by omega, show 6144 + c.val = 6144 + 128 * (c.val / 128) + c.val % 128 by omega]
    congr 1
    show _ * (ew X (a.val / 8192) (c.val / 128) 0 (a.val % 8192) x.val / (∑ k ∈ Finset.range 8192, ew X (a.val / 8192) (c.val / 128) 0 (a.val % 8192) k) - y * (ew X (a.val / 8192) (c.val / 128) 1 (a.val % 8192) x.val / (∑ k ∈ Finset.range 8192, ew X (a.val / 8192) (c.val / 128) 1 (a.val % 8192) k))) = _
    ring
  rw [Finset.sum_congr rfl fun x _ => e x, ← coe_sum, hy, ← EReal.coe_mul, ← EReal.coe_sub]
  congr 1
  unfold av
  rw [Finset.sum_sub_distrib, ← Finset.mul_sum, ← Finset.sum_div, ← Finset.sum_div]
  simp only [Finset.sum_range]

end Cert.ReferenceIdeal.Att
-- ==== Proof.Norm.lean ====
/-
  A row divided by the root of its mean square, times a gain, against a column of weights: the formula that the layer's
  normalised projections share.
-/
module

public import Idealize.ShloMosaic.Lib.Pointwise

@[expose] public section
noncomputable section
namespace Cert.Norm
open Idealize.ShloMosaic

/-- One over the root of a row's mean square plus epsilon. -/
def rs (x : Fin 2048 → EReal) : EReal :=
  Ideal.rsqrt (Ideal.div (∑ k, x k * x k) (Ideal.ofBits .f32 0x45000000#32) + Ideal.ofBits .f32 0x358637BD#32)

/-- The normalised row, times the gain, against a column. -/
def nproj (x g w : Fin 2048 → EReal) : EReal := ∑ k, x k * rs x * g k * w k

end Cert.Norm
end
-- ==== Proof.Proj2.lean ====
/-
  The normalised projection of 16384 rows: block by block in the kernel, and at once in the reference, every entry is the
  normalised row against the weights' column.
-/
module

public import proofs.«01_k».proof.Proof.Gen.Kernel2Ideal.Value
public import proofs.«01_k».proof.Proof.Gen.Reference2Ideal.Read
public import proofs.«01_k».proof.Proof.Norm
public import Idealize.ShloMosaic.Lib.ValueIdx
public import Idealize.ShloMosaic.Lib.VecWindow

@[expose] public section
noncomputable section
namespace Cert.Kernel2Ideal.Proj
open Cert.Kernel2Ideal Cert.Kernel2Ideal.Gen Idealize.ShloMosaic Idealize.ShloMosaic.TcCoe Idealize.SL.Sem Idealize.ShloMosaic.Tactic Cert.Norm
open Idealize.ShloMosaic.Pipeline (Dat)

/-- The result array: every row normalised, against every column. -/
def G (X : Vec Ideal S16384x2048 .f32) (g : Vec Ideal S1x2048 .f32) (w : Vec Ideal S1x2048x2048 .f32) : Vec Ideal S16384x2048 .f32 := fun i =>
  nproj (fun k => X (ix2 (i 0 : Fin 16384) k)) (fun k => g (ix2 (0 : Fin 1) k)) (fun k => w (ix3 (0 : Fin 1) k (i 1 : Fin 2048)))

/-- What a grid point leaves in its output block. -/
theorem out_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .bf16) (harg6 : arg6.IsWhole)
    (hc0 : cond0_0 i) (x0 : Vec Ideal S512x2048 .f32) (x1 : Vec Ideal S1x2048 .f32) (x2 : Vec Ideal S2048x2048 .bf16) :
    out0_A_3 c i arg2 harg2 arg3 harg3 arg4 harg4 arg5 harg5 arg6 harg6 hc0 x0 x1 x2 = k0_pay2 (k0_pay1 x0 x1) x2 := by
  unfold out0_A_3 kernelRun0_A
  dsimp only
  unfold VO0_3
  refine (View.read_writes_full (s := S512x2048) _ _ _ _ _).trans ?_
  have h2 : View.readAt (Elt Ideal) arg4.view (Rect.unit ![0, 0] ![2048, 2048] inb_S2048x2048_S2048x2048_0_0).toLoadRect (harg4.unread x2) = x2 :=
    (View.readAt_full (s := S2048x2048) _ _ _).trans (harg4.read_unread _)
  have h1 : kernelRun0_A.sl.v3 c arg2 harg2 arg3 harg3 arg6 x0 x1 = k0_pay1 x0 x1 := by
    unfold kernelRun0_A.sl.v3
    refine (View.readAt_full (s := S512x2048) _ _ _).trans ?_
    refine (View.read_writes_full (s := S512x2048) _ _ _ _ _).trans ?_
    rw [View.readAt_full (s := S512x2048), View.readAt_full (s := S1x2048), harg2.read_unread, harg3.read_unread]
  rw [h1]
  exact congrArg _ h2

/-- The block's entry. -/
theorem pay (x0 : Vec Ideal S512x2048 .f32) (x1 : Vec Ideal S1x2048 .f32) (x2 : Vec Ideal S2048x2048 .bf16) (r : Fin 512) (l : Fin 2048) :
    k0_pay2 (k0_pay1 x0 x1) x2 (ix2 r l) = nproj (fun k => x0 (ix2 r k)) (fun k => x1 (ix2 (0 : Fin 1) k)) (fun k => x2 (ix2 k l)) := by
  pointwise [k0_pay2, k0_pay1]
  rfl

variable (m : (ℓ : Loc nD τ sig) → Buf (Elt Ideal) ℓ)

/-- The weights without their leading axis. -/
theorem squeeze (w : Vec Ideal S1x2048x2048 .f32) (a b : Fin 2048) :
    shapeCast S2048x2048 w shapeCasts_S1x2048x2048_S2048x2048 (ix2 a b) = w (ix3 (0 : Fin 1) a b) :=
  shapeCast_apply w shapeCasts_S1x2048x2048_S2048x2048 _ _
    (by rewrite [Shape.rowMajor_val_three, Shape.rowMajor_val_two]; show (0 * 2048 + a.val) * 2048 + b.val = a.val * 2048 + b.val; omega)

/-- The weights that the region finds. -/
theorem V1 (c : Dev nD) (a b : Fin 2048) :
    (V m c main_v1 : Vec Ideal S2048x2048 .bf16) (ix2 a b) = (m ((c : Thread nD τ).loc main_arg2) : Vec Ideal S1x2048x2048 .f32) (ix3 (0 : Fin 1) a b) := by
  unfold V
  after_results
  show shapeCast S2048x2048 (m ((c : Thread nD τ).loc main_arg2) : Vec Ideal S1x2048x2048 .f32) shapeCasts_S1x2048x2048_S2048x2048 (ix2 a b) = _
  exact squeeze _ a b

/-- The gain that the region finds. -/
theorem V3 (c : Dev nD) (b : Fin 2048) :
    (V m c main_v3 : Vec Ideal S1x2048 .f32) (ix2 (0 : Fin 1) b) = (m ((c : Thread nD τ).loc main_arg1) : Vec Ideal S1x2048 .f32) (ix2 (0 : Fin 1) b) := by
  unfold V
  after_results
  show shapeCast S1x2048 (shapeCast S2048 (m ((c : Thread nD τ).loc main_arg1) : Vec Ideal S1x2048 .f32) shapeCasts_S1x2048_S2048) shapeCasts_S2048_S1x2048 (ix2 0 b) = _
  generalize (m ((c : Thread nD τ).loc main_arg1) : Vec Ideal S1x2048 .f32) = w
  pointwise []

/-- The block of window 0 at a point. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The block of window 1 at a point. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The block of window 2 at a point. -/
theorem idx2 : ∀ t : Fin cfg0.N, win0_2.index t 0 = 0 ∧ win0_2.index t 1 = 0 :=
  (by decide +kernel : ∀ t : Fin grid0.N, win0_2.index t 0 = 0 ∧ win0_2.index t 1 = 0)
/-- The block of window 3 at a point. -/
theorem idx3 : ∀ t : Fin cfg0.N, win0_3.index t 0 = t.val ∧ win0_3.index t 1 = 0 :=
  (by decide +kernel : ∀ t : Fin grid0.N, win0_3.index t 0 = t.val ∧ win0_3.index t 1 = 0)

/-- The rows that point `t` reads. -/
theorem iblk0 (c : Dev nD) (t : Fin cfg0.N) (r : Fin 512) (k : Fin 2048) (R : Fin 16384) (hR : R.val = 512 * t.val + r.val) :
    (iblk m c 0 t : Vec Ideal S512x2048 .f32) (ix2 r k) = (m ((c : Thread nD τ).loc main_arg0) : Vec Ideal S16384x2048 .f32) (ix2 R k) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [hi.1]; omega
  | ⟨1, _⟩ => show win0_0.index t 1 * 2048 + 1 * k.val = k.val; rw [hi.2]; omega

/-- Every point reads the whole gain. -/
theorem iblk1 (c : Dev nD) (t : Fin cfg0.N) (k : Fin 2048) :
    (iblk m c 1 t : Vec Ideal S1x2048 .f32) (ix2 (0 : Fin 1) k) = (m ((c : Thread nD τ).loc main_arg1) : Vec Ideal S1x2048 .f32) (ix2 (0 : Fin 1) k) := by
  have hi := idx1 t
  refine Eq.trans ?_ (V3 m c k)
  unfold iblk
  rw [View.read_apply]
  show V m c main_v3 _ = V m c main_v3 _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

/-- Every point reads all the weights. -/
theorem iblk2 (c : Dev nD) (t : Fin cfg0.N) (k l : Fin 2048) :
    (iblk m c 2 t : Vec Ideal S2048x2048 .bf16) (ix2 k l) = (m ((c : Thread nD τ).loc main_arg2) : Vec Ideal S1x2048x2048 .f32) (ix3 (0 : Fin 1) k l) := by
  have hi := idx2 t
  refine Eq.trans ?_ (V1 m c k l)
  unfold iblk
  rw [View.read_apply]
  show V m c main_v1 _ = V m c main_v1 _
  congr 1
  funext a
  apply Fin.ext
  match a with
  | ⟨0, _⟩ => show win0_2.index t 0 * 2048 + 1 * k.val = k.val; rw [hi.1]; omega
  | ⟨1, _⟩ => show win0_2.index t 1 * 2048 + 1 * l.val = l.val; rw [hi.2]; omega

/-- Each write-back writes its block of `G`. -/
theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hi := idx3 t
  have hN : t.val < 32 := lt_of_lt_of_eq t.isLt (show cfg0.N = 32 from N_0)
  rw [Value.flushed3_A m c t, out_A]
  funext j
  obtain ⟨r, l, rfl⟩ : ∃ (r : Fin 512) (l : Fin 2048), j = ix2 r l := ⟨j 0, j 1, eq_ix2 (n0 := 512) (n1 := 2048) j⟩
  rw [View.read_apply]
  refine (pay _ _ _ r l).trans ?_
  have h0 : ∀ i : S16384x2048.Idx, (i 0).val = 512 * t.val + r.val → (i 1).val = l.val →
      nproj (fun k => (iblk m c 0 t : Vec Ideal S512x2048 .f32) (ix2 r k)) (fun k => (iblk m c 1 t : Vec Ideal S1x2048 .f32) (ix2 (0 : Fin 1) k))
        (fun k => (iblk m c 2 t : Vec Ideal S2048x2048 .bf16) (ix2 k l))
        = G (m ((c : Thread nD τ).loc main_arg0)) (m ((c : Thread nD τ).loc main_arg1)) (m ((c : Thread nD τ).loc main_arg2)) i := by
    intro i e0 e1
    unfold G
    rw [show (i 1 : Fin 2048) = l from Fin.ext e1]
    congr 1
    · funext k; exact iblk0 m c t r k _ e0
    · funext k; exact iblk1 m c t k
    · funext k; exact iblk2 m c t k l
  refine h0 _ ?_ ?_
  · show win0_3.index t 0 * 512 + 1 * r.val = _
    rw [hi.1]; omega
  · show win0_3.index t 1 * 2048 + 1 * l.val = _
    rw [hi.2]; omega

/-- The result array after the run. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (flushed_eq m c) fun i => by
    have h0 : ((i : S16384x2048.Idx) 0).val < 16384 := (i 0).isLt
    have h1 : ((i : S16384x2048.Idx) 1).val < 2048 := (i 1).isLt
    have hN : cfg0.N = 32 := N_0
    refine ⟨⟨(i 0).val / 512, by rw [hN]; omega⟩, flush0_3 _, ?_⟩
    generalize ht : (⟨(i 0).val / 512, _⟩ : Fin cfg0.N) = t
    have hv : t.val = (i 0).val / 512 := by rw [← ht]
    have hi := idx3 t
    show i ∈ ((View.whole main_v4).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [hi.1]; omega
    | ⟨1, _⟩ => show win0_3.index t 1 * 2048 ≤ (i 1 : Nat) ∧ (i 1 : Nat) < win0_3.index t 1 * 2048 + 2048
                rw [hi.2]; omega

end Cert.Kernel2Ideal.Proj

namespace Cert.Reference2Ideal.Proj
open Cert.Reference2Ideal Cert.Reference2Ideal.Gen Idealize.ShloMosaic Cert.Reference2Ideal.Read Cert.Norm

/-- A sum that starts at the zero word. -/
theorem zero_word (y : EReal) : FloatOps.ofBits (F := Ideal) .f32 0#32 + y = y := by
  have z : (FloatOps.ofBits (F := Ideal) .f32 0#32 : EReal) = 0 := by pointwise []
  rw [z]; exact zero_add y

/-- The reference's result is the same function. -/
theorem out_eq (X : Vec Ideal S16384x2048 .f32) (g : Vec Ideal S1x2048 .f32) (w : Vec Ideal S1x2048x2048 .f32) :
    val_main_v15 (F := Ideal) X g w = Cert.Kernel2Ideal.Proj.G X g w := by
  funext i
  obtain ⟨a, b, rfl⟩ : ∃ (a : Fin 16384) (b : Fin 2048), i = ix2 a b := ⟨i 0, i 1, eq_ix2 (n0 := 16384) (n1 := 2048) i⟩
  rw [val_main_v15_apply]
  simp only [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply, val_main_v0_apply, val_main_cst_apply, val_main_cst_0_apply, val_main_cst_1_apply]
  have e1 : ∀ k : Fin 2048, lidx_main_v15 (ix2 a b) k = ix2 a k := fun k => eq_ix2 (n0 := 16384) (n1 := 2048) _
  have e2 : ∀ k l : Fin 2048, idx_main_v2 (idx_main_v3 (idx_main_v9 (ix2 a k))) l = ix2 a l := fun k l => eq_ix2 (n0 := 16384) (n1 := 2048) _
  have e3 : ∀ k : Fin 2048, idx_main_v0 (idx_main_v11 (idx_main_v12 (ix2 a k))) = ix2 (0 : Fin 1) k := fun k => by
    funext q; apply Fin.ext
    match q with
    | ⟨0, _⟩ => rfl
    | ⟨1, _⟩ => exact Nat.mod_eq_of_lt k.isLt
  have e4 : ∀ k : Fin 2048, idx_main_v14 (ridx_main_v15 (ix2 a b) k) = ix3 (0 : Fin 1) k b := fun k => by
    have hk := k.isLt
    have hb := b.isLt
    funext q; apply Fin.ext
    match q with
    | ⟨0, _⟩ => rfl
    | ⟨1, _⟩ => show (k.val * 2048 + b.val) / 2048 % 2048 = k.val; omega
    | ⟨2, _⟩ => show (k.val * 2048 + b.val) % 2048 = b.val; omega
  simp only [e1, e2, e3, e4]
  unfold Cert.Kernel2Ideal.Proj.G nproj rs
  refine Finset.sum_congr rfl fun k _ => ?_
  rw [zero_word]
  rfl

end Cert.Reference2Ideal.Proj
end
-- ==== Proof.Proj3.lean ====
/-
  The projection with a residual: block by block in the kernel, and at once in the reference, every entry is the row against
  the weights' column, plus the residual's entry.
-/
module

public import proofs.«01_k».proof.Proof.Gen.Kernel3Ideal.Value
public import proofs.«01_k».proof.Proof.Gen.Reference3Ideal.Read
public import proofs.«01_k».proof.Proof.Proj2
public import Idealize.ShloMosaic.Lib.ValueIdx
public import Idealize.ShloMosaic.Lib.VecWindow

@[expose] public section
noncomputable section
namespace Cert.Kernel3Ideal.Proj
open Cert.Kernel3Ideal Cert.Kernel3Ideal.Gen Idealize.ShloMosaic Idealize.ShloMosaic.TcCoe Idealize.SL.Sem Idealize.ShloMosaic.Tactic
open Idealize.ShloMosaic.Pipeline (Dat)

/-- A row against a column, plus an entry. -/
def rproj (x w : Fin 2048 → EReal) (y : EReal) : EReal := (∑ k, x k * w k) + y

/-- The result array: every row against every column, plus the residual. -/
def G (X : Vec Ideal S16384x2048 .f32) (w : Vec Ideal S1x2048x2048 .f32) (y : Vec Ideal S16384x2048 .f32) : Vec Ideal S16384x2048 .f32 := fun i =>
  rproj (fun k => X (ix2 (i 0 : Fin 16384) k)) (fun k => w (ix3 (0 : Fin 1) k (i 1 : Fin 2048))) (y i)

/-- What a grid point leaves in its output block. -/
theorem out_A (c : Dev nD) (i : grid0.Coords) (arg2 : Memref sig .tc .vmem S512x2048 .f32) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole)
    (hc0 : cond0_0 i) (x0 : Vec Ideal S512x2048 .f32) (x1 : Vec Ideal S2048x2048 .bf16) (x2 : Vec Ideal S512x2048 .f32) :
    out0_A_3 c i arg2 harg2 arg3 harg3 arg4 harg4 arg5 harg5 arg6 harg6 hc0 x0 x1 x2 = k0_pay2 (k0_pay1 x0) x1 x2 := by
  unfold out0_A_3 kernelRun0_A
  dsimp only
  unfold VO0_3
  refine (View.read_writes_full (s := S512x2048) _ _ _ _ _).trans ?_
  have h2 : View.readAt (Elt Ideal) arg3.view (Rect.unit ![0, 0] ![2048, 2048] inb_S2048x2048_S2048x2048_0_0).toLoadRect (harg3.unread x1) = x1 :=
    (View.readAt_full (s := S2048x2048) _ _ _).trans (harg3.read_unread _)
  have h3 : View.readAt (Elt Ideal) arg4.view (Rect.unit ![0, 0] ![512, 2048] inb_S512x2048_S512x2048_0_0).toLoadRect (harg4.unread x2) = x2 :=
    (View.readAt_full (s := S512x2048) _ _ _).trans (harg4.read_unread _)
  have h1 : kernelRun0_A.sl.v3 c arg2 harg2 arg6 x0 = k0_pay1 x0 := by
    unfold kernelRun0_A.sl.v3
    refine (View.readAt_full (s := S512x2048) _ _ _).trans ?_
    refine (View.read_writes_full (s := S512x2048) _ _ _ _ _).trans ?_
    rw [View.readAt_full (s := S512x2048), harg2.read_unread]
  rw [h1]
  exact congrArg₂ _ h2 h3

/-- The block's entry. -/
theorem pay (x0 : Vec Ideal S512x2048 .f32) (x1 : Vec Ideal S2048x2048 .bf16) (x2 : Vec Ideal S512x2048 .f32) (r : Fin 512) (l : Fin 2048) :
    k0_pay2 (k0_pay1 x0) x1 x2 (ix2 r l) = rproj (fun k => x0 (ix2 r k)) (fun k => x1 (ix2 k l)) (x2 (ix2 r l)) := by
  pointwise [k0_pay2, k0_pay1]
  rfl

variable (m : (ℓ : Loc nD τ sig) → Buf (Elt Ideal) ℓ)

/-- The weights that the region finds. -/
theorem V1 (c : Dev nD) (a b : Fin 2048) :
    (V m c main_v1 : Vec Ideal S2048x2048 .bf16) (ix2 a b) = (m ((c : Thread nD τ).loc main_arg1) : Vec Ideal S1x2048x2048 .f32) (ix3 (0 : Fin 1) a b) := by
  unfold V
  after_results
  show shapeCast S2048x2048 (m ((c : Thread nD τ).loc main_arg1) : Vec Ideal S1x2048x2048 .f32) shapeCasts_S1x2048x2048_S2048x2048 (ix2 a b) = _
  exact Cert.Kernel2Ideal.Proj.squeeze _ a b

/-- The block of window 0 at a point. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The block of window 1 at a point. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The block of window 2 at a point. -/
theorem idx2 : ∀ t : Fin cfg0.N, win0_2.index t 0 = t.val ∧ win0_2.index t 1 = 0 :=
  (by decide +kernel : ∀ t : Fin grid0.N, win0_2.index t 0 = t.val ∧ win0_2.index t 1 = 0)
/-- The block of window 3 at a point. -/
theorem idx3 : ∀ t : Fin cfg0.N, win0_3.index t 0 = t.val ∧ win0_3.index t 1 = 0 :=
  (by decide +kernel : ∀ t : Fin grid0.N, win0_3.index t 0 = t.val ∧ win0_3.index t 1 = 0)

/-- The rows that point `t` reads. -/
theorem iblk0 (c : Dev nD) (t : Fin cfg0.N) (r : Fin 512) (k : Fin 2048) (R : Fin 16384) (hR : R.val = 512 * t.val + r.val) :
    (iblk m c 0 t : Vec Ideal S512x2048 .f32) (ix2 r k) = (m ((c : Thread nD τ).loc main_arg0) : Vec Ideal S16384x2048 .f32) (ix2 R k) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [hi.1]; omega
  | ⟨1, _⟩ => show win0_0.index t 1 * 2048 + 1 * k.val = k.val; rw [hi.2]; omega

/-- Every point reads all the weights. -/
theorem iblk1 (c : Dev nD) (t : Fin cfg0.N) (k l : Fin 2048) :
    (iblk m c 1 t : Vec Ideal S2048x2048 .bf16) (ix2 k l) = (m ((c : Thread nD τ).loc main_arg1) : Vec Ideal S1x2048x2048 .f32) (ix3 (0 : Fin 1) k l) := by
  have hi := idx1 t
  refine Eq.trans ?_ (V1 m c k l)
  unfold iblk
  rw [View.read_apply]
  show V m c main_v1 _ = V m c main_v1 _
  congr 1
  funext a
  apply Fin.ext
  match a with
  | ⟨0, _⟩ => show win0_1.index t 0 * 2048 + 1 * k.val = k.val; rw [hi.1]; omega
  | ⟨1, _⟩ => show win0_1.index t 1 * 2048 + 1 * l.val = l.val; rw [hi.2]; omega

/-- The residual's block that point `t` reads. -/
theorem iblk2 (c : Dev nD) (t : Fin cfg0.N) (r : Fin 512) (l : Fin 2048) (i : S16384x2048.Idx) (e0 : (i 0).val = 512 * t.val + r.val) (e1 : (i 1).val = l.val) :
    (iblk m c 2 t : Vec Ideal S512x2048 .f32) (ix2 r l) = (m ((c : Thread nD τ).loc main_arg2) : Vec Ideal S16384x2048 .f32) i := by
  have hi := idx2 t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = (i 0).val; rw [hi.1, e0]; omega
  | ⟨1, _⟩ => show win0_2.index t 1 * 2048 + 1 * l.val = (i 1).val; rw [hi.2, e1]; omega

/-- Each write-back writes its block of `G`. -/
theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hi := idx3 t
  have hN : t.val < 32 := lt_of_lt_of_eq t.isLt (show cfg0.N = 32 from N_0)
  rw [Value.flushed3_A m c t, out_A]
  funext j
  obtain ⟨r, l, rfl⟩ : ∃ (r : Fin 512) (l : Fin 2048), j = ix2 r l := ⟨j 0, j 1, eq_ix2 (n0 := 512) (n1 := 2048) j⟩
  rw [View.read_apply]
  refine (pay _ _ _ r l).trans ?_
  have h0 : ∀ i : S16384x2048.Idx, (i 0).val = 512 * t.val + r.val → (i 1).val = l.val →
      rproj (fun k => (iblk m c 0 t : Vec Ideal S512x2048 .f32) (ix2 r k)) (fun k => (iblk m c 1 t : Vec Ideal S2048x2048 .bf16) (ix2 k l)) ((iblk m c 2 t : Vec Ideal S512x2048 .f32) (ix2 r l))
        = G (m ((c : Thread nD τ).loc main_arg0)) (m ((c : Thread nD τ).loc main_arg1)) (m ((c : Thread nD τ).loc main_arg2)) i := by
    intro i e0 e1
    unfold G
    rw [show (i 1 : Fin 2048) = l from Fin.ext e1]
    congr 1
    · funext k; exact iblk0 m c t r k _ e0
    · funext k; exact iblk1 m c t k l
    · exact iblk2 m c t r l i e0 e1
  refine h0 _ ?_ ?_
  · show win0_3.index t 0 * 512 + 1 * r.val = _
    rw [hi.1]; omega
  · show win0_3.index t 1 * 2048 + 1 * l.val = _
    rw [hi.2]; omega

/-- The result array after the run. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (flushed_eq m c) fun i => by
    have h0 : ((i : S16384x2048.Idx) 0).val < 16384 := (i 0).isLt
    have h1 : ((i : S16384x2048.Idx) 1).val < 2048 := (i 1).isLt
    have hN : cfg0.N = 32 := N_0
    refine ⟨⟨(i 0).val / 512, by rw [hN]; omega⟩, flush0_3 _, ?_⟩
    generalize ht : (⟨(i 0).val / 512, _⟩ : Fin cfg0.N) = t
    have hv : t.val = (i 0).val / 512 := by rw [← ht]
    have hi := idx3 t
    show i ∈ ((View.whole main_v2).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [hi.1]; omega
    | ⟨1, _⟩ => show win0_3.index t 1 * 2048 ≤ (i 1 : Nat) ∧ (i 1 : Nat) < win0_3.index t 1 * 2048 + 2048
                rw [hi.2]; omega

end Cert.Kernel3Ideal.Proj

namespace Cert.Reference3Ideal.Proj
open Cert.Reference3Ideal Cert.Reference3Ideal.Gen Idealize.ShloMosaic Cert.Reference3Ideal.Read

/-- The reference's result is the same function. -/
theorem out_eq (X : Vec Ideal S16384x2048 .f32) (w : Vec Ideal S1x2048x2048 .f32) (y : Vec Ideal S16384x2048 .f32) :
    val_main_v2 (F := Ideal) X w y = Cert.Kernel3Ideal.Proj.G X w y := by
  funext i
  obtain ⟨a, b, rfl⟩ : ∃ (a : Fin 16384) (b : Fin 2048), i = ix2 a b := ⟨i 0, i 1, eq_ix2 (n0 := 16384) (n1 := 2048) i⟩
  rw [val_main_v2_apply, val_main_v1_apply]
  simp only [val_main_v0_apply]
  have e1 : ∀ k : Fin 2048, lidx_main_v1 (ix2 a b) k = ix2 a k := fun k => eq_ix2 (n0 := 16384) (n1 := 2048) _
  have e4 : ∀ k : Fin 2048, idx_main_v0 (ridx_main_v1 (ix2 a b) k) = ix3 (0 : Fin 1) k b := fun k => by
    have hk := k.isLt
    have hb := b.isLt
    funext q; apply Fin.ext
    match q with
    | ⟨0, _⟩ => rfl
    | ⟨1, _⟩ => show (k.val * 2048 + b.val) / 2048 % 2048 = k.val; omega
    | ⟨2, _⟩ => show (k.val * 2048 + b.val) % 2048 = b.val; omega
  simp only [e1, e4]
  exact add_comm _ _

end Cert.Reference3Ideal.Proj
end
-- ==== Proof.Proj4.lean ====
/-
  The normalised projection of the memory's 512 rows, which the kernel does in one block: every entry is the normalised row
  against the weights' column, as in the reference.
-/
module

public import proofs.«01_k».proof.Proof.Gen.Kernel4Ideal.Value
public import proofs.«01_k».proof.Proof.Gen.Reference4Ideal.Read
public import proofs.«01_k».proof.Proof.Proj2
public import Idealize.ShloMosaic.Lib.ValueIdx
public import Idealize.ShloMosaic.Lib.VecWindow

@[expose] public section
noncomputable section
namespace Cert.Kernel4Ideal.Proj
open Cert.Kernel4Ideal Cert.Kernel4Ideal.Gen Idealize.ShloMosaic Idealize.ShloMosaic.TcCoe Idealize.SL.Sem Idealize.ShloMosaic.Tactic Cert.Norm
open Idealize.ShloMosaic.Pipeline (Dat)

/-- The result array: every row normalised, against every column. -/
def G (X : Vec Ideal S2x256x2048 .f32) (g : Vec Ideal S1x2048 .f32) (w : Vec Ideal S1x2048x2048 .f32) : Vec Ideal S512x2048 .f32 := fun i =>
  nproj (fun k => X (ix3 (⟨(i 0).val / 256, Nat.div_lt_of_lt_mul (i 0).isLt⟩ : Fin 2) (⟨(i 0).val % 256, Nat.mod_lt _ (by decide)⟩ : Fin 256) k)) (fun k => g (ix2 (0 : Fin 1) k)) (fun k => w (ix3 (0 : Fin 1) k (i 1 : Fin 2048)))

/-- What a grid point leaves in its output block. -/
theorem out_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .bf16) (harg6 : arg6.IsWhole)
    (hc0 : cond0_0 i) (x0 : Vec Ideal S512x2048 .f32) (x1 : Vec Ideal S1x2048 .f32) (x2 : Vec Ideal S2048x2048 .bf16) :
    out0_A_3 c i arg2 harg2 arg3 harg3 arg4 harg4 arg5 harg5 arg6 harg6 hc0 x0 x1 x2 = k0_pay2 (k0_pay1 x0 x1) x2 := by
  unfold out0_A_3 kernelRun0_A
  dsimp only
  unfold VO0_3
  refine (View.read_writes_full (s := S512x2048) _ _ _ _ _).trans ?_
  have h2 : View.readAt (Elt Ideal) arg4.view (Rect.unit ![0, 0] ![2048, 2048] inb_S2048x2048_S2048x2048_0_0).toLoadRect (harg4.unread x2) = x2 :=
    (View.readAt_full (s := S2048x2048) _ _ _).trans (harg4.read_unread _)
  have h1 : kernelRun0_A.sl.v3 c arg2 harg2 arg3 harg3 arg6 x0 x1 = k0_pay1 x0 x1 := by
    unfold kernelRun0_A.sl.v3
    refine (View.readAt_full (s := S512x2048) _ _ _).trans ?_
    refine (View.read_writes_full (s := S512x2048) _ _ _ _ _).trans ?_
    rw [View.readAt_full (s := S512x2048), View.readAt_full (s := S1x2048), harg2.read_unread, harg3.read_unread]
  rw [h1]
  exact congrArg _ h2

/-- The block's entry. -/
theorem pay (x0 : Vec Ideal S512x2048 .f32) (x1 : Vec Ideal S1x2048 .f32) (x2 : Vec Ideal S2048x2048 .bf16) (r : Fin 512) (l : Fin 2048) :
    k0_pay2 (k0_pay1 x0 x1) x2 (ix2 r l) = nproj (fun k => x0 (ix2 r k)) (fun k => x1 (ix2 (0 : Fin 1) k)) (fun k => x2 (ix2 k l)) := by
  pointwise [k0_pay2, k0_pay1]
  rfl

/-- The memory's rows as one list. -/
theorem flat (x : Vec Ideal S2x256x2048 .f32) (a : Fin 512) (k : Fin 2048) : shapeCast S512x2048 x shapeCasts_S2x256x2048_S512x2048 (ix2 a k)
    = x (ix3 (⟨a.val / 256, Nat.div_lt_of_lt_mul a.isLt⟩ : Fin 2) (⟨a.val % 256, Nat.mod_lt _ (by decide)⟩ : Fin 256) k) :=
  shapeCast_apply x shapeCasts_S2x256x2048_S512x2048 _ _
    (by rewrite [Shape.rowMajor_val_three, Shape.rowMajor_val_two]; show (a.val / 256 * 256 + a.val % 256) * 2048 + k.val = a.val * 2048 + k.val; omega)

variable (m : (ℓ : Loc nD τ sig) → Buf (Elt Ideal) ℓ)

/-- The rows that the region finds. -/
theorem V0 (c : Dev nD) (a : Fin 512) (k : Fin 2048) :
    (V m c main_v0 : Vec Ideal S512x2048 .f32) (ix2 a k) = (m ((c : Thread nD τ).loc main_arg0) : Vec Ideal S2x256x2048 .f32)
      (ix3 (⟨a.val / 256, Nat.div_lt_of_lt_mul a.isLt⟩ : Fin 2) (⟨a.val % 256, Nat.mod_lt _ (by decide)⟩ : Fin 256) k) := by
  unfold V
  after_results
  exact flat _ a k

/-- The weights that the region finds. -/
theorem V1 (c : Dev nD) (a b : Fin 2048) :
    (V m c main_v2 : Vec Ideal S2048x2048 .bf16) (ix2 a b) = (m ((c : Thread nD τ).loc main_arg2) : Vec Ideal S1x2048x2048 .f32) (ix3 (0 : Fin 1) a b) := by
  unfold V
  after_results
  show shapeCast S2048x2048 (m ((c : Thread nD τ).loc main_arg2) : Vec Ideal S1x2048x2048 .f32) shapeCasts_S1x2048x2048_S2048x2048 (ix2 a b) = _
  exact Cert.Kernel2Ideal.Proj.squeeze _ a b

/-- The gain that the region finds. -/
theorem V3 (c : Dev nD) (b : Fin 2048) :
    (V m c main_v4 : Vec Ideal S1x2048 .f32) (ix2 (0 : Fin 1) b) = (m ((c : Thread nD τ).loc main_arg1) : Vec Ideal S1x2048 .f32) (ix2 (0 : Fin 1) b) := by
  unfold V
  after_results
  show shapeCast S1x2048 (shapeCast S2048 (m ((c : Thread nD τ).loc main_arg1) : Vec Ideal S1x2048 .f32) shapeCasts_S1x2048_S2048) shapeCasts_S2048_S1x2048 (ix2 0 b) = _
  generalize (m ((c : Thread nD τ).loc main_arg1) : Vec Ideal S1x2048 .f32) = w
  pointwise []

/-- The block of window 0 at a point. -/
theorem idx0 : ∀ t : Fin cfg0.N, win0_0.index t 0 = 0 ∧ win0_0.index t 1 = 0 :=
  (by decide +kernel : ∀ t : Fin grid0.N, win0_0.index t 0 = 0 ∧ win0_0.index t 1 = 0)
/-- The block of window 1 at a point. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The block of window 2 at a point. -/
theorem idx2 : ∀ t : Fin cfg0.N, win0_2.index t 0 = 0 ∧ win0_2.index t 1 = 0 :=
  (by decide +kernel : ∀ t : Fin grid0.N, win0_2.index t 0 = 0 ∧ win0_2.index t 1 = 0)
/-- The block of window 3 at a point. -/
theorem idx3 : ∀ t : Fin cfg0.N, win0_3.index t 0 = 0 ∧ win0_3.index t 1 = 0 :=
  (by decide +kernel : ∀ t : Fin grid0.N, win0_3.index t 0 = 0 ∧ win0_3.index t 1 = 0)

/-- The one point reads all rows. -/
theorem iblk0 (c : Dev nD) (t : Fin cfg0.N) (r : Fin 512) (k : Fin 2048) :
    (iblk m c 0 t : Vec Ideal S512x2048 .f32) (ix2 r k) = (m ((c : Thread nD τ).loc main_arg0) : Vec Ideal S2x256x2048 .f32)
      (ix3 (⟨r.val / 256, Nat.div_lt_of_lt_mul r.isLt⟩ : Fin 2) (⟨r.val % 256, Nat.mod_lt _ (by decide)⟩ : Fin 256) k) := by
  have hi := idx0 t
  refine Eq.trans ?_ (V0 m c r k)
  unfold iblk
  rw [View.read_apply]
  show V m c main_v0 _ = V m c main_v0 _
  congr 1
  funext a
  apply Fin.ext
  match a with
  | ⟨0, _⟩ => show win0_0.index t 0 * 512 + 1 * r.val = r.val; rw [hi.1]; omega
  | ⟨1, _⟩ => show win0_0.index t 1 * 2048 + 1 * k.val = k.val; rw [hi.2]; omega

/-- Every point reads the whole gain. -/
theorem iblk1 (c : Dev nD) (t : Fin cfg0.N) (k : Fin 2048) :
    (iblk m c 1 t : Vec Ideal S1x2048 .f32) (ix2 (0 : Fin 1) k) = (m ((c : Thread nD τ).loc main_arg1) : Vec Ideal S1x2048 .f32) (ix2 (0 : Fin 1) k) := by
  have hi := idx1 t
  refine Eq.trans ?_ (V3 m c k)
  unfold iblk
  rw [View.read_apply]
  show V m c main_v4 _ = V m c main_v4 _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

/-- Every point reads all the weights. -/
theorem iblk2 (c : Dev nD) (t : Fin cfg0.N) (k l : Fin 2048) :
    (iblk m c 2 t : Vec Ideal S2048x2048 .bf16) (ix2 k l) = (m ((c : Thread nD τ).loc main_arg2) : Vec Ideal S1x2048x2048 .f32) (ix3 (0 : Fin 1) k l) := by
  have hi := idx2 t
  refine Eq.trans ?_ (V1 m c k l)
  unfold iblk
  rw [View.read_apply]
  show V m c main_v2 _ = V m c main_v2 _
  congr 1
  funext a
  apply Fin.ext
  match a with
  | ⟨0, _⟩ => show win0_2.index t 0 * 2048 + 1 * k.val = k.val; rw [hi.1]; omega
  | ⟨1, _⟩ => show win0_2.index t 1 * 2048 + 1 * l.val = l.val; rw [hi.2]; omega

/-- Each write-back writes its block of `G`. -/
theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hi := idx3 t
  rw [Value.flushed3_A m c t, out_A]
  funext j
  obtain ⟨r, l, rfl⟩ : ∃ (r : Fin 512) (l : Fin 2048), j = ix2 r l := ⟨j 0, j 1, eq_ix2 (n0 := 512) (n1 := 2048) j⟩
  rw [View.read_apply]
  refine (pay _ _ _ r l).trans ?_
  have h0 : ∀ i : S512x2048.Idx, (i 0).val = r.val → (i 1).val = l.val →
      nproj (fun k => (iblk m c 0 t : Vec Ideal S512x2048 .f32) (ix2 r k)) (fun k => (iblk m c 1 t : Vec Ideal S1x2048 .f32) (ix2 (0 : Fin 1) k))
        (fun k => (iblk m c 2 t : Vec Ideal S2048x2048 .bf16) (ix2 k l))
        = G (m ((c : Thread nD τ).loc main_arg0)) (m ((c : Thread nD τ).loc main_arg1)) (m ((c : Thread nD τ).loc main_arg2)) i := by
    intro i e0 e1
    unfold G
    rw [show i = ix2 r l from (eq_ix2 (n0 := 512) (n1 := 2048) i).trans (by rw [show (i 0 : Fin 512) = r from Fin.ext e0, show (i 1 : Fin 2048) = l from Fin.ext e1])]
    congr 1
    · funext k; exact iblk0 m c t r k
    · funext k; exact iblk1 m c t k
    · funext k; exact iblk2 m c t k l
  refine h0 _ ?_ ?_
  · show win0_3.index t 0 * 512 + 1 * r.val = _
    rw [hi.1]; omega
  · show win0_3.index t 1 * 2048 + 1 * l.val = _
    rw [hi.2]; omega

/-- The result array after the run. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (flushed_eq m c) fun i => by
    have h0 : ((i : S512x2048.Idx) 0).val < 512 := (i 0).isLt
    have h1 : ((i : S512x2048.Idx) 1).val < 2048 := (i 1).isLt
    have hN : cfg0.N = 1 := N_0
    refine ⟨⟨0, by rw [hN]; omega⟩, flush0_3 _, ?_⟩
    generalize (⟨0, _⟩ : Fin cfg0.N) = t
    have hi := idx3 t
    show i ∈ ((View.whole main_v5).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [hi.1]; omega
    | ⟨1, _⟩ => show win0_3.index t 1 * 2048 ≤ (i 1 : Nat) ∧ (i 1 : Nat) < win0_3.index t 1 * 2048 + 2048
                rw [hi.2]; omega

end Cert.Kernel4Ideal.Proj

namespace Cert.Reference4Ideal.Proj
open Cert.Reference4Ideal Cert.Reference4Ideal.Gen Idealize.ShloMosaic Cert.Reference4Ideal.Read Cert.Norm

/-- The reference's result is the same function. -/
theorem out_eq (X : Vec Ideal S2x256x2048 .f32) (g : Vec Ideal S1x2048 .f32) (w : Vec Ideal S1x2048x2048 .f32) :
    val_main_v16 (F := Ideal) X g w = Cert.Kernel4Ideal.Proj.G X g w := by
  funext i
  obtain ⟨R, b, rfl⟩ : ∃ (a : Fin 512) (b : Fin 2048), i = ix2 a b := ⟨i 0, i 1, eq_ix2 (n0 := 512) (n1 := 2048) i⟩
  have hR := R.isLt
  have hb := b.isLt
  rw [val_main_v16_apply]
  generalize ha : (⟨R.val / 256, Nat.div_lt_of_lt_mul R.isLt⟩ : Fin 2) = a
  generalize hp : (⟨R.val % 256, Nat.mod_lt _ (by decide)⟩ : Fin 256) = p
  have ea : a.val = R.val / 256 := by rw [← ha]
  have ep : p.val = R.val % 256 := by rw [← hp]
  have e0 : idx_main_v16 (ix2 R b) = ix3 a p b := by
    funext q; apply Fin.ext
    match q with
    | ⟨0, _⟩ => show (R.val * 2048 + b.val) / 524288 = a.val; omega
    | ⟨1, _⟩ => show (R.val * 2048 + b.val) / 2048 % 256 = p.val; omega
    | ⟨2, _⟩ => show (R.val * 2048 + b.val) % 2048 = b.val; omega
  rw [e0, val_main_v15_apply]
  simp only [val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply, val_main_v0_apply, val_main_cst_apply, val_main_cst_0_apply, val_main_cst_1_apply]
  have e1 : ∀ k : Fin 2048, lidx_main_v15 (ix3 a p b) k = ix3 a p k := fun k => eq_ix3 (n0 := 2) (n1 := 256) (n2 := 2048) _
  have e2 : ∀ k l : Fin 2048, idx_main_v2 (idx_main_v3 (idx_main_v9 (ix3 a p k))) l = ix3 a p l := fun k l => eq_ix3 (n0 := 2) (n1 := 256) (n2 := 2048) _
  have e3 : ∀ k : Fin 2048, idx_main_v0 (idx_main_v11 (idx_main_v12 (ix3 a p k))) = ix2 (0 : Fin 1) k := fun k => by
    funext q; apply Fin.ext
    match q with
    | ⟨0, _⟩ => rfl
    | ⟨1, _⟩ => exact Nat.mod_eq_of_lt k.isLt
  have e4 : ∀ k : Fin 2048, idx_main_v14 (ridx_main_v15 (ix3 a p b) k) = ix3 (0 : Fin 1) k b := fun k => by
    have hk := k.isLt
    funext q; apply Fin.ext
    match q with
    | ⟨0, _⟩ => rfl
    | ⟨1, _⟩ => show (k.val * 2048 + b.val) / 2048 % 2048 = k.val; omega
    | ⟨2, _⟩ => show (k.val * 2048 + b.val) % 2048 = b.val; omega
  simp only [e1, e2, e3, e4]
  subst ha hp
  unfold Cert.Kernel4Ideal.Proj.G nproj rs
  refine Finset.sum_congr rfl fun k _ => ?_
  rw [Cert.Reference2Ideal.Proj.zero_word]
  rfl

end Cert.Reference4Ideal.Proj
end
-- ==== Proof.Proj5.lean ====
/-
  The merge of the two head groups: retention rows normalised by heads of 256 and gated, attention rows normalised by
  heads of 128, side by side against the output weights, plus the residual.
-/
module

public import proofs.«01_k».proof.Proof.Gen.Kernel5Ideal.Value
public import proofs.«01_k».proof.Proof.Gen.Reference5Ideal.Read
public import proofs.«01_k».proof.Proof.Proj2
public import Idealize.ShloMosaic.Lib.ValueIdx
public import Idealize.ShloMosaic.Lib.VecWindow
public import Idealize.ShloMosaic.Lib.Pipeline.Value

@[expose] public section
noncomputable section
namespace Cert.Kernel5Ideal.Proj
open Cert.Kernel5Ideal Cert.Kernel5Ideal.Gen Idealize.ShloMosaic Idealize.ShloMosaic.TcCoe Idealize.SL.Sem Idealize.ShloMosaic.Tactic
open Idealize.ShloMosaic.Pipeline (Dat)

/-- A retention head's row, normalised, times its gate. -/
def gated (x g : Fin 256 → EReal) (l : Fin 256) : EReal :=
  x l * Ideal.rsqrt (Ideal.div (∑ k, x k * x k) (Ideal.ofBits .f32 0x43800000#32) + Ideal.ofBits .f32 0x358637BD#32)
    * (g l * Ideal.div 1 (1 + Ideal.exp (0 - g l)))

/-- An attention head's row, normalised, times its gain and the constant factor. -/
def scaled (x s : Fin 128 → EReal) (l : Fin 128) : EReal :=
  x l * Ideal.rsqrt (Ideal.div (∑ k, x k * x k) (Ideal.ofBits .f32 0x43000000#32) + Ideal.ofBits .f32 0x358637BD#32)
    * s l * Ideal.ofBits .f32 0x3F4CCCCD#32

/-- The merged row: four gated heads, then eight scaled ones. -/
def cat (ro rg d : Fin 1024 → EReal) (s : Fin 128 → EReal) (k : Fin 2048) : EReal :=
  if k.val < 1024 then
    gated (fun l => ro (Fin.ofNat 1024 (256 * (k.val / 256) + l.val))) (fun l => rg (Fin.ofNat 1024 (256 * (k.val / 256) + l.val))) (Fin.ofNat 256 k.val)
  else scaled (fun l => d (Fin.ofNat 1024 (128 * ((k.val - 1024) / 128) + l.val))) s (Fin.ofNat 128 k.val)

/-- The result array: the residual plus every merged row against every column. -/
def G (ro : Vec Ideal S16384x1024 .f32) (p : Vec Ideal S16384x7168 .f32) (d : Vec Ideal S16384x1024 .f32) (s : Vec Ideal S1x128 .f32)
    (x : Vec Ideal S16384x2048 .f32) (w : Vec Ideal S1x2048x2048 .f32) : Vec Ideal S16384x2048 .f32 := fun i =>
  x i + ∑ k, cat (fun l => ro (ix2 (i 0 : Fin 16384) l)) (fun l => p (ix2 (i 0 : Fin 16384) (⟨3072 + l.val, by omega⟩ : Fin 7168)))
    (fun l => d (ix2 (i 0 : Fin 16384) l)) (fun l => s (ix2 (0 : Fin 1) l)) k * w (ix3 (0 : Fin 1) k (i 1 : Fin 2048))

/-- A gated head's block, entry by entry. -/
theorem pay_gated (g x : Vec Ideal S256x256 .f32) (r l : Fin 256) :
    k0_pay2 g x (ix2 r l) = gated (fun k => x (ix2 r k)) (fun k => g (ix2 r k)) l := by
  pointwise [k0_pay2]
  rfl

/-- A scaled head's block, entry by entry. -/
theorem pay_scaled (x : Vec Ideal S256x128 .f32) (s : Vec Ideal S1x128 .f32) (r : Fin 256) (l : Fin 128) :
    k0_pay11 x s (ix2 r l) = scaled (fun k => x (ix2 r k)) (fun k => s (ix2 (0 : Fin 1) k)) l := by
  pointwise [k0_pay11]
  rfl

/-- The merged rows of a block. -/
def catV (x0 x1 x2 : Vec Ideal S256x1024 .f32) (x3 : Vec Ideal S1x128 .f32) : Vec Ideal S256x2048 .bf16 := fun j =>
  cat (fun l => x0 (ix2 (j 0 : Fin 256) l)) (fun l => x1 (ix2 (j 0 : Fin 256) l)) (fun l => x2 (ix2 (j 0 : Fin 256) l)) (fun l => x3 (ix2 (0 : Fin 1) l)) (j 1 : Fin 2048)

/-- The store of retention head `h` is its part of the merged rows. -/
theorem piece_gated (x0 x1 x2 : Vec Ideal S256x1024 .f32) (x3 : Vec Ideal S1x128 .f32) (o h : ℕ) (ho : o = 256 * h) (hh : h < 4)
    (inb0 : ∀ a, (![0, o] : Fin 2 → ℕ) a + S256x256.size a ≤ S256x1024.size a) (inb1 : ∀ a, (![0, o] : Fin 2 → ℕ) a + S256x256.size a ≤ S256x2048.size a) (y : S256x256.Idx) :
    k0_pay2 (VecWindow.window x1 (![0, o] : Fin 2 → ℕ) S256x256.size inb0) (VecWindow.window x0 (![0, o] : Fin 2 → ℕ) S256x256.size inb0) y
      = catV x0 x1 x2 x3 ((Rect.unit (s := S256x2048) ![0, o] S256x256.size inb1).emb y) := by
  obtain ⟨r, l, rfl⟩ : ∃ (r l : Fin 256), y = ix2 r l := ⟨y 0, y 1, eq_ix2 (n0 := 256) (n1 := 256) y⟩
  refine (pay_gated _ _ r l).trans ?_
  have e0 : ((Rect.unit (s := S256x2048) ![0, o] S256x256.size inb1).emb (ix2 r l) 0 : Fin 256) = r := Fin.ext (show 0 + 1 * r.val = r.val by omega)
  have e1 : ((Rect.unit (s := S256x2048) ![0, o] S256x256.size inb1).emb (ix2 r l) 1).val = o + l.val := show o + 1 * l.val = _ by omega
  have ew : ∀ (x : Vec Ideal S256x1024 .f32) (k : Fin 256), VecWindow.window x (![0, o] : Fin 2 → ℕ) S256x256.size inb0 (ix2 r k) = x (ix2 r (Fin.ofNat 1024 (256 * h + k.val))) := by
    intro x k
    unfold VecWindow.window
    congr 1
    funext a
    apply Fin.ext
    match a with
    | ⟨0, _⟩ => show 0 + 1 * r.val = r.val; omega
    | ⟨1, _⟩ => show o + 1 * k.val = (256 * h + k.val) % 1024; omega
  have hl := l.isLt
  unfold catV cat
  rw [e0, e1, if_pos (by omega), show (o + l.val) / 256 = h by omega, show Fin.ofNat 256 (o + l.val) = l from Fin.ext (show (o + l.val) % 256 = l.val by omega)]
  simp only [ew]

/-- The store of attention head `h` is its part of the merged rows. -/
theorem piece_scaled (x0 x1 x2 : Vec Ideal S256x1024 .f32) (x3 : Vec Ideal S1x128 .f32) (o q h : ℕ) (ho : o = 128 * h) (hq : q = 1024 + 128 * h) (hh : h < 8)
    (inb0 : ∀ a, (![0, o] : Fin 2 → ℕ) a + S256x128.size a ≤ S256x1024.size a) (inb1 : ∀ a, (![0, q] : Fin 2 → ℕ) a + S256x128.size a ≤ S256x2048.size a) (y : S256x128.Idx) :
    k0_pay11 (VecWindow.window x2 (![0, o] : Fin 2 → ℕ) S256x128.size inb0) x3 y
      = catV x0 x1 x2 x3 ((Rect.unit (s := S256x2048) ![0, q] S256x128.size inb1).emb y) := by
  obtain ⟨r, l, rfl⟩ : ∃ (r : Fin 256) (l : Fin 128), y = ix2 r l := ⟨y 0, y 1, eq_ix2 (n0 := 256) (n1 := 128) y⟩
  refine (pay_scaled _ _ r l).trans ?_
  have e0 : ((Rect.unit (s := S256x2048) ![0, q] S256x128.size inb1).emb (ix2 r l) 0 : Fin 256) = r := Fin.ext (show 0 + 1 * r.val = r.val by omega)
  have e1 : ((Rect.unit (s := S256x2048) ![0, q] S256x128.size inb1).emb (ix2 r l) 1).val = q + l.val := show q + 1 * l.val = _ by omega
  have ew : ∀ k : Fin 128, VecWindow.window x2 (![0, o] : Fin 2 → ℕ) S256x128.size inb0 (ix2 r k) = x2 (ix2 r (Fin.ofNat 1024 (128 * h + k.val))) := by
    intro k
    unfold VecWindow.window
    congr 1
    funext a
    apply Fin.ext
    match a with
    | ⟨0, _⟩ => show 0 + 1 * r.val = r.val; omega
    | ⟨1, _⟩ => show o + 1 * k.val = (128 * h + k.val) % 1024; omega
  have hl := l.isLt
  unfold catV cat
  rw [e0, e1, if_neg (by omega), show (q + l.val - 1024) / 128 = h by omega, show Fin.ofNat 128 (q + l.val) = l from Fin.ext (show (q + l.val) % 128 = l.val by omega)]
  simp only [ew]

/-- A load of a block at offsets reads a window of it. -/
theorem ld {s : Shape} {e : EltTy} (a : Memref sig .tc .vmem s e) (h : a.IsWhole) (x : Vec Ideal s e) {off size : Fin s.rank → ℕ} (inb : ∀ i, off i + size i ≤ s.size i) :
    a.view.readAt (Elt Ideal) (Rect.unit off size inb).toLoadRect (h.unread x) = VecWindow.window x off size inb :=
  (View.readAt_unit _ _ inb rfl inb).trans (by rw [h.read_unread])

/-- A store's columns of the merged rows. -/
theorem mem_cols {o n : ℕ} (inb : ∀ a, (![0, o] : Fin 2 → ℕ) a + (![256, n] : Fin 2 → ℕ) a ≤ S256x2048.size a) (y : S256x2048.Idx)
    (h0 : o ≤ (y 1).val) (h1 : (y 1).val < o + n) : y ∈ (Rect.unit (s := S256x2048) ![0, o] ![256, n] inb).set := by
  rw [Rect.mem_set_unit]
  intro a
  have hy : (y 0).val < 256 := (y 0).isLt
  match a with
  | ⟨0, _⟩ => exact ⟨Nat.zero_le _, by show (y 0).val < 0 + 256; omega⟩
  | ⟨1, _⟩ => exact ⟨h0, h1⟩

/-- What a later piece has, some piece has. -/
theorem there {α : Type _} {a : α} {L : List α} {P : α → Prop} (h : ∃ p ∈ L, P p) : ∃ p ∈ a :: L, P p :=
  let ⟨p, hp, h⟩ := h
  ⟨p, .tail _ hp, h⟩

/-- The twelve stores of a point together hold the merged rows. -/
theorem cat_eq (c : Dev nD) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole)
    (x0 : Vec Ideal S256x1024 .f32) (x1 : Vec Ideal S256x1024 .f32) (x2 : Vec Ideal S256x1024 .f32) (x3 : Vec Ideal S1x128 .f32) :
    View.canon (kernelRun0_A.sl.HS0_12 (F := Ideal) c arg1 harg1 arg2 harg2 arg3 harg3 arg4 harg4 x0 x1 x2 x3) = catV x0 x1 x2 x3 := by
  have h3 : View.readAt (Elt Ideal) arg4.view (Rect.unit ![0, 0] S1x128.size inb_S1x128_S1x128_0_0).toLoadRect (harg4.unread x3) = x3 :=
    (View.readAt_full (s := S1x128) _ _ _).trans (harg4.read_unread _)
  funext y
  have hy : (y 1).val < 2048 := (y 1).isLt
  sl_unfold_words
  refine View.canon_apply_of_pieces (catV x0 x1 x2 x3) _ ?_ y ?_
  case refine_2 =>
    by_cases g1920 : 1920 ≤ (y 1).val
    · exact ⟨_, .head _, mem_cols inb_S256x2048_S256x128_0_1920 y g1920 (by omega)⟩
    refine there ?_
    by_cases g1792 : 1792 ≤ (y 1).val
    · exact ⟨_, .head _, mem_cols inb_S256x2048_S256x128_0_1792 y g1792 (by omega)⟩
    refine there ?_
    by_cases g1664 : 1664 ≤ (y 1).val
    · exact ⟨_, .head _, mem_cols inb_S256x2048_S256x128_0_1664 y g1664 (by omega)⟩
    refine there ?_
    by_cases g1536 : 1536 ≤ (y 1).val
    · exact ⟨_, .head _, mem_cols inb_S256x2048_S256x128_0_1536 y g1536 (by omega)⟩
    refine there ?_
    by_cases g1408 : 1408 ≤ (y 1).val
    · exact ⟨_, .head _, mem_cols inb_S256x2048_S256x128_0_1408 y g1408 (by omega)⟩
    refine there ?_
    by_cases g1280 : 1280 ≤ (y 1).val
    · exact ⟨_, .head _, mem_cols inb_S256x2048_S256x128_0_1280 y g1280 (by omega)⟩
    refine there ?_
    by_cases g1152 : 1152 ≤ (y 1).val
    · exact ⟨_, .head _, mem_cols inb_S256x2048_S256x128_0_1152 y g1152 (by omega)⟩
    refine there ?_
    by_cases g1024 : 1024 ≤ (y 1).val
    · exact ⟨_, .head _, mem_cols inb_S256x2048_S256x128_0_1024 y g1024 (by omega)⟩
    refine there ?_
    by_cases g768 : 768 ≤ (y 1).val
    · exact ⟨_, .head _, mem_cols inb_S256x2048_S256x256_0_768 y g768 (by omega)⟩
    refine there ?_
    by_cases g512 : 512 ≤ (y 1).val
    · exact ⟨_, .head _, mem_cols inb_S256x2048_S256x256_0_512 y g512 (by omega)⟩
    refine there ?_
    by_cases g256 : 256 ≤ (y 1).val
    · exact ⟨_, .head _, mem_cols inb_S256x2048_S256x256_0_256 y g256 (by omega)⟩
    refine there ?_
    exact ⟨_, .head _, mem_cols inb_S256x2048_S256x256_0_0 y (Nat.zero_le _) (by omega)⟩
  simp only [h3, ld]
  refine List.forall_mem_cons.mpr ⟨piece_scaled x0 x1 x2 x3 896 1920 7 rfl rfl (by decide) inb_S256x1024_S256x128_0_896 inb_S256x2048_S256x128_0_1920, ?_⟩
  refine List.forall_mem_cons.mpr ⟨piece_scaled x0 x1 x2 x3 768 1792 6 rfl rfl (by decide) inb_S256x1024_S256x128_0_768 inb_S256x2048_S256x128_0_1792, ?_⟩
  refine List.forall_mem_cons.mpr ⟨piece_scaled x0 x1 x2 x3 640 1664 5 rfl rfl (by decide) inb_S256x1024_S256x128_0_640 inb_S256x2048_S256x128_0_1664, ?_⟩
  refine List.forall_mem_cons.mpr ⟨piece_scaled x0 x1 x2 x3 512 1536 4 rfl rfl (by decide) inb_S256x1024_S256x128_0_512 inb_S256x2048_S256x128_0_1536, ?_⟩
  refine List.forall_mem_cons.mpr ⟨piece_scaled x0 x1 x2 x3 384 1408 3 rfl rfl (by decide) inb_S256x1024_S256x128_0_384 inb_S256x2048_S256x128_0_1408, ?_⟩
  refine List.forall_mem_cons.mpr ⟨piece_scaled x0 x1 x2 x3 256 1280 2 rfl rfl (by decide) inb_S256x1024_S256x128_0_256 inb_S256x2048_S256x128_0_1280, ?_⟩
  refine List.forall_mem_cons.mpr ⟨piece_scaled x0 x1 x2 x3 128 1152 1 rfl rfl (by decide) inb_S256x1024_S256x128_0_128 inb_S256x2048_S256x128_0_1152, ?_⟩
  refine List.forall_mem_cons.mpr ⟨piece_scaled x0 x1 x2 x3 0 1024 0 rfl rfl (by decide) inb_S256x1024_S256x128_0_0 inb_S256x2048_S256x128_0_1024, ?_⟩
  refine List.forall_mem_cons.mpr ⟨piece_gated x0 x1 x2 x3 768 3 rfl (by decide) inb_S256x1024_S256x256_0_768 inb_S256x2048_S256x256_0_768, ?_⟩
  refine List.forall_mem_cons.mpr ⟨piece_gated x0 x1 x2 x3 512 2 rfl (by decide) inb_S256x1024_S256x256_0_512 inb_S256x2048_S256x256_0_512, ?_⟩
  refine List.forall_mem_cons.mpr ⟨piece_gated x0 x1 x2 x3 256 1 rfl (by decide) inb_S256x1024_S256x256_0_256 inb_S256x2048_S256x256_0_256, ?_⟩
  refine List.forall_mem_cons.mpr ⟨piece_gated x0 x1 x2 x3 0 0 rfl (by decide) inb_S256x1024_S256x256_0_0 inb_S256x2048_S256x256_0_0, ?_⟩
  exact fun p hp => absurd hp List.not_mem_nil

/-- What a grid point leaves in its output block. -/
theorem out_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (arg5 : Memref sig .tc .vmem S256x2048 .f32) (harg5 : arg5.IsWhole) (arg6 : Memref sig .tc .vmem S2048x2048 .bf16) (harg6 : arg6.IsWhole) (arg7 : Memref sig .tc .vmem S256x2048 .f32) (harg7 : arg7.IsWhole) (arg8 : Memref sig .tc .vmem S256x2048 .bf16) (harg8 : arg8.IsWhole)
    (x0 : Vec Ideal S256x1024 .f32) (x1 : Vec Ideal S256x1024 .f32) (x2 : Vec Ideal S256x1024 .f32) (x3 : Vec Ideal S1x128 .f32) (x4 : Vec Ideal S256x2048 .f32) (x5 : Vec Ideal S2048x2048 .bf16) :
    out0_A_6 c i arg1 harg1 arg2 harg2 arg3 harg3 arg4 harg4 arg5 harg5 arg6 harg6 arg7 harg7 arg8 harg8 x0 x1 x2 x3 x4 x5
      = k0_pay1 x4 (catV x0 x1 x2 x3) (k0_pay21 x5) (constant S256x2048 .f32 0x00000000#32) := by
  unfold out0_A_6 kernelRun0_A
  dsimp only
  unfold VO0_6
  refine (View.read_writes_full (s := S256x2048) _ _ _ _ _).trans ?_
  have h4 : kernelRun0_A.sl.r_10 c arg5 harg5 x4 = x4 := by
    unfold kernelRun0_A.sl.r_10
    exact (View.readAt_full (s := S256x2048) _ _ _).trans (harg5.read_unread _)
  have h5 : kernelRun0_A.sl.r_11 c arg6 harg6 x5 = k0_pay21 x5 := by
    unfold kernelRun0_A.sl.r_11
    exact congrArg _ ((View.readAt_full (s := S2048x2048) _ _ _).trans (harg6.read_unread _))
  have hc : kernelRun0_A.sl.v269 c arg1 harg1 arg2 harg2 arg3 harg3 arg4 harg4 arg8 x0 x1 x2 x3 = catV x0 x1 x2 x3 := by
    unfold kernelRun0_A.sl.v269
    rw [View.readCov_eq_canon', cat_eq]
    funext j
    refine congrArg (catV x0 x1 x2 x3) (funext fun a => Fin.ext ?_)
    match a with
    | ⟨0, _⟩ => show 0 + 1 * (j 0).val = (j 0).val; omega
    | ⟨1, _⟩ => show 0 + 1 * (j 1).val = (j 1).val; omega
  rw [h4, h5, hc]
  rfl

/-- An entry of a block: the residual's plus the merged row against the column. -/
def entry (x4 : Vec Ideal S256x2048 .f32) (y : Vec Ideal S256x2048 .bf16) (x5 : Vec Ideal S2048x2048 .bf16) (r : Fin 256) (l : Fin 2048) : EReal :=
  x4 (ix2 r l) + ∑ k : Fin 2048, (y (ix2 r k) : EReal) * (x5 (ix2 k l) : EReal)

/-- The block's entry. -/
theorem pay (x4 : Vec Ideal S256x2048 .f32) (y : Vec Ideal S256x2048 .bf16) (x5 : Vec Ideal S2048x2048 .bf16) (r : Fin 256) (l : Fin 2048) :
    k0_pay1 x4 y (k0_pay21 x5) (constant S256x2048 .f32 0x00000000#32) (ix2 r l) = entry x4 y x5 r l := by
  pointwise [k0_pay1, k0_pay21]
  rfl

variable (m : (ℓ : Loc nD τ sig) → Buf (Elt Ideal) ℓ)

/-- The weights that the region finds. -/
theorem V2 (c : Dev nD) (a b : Fin 2048) :
    (V m c main_v2 : Vec Ideal S2048x2048 .bf16) (ix2 a b) = (m ((c : Thread nD τ).loc main_arg5) : Vec Ideal S1x2048x2048 .f32) (ix3 (0 : Fin 1) a b) := by
  unfold V
  after_results
  show shapeCast S2048x2048 (m ((c : Thread nD τ).loc main_arg5) : Vec Ideal S1x2048x2048 .f32) shapeCasts_S1x2048x2048_S2048x2048 (ix2 a b) = _
  exact Cert.Kernel2Ideal.Proj.squeeze _ a b

/-- The gain that the region finds. -/
theorem V3 (c : Dev nD) (b : Fin 128) :
    (V m c main_v3 : Vec Ideal S1x128 .f32) (ix2 (0 : Fin 1) b) = (m ((c : Thread nD τ).loc main_arg3) : Vec Ideal S1x128 .f32) (ix2 (0 : Fin 1) b) := by
  unfold V
  after_results
  show shapeCast S1x128 (shapeCast S128 (m ((c : Thread nD τ).loc main_arg3) : Vec Ideal S1x128 .f32) shapeCasts_S1x128_S128) shapeCasts_S128_S1x128 (ix2 0 b) = _
  generalize (m ((c : Thread nD τ).loc main_arg3) : Vec Ideal S1x128 .f32) = w
  pointwise []

/-- The block of window 0 at a point. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The block of window 1 at a point. -/
theorem idx1 : ∀ t : Fin cfg0.N, win0_1.index t 0 = t.val ∧ win0_1.index t 1 = 3 :=
  (by decide +kernel : ∀ t : Fin grid0.N, win0_1.index t 0 = t.val ∧ win0_1.index t 1 = 3)
/-- The block of window 2 at a point. -/
theorem idx2 : ∀ t : Fin cfg0.N, win0_2.index t 0 = t.val ∧ win0_2.index t 1 = 0 :=
  (by decide +kernel : ∀ t : Fin grid0.N, win0_2.index t 0 = t.val ∧ win0_2.index t 1 = 0)
/-- The block of window 3 at a point. -/
theorem idx3 : ∀ t : Fin cfg0.N, win0_3.index t 0 = 0 ∧ win0_3.index t 1 = 0 :=
  (by decide +kernel : ∀ t : Fin grid0.N, win0_3.index t 0 = 0 ∧ win0_3.index t 1 = 0)
/-- The block of window 4 at a point. -/
theorem idx4 : ∀ t : Fin cfg0.N, win0_4.index t 0 = t.val ∧ win0_4.index t 1 = 0 :=
  (by decide +kernel : ∀ t : Fin grid0.N, win0_4.index t 0 = t.val ∧ win0_4.index t 1 = 0)
/-- The block of window 5 at a point. -/
theorem idx5 : ∀ t : Fin cfg0.N, win0_5.index t 0 = 0 ∧ win0_5.index t 1 = 0 :=
  (by decide +kernel : ∀ t : Fin grid0.N, win0_5.index t 0 = 0 ∧ win0_5.index t 1 = 0)
/-- The block of window 6 at a point. -/
theorem idx6 : ∀ t : Fin cfg0.N, win0_6.index t 0 = t.val ∧ win0_6.index t 1 = 0 :=
  (by decide +kernel : ∀ t : Fin grid0.N, win0_6.index t 0 = t.val ∧ win0_6.index t 1 = 0)

/-- The rows of argument 0 that point `t` reads. -/
theorem iblk0 (c : Dev nD) (t : Fin cfg0.N) (r : Fin 256) (k : Fin 1024) (R : Fin 16384) (K : Fin 1024) (hR : R.val = 256 * t.val + r.val) (hK : K.val = 0 + k.val) :
    (iblk m c 0 t : Vec Ideal S256x1024 .f32) (ix2 r k) = (m ((c : Thread nD τ).loc main_arg0) : Vec Ideal S16384x1024 .f32) (ix2 R K) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = R.val; rw [hi.1]; omega
  | ⟨1, _⟩ => show win0_0.index t 1 * 1024 + 1 * k.val = K.val; rw [hi.2]; omega

/-- The rows of argument 1 that point `t` reads. -/
theorem iblk1 (c : Dev nD) (t : Fin cfg0.N) (r : Fin 256) (k : Fin 1024) (R : Fin 16384) (K : Fin 7168) (hR : R.val = 256 * t.val + r.val) (hK : K.val = 3072 + k.val) :
    (iblk m c 1 t : Vec Ideal S256x1024 .f32) (ix2 r k) = (m ((c : Thread nD τ).loc main_arg1) : Vec Ideal S16384x7168 .f32) (ix2 R K) := by
  have hi := idx1 t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = R.val; rw [hi.1]; omega
  | ⟨1, _⟩ => show win0_1.index t 1 * 1024 + 1 * k.val = K.val; rw [hi.2]; omega

/-- The rows of argument 2 that point `t` reads. -/
theorem iblk2 (c : Dev nD) (t : Fin cfg0.N) (r : Fin 256) (k : Fin 1024) (R : Fin 16384) (K : Fin 1024) (hR : R.val = 256 * t.val + r.val) (hK : K.val = 0 + k.val) :
    (iblk m c 2 t : Vec Ideal S256x1024 .f32) (ix2 r k) = (m ((c : Thread nD τ).loc main_arg2) : Vec Ideal S16384x1024 .f32) (ix2 R K) := by
  have hi := idx2 t
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * r.val = R.val; rw [hi.1]; omega
  | ⟨1, _⟩ => show win0_2.index t 1 * 1024 + 1 * k.val = K.val; rw [hi.2]; omega

/-- The rows of argument 4 that point `t` reads. -/
theorem iblk4 (c : Dev nD) (t : Fin cfg0.N) (r : Fin 256) (k : Fin 2048) (R : Fin 16384) (K : Fin 2048) (hR : R.val = 256 * t.val + r.val) (hK : K.val = 0 + k.val) :
    (iblk m c 4 t : Vec Ideal S256x2048 .f32) (ix2 r k) = (m ((c : Thread nD τ).loc main_arg4) : Vec Ideal S16384x2048 .f32) (ix2 R K) := by
  have hi := idx4 t
  unfold iblk
  rw [View.read_apply]
  show V m c main_arg4 _ = m (c.tc.loc main_arg4) _
  rw [V_main_arg4]
  congr 1
  funext a
  apply Fin.ext
  match a with
  | ⟨0, _⟩ => show win0_4.index t 0 * 256 + 1 * r.val = R.val; rw [hi.1]; omega
  | ⟨1, _⟩ => show win0_4.index t 1 * 2048 + 1 * k.val = K.val; rw [hi.2]; omega

/-- Every point reads the gain. -/
theorem iblk3 (c : Dev nD) (t : Fin cfg0.N) (k : Fin 128) :
    (iblk m c 3 t : Vec Ideal S1x128 .f32) (ix2 (0 : Fin 1) k) = (m ((c : Thread nD τ).loc main_arg3) : Vec Ideal S1x128 .f32) (ix2 (0 : Fin 1) k) := by
  have hi := idx3 t
  refine Eq.trans ?_ (V3 m c k)
  unfold iblk
  rw [View.read_apply]
  show V m c main_v3 _ = V m c main_v3 _
  congr 1
  funext a
  apply Fin.ext
  match a with
  | ⟨0, _⟩ => show win0_3.index t 0 * 1 + 1 * 0 = 0; rw [hi.1]
  | ⟨1, _⟩ => show win0_3.index t 1 * 128 + 1 * k.val = k.val; rw [hi.2]; omega

/-- Every point reads all the weights. -/
theorem iblk5 (c : Dev nD) (t : Fin cfg0.N) (k l : Fin 2048) :
    (iblk m c 5 t : Vec Ideal S2048x2048 .bf16) (ix2 k l) = (m ((c : Thread nD τ).loc main_arg5) : Vec Ideal S1x2048x2048 .f32) (ix3 (0 : Fin 1) k l) := by
  have hi := idx5 t
  refine Eq.trans ?_ (V2 m c k l)
  unfold iblk
  rw [View.read_apply]
  show V m c main_v2 _ = V m c main_v2 _
  congr 1
  funext a
  apply Fin.ext
  match a with
  | ⟨0, _⟩ => show win0_5.index t 0 * 2048 + 1 * k.val = k.val; rw [hi.1]; omega
  | ⟨1, _⟩ => show win0_5.index t 1 * 2048 + 1 * l.val = l.val; rw [hi.2]; omega

/-- The merged rows of a point are those of the arguments. -/
theorem catV_iblk (c : Dev nD) (t : Fin cfg0.N) (r : Fin 256) (k : Fin 2048) (R : Fin 16384) (hR : R.val = 256 * t.val + r.val) :
    catV (iblk m c 0 t) (iblk m c 1 t) (iblk m c 2 t) (iblk m c 3 t) (ix2 r k)
      = cat (fun l => (m ((c : Thread nD τ).loc main_arg0) : Vec Ideal S16384x1024 .f32) (ix2 R l))
          (fun l => (m ((c : Thread nD τ).loc main_arg1) : Vec Ideal S16384x7168 .f32) (ix2 R (⟨3072 + l.val, by omega⟩ : Fin 7168)))
          (fun l => (m ((c : Thread nD τ).loc main_arg2) : Vec Ideal S16384x1024 .f32) (ix2 R l))
          (fun l => (m ((c : Thread nD τ).loc main_arg3) : Vec Ideal S1x128 .f32) (ix2 (0 : Fin 1) l)) k := by
  show cat (fun l => (iblk m c 0 t : Vec Ideal S256x1024 .f32) (ix2 r l)) (fun l => (iblk m c 1 t : Vec Ideal S256x1024 .f32) (ix2 r l))
    (fun l => (iblk m c 2 t : Vec Ideal S256x1024 .f32) (ix2 r l)) (fun l => (iblk m c 3 t : Vec Ideal S1x128 .f32) (ix2 (0 : Fin 1) l)) k = _
  congr 1
  · funext l; exact iblk0 m c t r l R l hR (Nat.zero_add _).symm
  · funext l; exact iblk1 m c t r l R _ hR rfl
  · funext l; exact iblk2 m c t r l R l hR (Nat.zero_add _).symm
  · funext l; exact iblk3 m c t l

/-- Each write-back writes its block of `G`. -/
theorem flushed_eq (c : Dev nD) (t : Fin cfg0.N) (hf : (cfg0.win 6).flush t = true) :
    (dats m 0 c).flushed 6 t = ((cfg0.win 6).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  have hi := idx6 t
  have hN : t.val < 64 := lt_of_lt_of_eq t.isLt (show cfg0.N = 64 from N_0)
  rw [Value.flushed6_A m c t, out_A]
  funext j
  obtain ⟨r, l, rfl⟩ : ∃ (r : Fin 256) (l : Fin 2048), j = ix2 r l := ⟨j 0, j 1, eq_ix2 (n0 := 256) (n1 := 2048) j⟩
  rw [View.read_apply]
  refine (pay _ _ _ r l).trans ?_
  have h0 : ∀ i : S16384x2048.Idx, (i 0).val = 256 * t.val + r.val → (i 1).val = l.val →
      entry (iblk m c 4 t) (catV (iblk m c 0 t) (iblk m c 1 t) (iblk m c 2 t) (iblk m c 3 t)) (iblk m c 5 t) r l
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) i := by
    intro i e0 e1
    obtain ⟨R, L, rfl⟩ : ∃ (R : Fin 16384) (L : Fin 2048), i = ix2 R L := ⟨i 0, i 1, eq_ix2 (n0 := 16384) (n1 := 2048) i⟩
    have hR : R.val = 256 * t.val + r.val := e0
    obtain rfl : L = l := Fin.ext e1
    unfold entry G
    refine congrArg₂ _ (iblk4 m c t r L R L hR (Nat.zero_add _).symm) (Finset.sum_congr rfl fun k _ => ?_)
    exact congrArg₂ _ (catV_iblk m c t r k R hR) (iblk5 m c t k L)
  refine h0 _ ?_ ?_
  · show win0_6.index t 0 * 256 + 1 * r.val = _
    rw [hi.1]; omega
  · show win0_6.index t 1 * 2048 + 1 * l.val = _
    rw [hi.2]; omega

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (flushed_eq m c) fun i => by
    have h0 : ((i : S16384x2048.Idx) 0).val < 16384 := (i 0).isLt
    have h1 : ((i : S16384x2048.Idx) 1).val < 2048 := (i 1).isLt
    have hN : cfg0.N = 64 := N_0
    refine ⟨⟨(i 0).val / 256, by rw [hN]; omega⟩, flush0_6 _, ?_⟩
    generalize ht : (⟨(i 0).val / 256, _⟩ : Fin cfg0.N) = t
    have hv : t.val = (i 0).val / 256 := by rw [← ht]
    have hi := idx6 t
    show i ∈ ((View.whole main_v4).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [hi.1]; omega
    | ⟨1, _⟩ => show win0_6.index t 1 * 2048 ≤ (i 1 : Nat) ∧ (i 1 : Nat) < win0_6.index t 1 * 2048 + 2048
                rw [hi.2]; omega

end Cert.Kernel5Ideal.Proj

namespace Cert.Reference5Ideal.Proj
open Cert.Reference5Ideal Cert.Reference5Ideal.Gen Idealize.ShloMosaic Cert.Reference5Ideal.Read Cert.Reference2Ideal.Proj

/-- The word of one is one. -/
theorem one_word : (FloatOps.ofBits (F := Ideal) .f32 0x3F800000#32 : EReal) = 1 := by pointwise []

/-- The gated heads of a row. -/
theorem ret_eq (ro : Vec Ideal S16384x1024 .f32) (p : Vec Ideal S16384x7168 .f32) (a : Fin 16384) (h : Fin 4) (l : Fin 256) :
    val_main_v15 (F := Ideal) ro p (ix3 a h l)
      = Cert.Kernel5Ideal.Proj.gated (fun l => ro (ix2 a (Fin.ofNat 1024 (256 * h.val + l.val))))
          (fun l => p (ix2 a (⟨3072 + (Fin.ofNat 1024 (256 * h.val + l.val)).val, by have := (Fin.ofNat 1024 (256 * h.val + l.val)).isLt; omega⟩ : Fin 7168))) l := by
  have e0 : ∀ l : Fin 256, idx_main_v0 (ix3 a h l) = ix2 a (Fin.ofNat 1024 (256 * h.val + l.val)) := fun l => by
    have hl := l.isLt
    have hh := h.isLt
    funext q; apply Fin.ext
    match q with
    | ⟨0, _⟩ => show ((a.val * 4 + h.val) * 256 + l.val) / 1024 = a.val; omega
    | ⟨1, _⟩ => show ((a.val * 4 + h.val) * 256 + l.val) % 1024 = (256 * h.val + l.val) % 1024; omega
  have e1 : idx_main_v1 (idx_main_v2 (ix3 a h l)) = ix2 a (⟨3072 + (Fin.ofNat 1024 (256 * h.val + l.val)).val, by have := (Fin.ofNat 1024 (256 * h.val + l.val)).isLt; omega⟩ : Fin 7168) := by
    have hl := l.isLt
    have hh := h.isLt
    funext q; apply Fin.ext
    match q with
    | ⟨0, _⟩ => show ((a.val * 4 + h.val) * 256 + l.val) / 1024 = a.val; omega
    | ⟨1, _⟩ => show 3072 + ((a.val * 4 + h.val) * 256 + l.val) % 1024 = 3072 + (256 * h.val + l.val) % 1024; omega
  have e2 : ∀ k : Fin 256, idx_main_v5 (idx_main_v6 (idx_main_v12 (ix3 a h l))) k = ix3 a h k := fun k => by
    funext q
    match q with
    | ⟨0, _⟩ => rfl
    | ⟨1, _⟩ => rfl
    | ⟨2, _⟩ => rfl
  simp only [val_main_v15_apply, val_main_v14_apply, val_main_v13_apply, val_main_v12_apply, val_main_v11_apply, val_main_v10_apply, val_main_v9_apply, val_main_v8_apply,
    val_main_v7_apply, val_main_v6_apply, val_main_v5_apply, val_main_v4_apply, val_main_v2_apply, val_main_v1_apply, val_main_v0_apply, val_main_cst_apply, val_main_cst_0_apply, val_main_cst_1_apply,
    val_main_call0_v0_apply, val_main_call0_v1_apply, val_main_call0_v2_apply, val_main_call0_v3_apply, val_main_call0_v4_apply, val_main_call0_v5_apply, val_main_call0_cst_apply, val_main_call0_cst_0_apply]
  simp only [e2, e0, e1]
  rw [zero_word, one_word]
  unfold Cert.Kernel5Ideal.Proj.gated
  rw [zero_sub]
  rfl

/-- The scaled heads of a row. -/
theorem dif_eq (d : Vec Ideal S16384x1024 .f32) (s : Vec Ideal S1x128 .f32) (a : Fin 16384) (h : Fin 8) (l : Fin 128) :
    val_main_v31 (F := Ideal) d s (ix3 a h l)
      = Cert.Kernel5Ideal.Proj.scaled (fun l => d (ix2 a (Fin.ofNat 1024 (128 * h.val + l.val)))) (fun l => s (ix2 (0 : Fin 1) l)) l := by
  have e0 : ∀ l : Fin 128, idx_main_v3 (ix3 a h l) = ix2 a (Fin.ofNat 1024 (128 * h.val + l.val)) := fun l => by
    have hl := l.isLt
    have hh := h.isLt
    funext q; apply Fin.ext
    match q with
    | ⟨0, _⟩ => show ((a.val * 8 + h.val) * 128 + l.val) / 1024 = a.val; omega
    | ⟨1, _⟩ => show ((a.val * 8 + h.val) * 128 + l.val) % 1024 = (128 * h.val + l.val) % 1024; omega
  have e1 : idx_main_v16 (idx_main_v27 (idx_main_v28 (ix3 a h l))) = ix2 (0 : Fin 1) l := by
    funext q; apply Fin.ext
    match q with
    | ⟨0, _⟩ => rfl
    | ⟨1, _⟩ => exact Nat.mod_eq_of_lt l.isLt
  have e2 : ∀ k : Fin 128, idx_main_v18 (idx_main_v19 (idx_main_v25 (ix3 a h l))) k = ix3 a h k := fun k => by
    funext q
    match q with
    | ⟨0, _⟩ => rfl
    | ⟨1, _⟩ => rfl
    | ⟨2, _⟩ => rfl
  simp only [val_main_v31_apply, val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_v18_apply, val_main_v17_apply, val_main_v16_apply, val_main_v3_apply,
    val_main_cst_2_apply, val_main_cst_3_apply, val_main_cst_4_apply, val_main_cst_5_apply]
  simp only [e2, e0, e1]
  rw [zero_word]
  rfl

/-- The reference's merged rows. -/
theorem cat_eq (ro : Vec Ideal S16384x1024 .f32) (p : Vec Ideal S16384x7168 .f32) (d : Vec Ideal S16384x1024 .f32) (s : Vec Ideal S1x128 .f32) (a : Fin 16384) (k : Fin 2048) :
    val_main_v34 (F := Ideal) ro p d s (ix2 a k)
      = Cert.Kernel5Ideal.Proj.cat (fun l => ro (ix2 a l)) (fun l => p (ix2 a (⟨3072 + l.val, by omega⟩ : Fin 7168))) (fun l => d (ix2 a l)) (fun l => s (ix2 (0 : Fin 1) l)) k := by
  have hk := k.isLt
  unfold val_main_v34 Cert.Kernel5Ideal.Proj.cat
  split
  case isTrue h =>
    refine (concatenate_pair_apply_left (t := S16384x2048) (s₁ := S16384x1024) (s₂ := S16384x1024) 1 _ _ _ (ix2 a k) rfl (ix2 a (⟨k.val, h⟩ : Fin 1024)) (fun b => match b with | ⟨0, _⟩ => rfl | ⟨1, _⟩ => rfl)).trans ?_
    rw [val_main_v32_apply]
    refine (congrArg _ ?_).trans (ret_eq ro p a (⟨k.val / 256, by omega⟩ : Fin 4) (Fin.ofNat 256 k.val))
    funext q; apply Fin.ext
    match q with
    | ⟨0, _⟩ => show (a.val * 1024 + k.val) / 1024 = a.val; omega
    | ⟨1, _⟩ => show (a.val * 1024 + k.val) / 256 % 4 = k.val / 256; omega
    | ⟨2, _⟩ => show (a.val * 1024 + k.val) % 256 = k.val % 256; omega
  case isFalse h =>
    refine (concatenate_pair_apply_right (t := S16384x2048) (s₁ := S16384x1024) (s₂ := S16384x1024) 1 _ _ _ (ix2 a k) rfl rfl (ix2 a (⟨k.val - 1024, by omega⟩ : Fin 1024))
      (fun b hb => match b with | ⟨0, _⟩ => rfl | ⟨1, _⟩ => absurd rfl hb) (show k.val - 1024 + 1024 = k.val by omega)).trans ?_
    rw [val_main_v33_apply]
    refine (congrArg _ ?_).trans (dif_eq d s a (⟨(k.val - 1024) / 128, by omega⟩ : Fin 8) (Fin.ofNat 128 k.val))
    funext q; apply Fin.ext
    match q with
    | ⟨0, _⟩ => show (a.val * 1024 + (k.val - 1024)) / 1024 = a.val; omega
    | ⟨1, _⟩ => show (a.val * 1024 + (k.val - 1024)) / 128 % 8 = (k.val - 1024) / 128; omega
    | ⟨2, _⟩ => show (a.val * 1024 + (k.val - 1024)) % 128 = k.val % 128; omega

/-- The reference's result is the same function. -/
theorem out_eq (ro : Vec Ideal S16384x1024 .f32) (p : Vec Ideal S16384x7168 .f32) (d : Vec Ideal S16384x1024 .f32) (s : Vec Ideal S1x128 .f32)
    (x : Vec Ideal S16384x2048 .f32) (w : Vec Ideal S1x2048x2048 .f32) :
    val_main_v37 (F := Ideal) ro p d s x w = Cert.Kernel5Ideal.Proj.G ro p d s x w := by
  funext i
  obtain ⟨a, b, rfl⟩ : ∃ (a : Fin 16384) (b : Fin 2048), i = ix2 a b := ⟨i 0, i 1, eq_ix2 (n0 := 16384) (n1 := 2048) i⟩
  rw [val_main_v37_apply, val_main_v36_apply]
  have e1 : ∀ k : Fin 2048, lidx_main_v36 (ix2 a b) k = ix2 a k := fun k => eq_ix2 (n0 := 16384) (n1 := 2048) _
  have e4 : ∀ k : Fin 2048, idx_main_v35 (ridx_main_v36 (ix2 a b) k) = ix3 (0 : Fin 1) k b := fun k => by
    have hk := k.isLt
    have hb := b.isLt
    funext q; apply Fin.ext
    match q with
    | ⟨0, _⟩ => rfl
    | ⟨1, _⟩ => show (k.val * 2048 + b.val) / 2048 % 2048 = k.val; omega
    | ⟨2, _⟩ => show (k.val * 2048 + b.val) % 2048 = b.val; omega
  unfold Cert.Kernel5Ideal.Proj.G
  refine congrArg₂ _ rfl (Finset.sum_congr rfl fun k _ => ?_)
  rw [val_main_v35_apply, e1, e4, cat_eq]
  rfl

end Cert.Reference5Ideal.Proj
end
-- ==== Proof.Proj6.lean ====
/-
  The projection of the normalised rows against the input weights, segment by segment: two rotated retention segments, the second
  of them scaled, two rotated attention segments, and three left as they are.
-/
module

public import proofs.«01_k».proof.Proof.Gen.Kernel6Ideal.Value
public import proofs.«01_k».proof.Proof.Gen.Reference6Ideal.Read
public import proofs.«01_k».proof.Proof.Proj5
public import Idealize.ShloMosaic.Lib.ValueIdx
public import Idealize.ShloMosaic.Lib.Pointwise
public import Idealize.ShloMosaic.Lib.VecWindow
public import Idealize.ShloMosaic.Lib.KernelVsHost
public import Idealize.ShloMosaic.Lib.Pipeline.Value

@[expose] public section
noncomputable section
namespace Cert.Kernel6Ideal.Proj
open Cert.Kernel6Ideal Cert.Kernel6Ideal.Gen Idealize.ShloMosaic Idealize.ShloMosaic.TcCoe Idealize.SL.Sem Idealize.ShloMosaic.Tactic
open Idealize.ShloMosaic.Pipeline (Dat)

/-- A row divided by its root mean square, times the gain. -/
def normed (x g : Fin 2048 → EReal) (k : Fin 2048) : EReal :=
  x k * Ideal.rsqrt (Ideal.div (∑ k, x k * x k) (Ideal.ofBits .f32 0x45000000#32) + Ideal.ofBits .f32 0x358637BD#32) * g k

/-- A segment's row rotated by heads of 256, then scaled. -/
def wide (p : Fin 1024 → EReal) (c s : Fin 128 → EReal) (z : EReal) (l : Fin 1024) : EReal :=
  if l.val % 256 < 128 then (p l * c (Fin.ofNat 128 l.val) - p (Fin.ofNat 1024 (l.val + 128)) * s (Fin.ofNat 128 l.val)) * z
  else (p l * c (Fin.ofNat 128 l.val) + p (Fin.ofNat 1024 (l.val - 128)) * s (Fin.ofNat 128 l.val)) * z

/-- A segment's row with each entry's partner in its half head of 64 times a signed sine. -/
def narrow (p : Fin 1024 → EReal) (c s : Fin 128 → EReal) (l : Fin 1024) : EReal :=
  p l * c (Fin.ofNat 128 l.val)
    + (if l.val % 64 < 32 then p (Fin.ofNat 1024 (l.val + 32)) else p (Fin.ofNat 1024 (l.val - 32))) * s (Fin.ofNat 128 l.val)

/-- The block of a rotated retention segment. -/
def wideV (p : Vec Ideal S512x1024 .f32) (c s : Vec Ideal S512x128 .f32) (z : EReal) : Vec Ideal S512x1024 .f32 := fun j =>
  wide (fun l => p (ix2 (j 0 : Fin 512) l)) (fun l => c (ix2 (j 0 : Fin 512) l)) (fun l => s (ix2 (j 0 : Fin 512) l)) z (j 1 : Fin 1024)

/-- The block of a rotated attention segment. -/
def narrowV (p : Vec Ideal S512x1024 .f32) (c s : Vec Ideal S512x128 .f32) : Vec Ideal S512x1024 .f32 := fun j =>
  narrow (fun l => p (ix2 (j 0 : Fin 512) l)) (fun l => c (ix2 (j 0 : Fin 512) l)) (fun l => s (ix2 (j 0 : Fin 512) l)) (j 1 : Fin 1024)

/-- The normalised rows of a block, entry by entry. -/
theorem pay_norm (x : Vec Ideal S512x2048 .f32) (g : Vec Ideal S1x2048 .f32) (r : Fin 512) (k : Fin 2048) :
    k0_pay1 x g (ix2 r k) = normed (fun k => x (ix2 r k)) (fun k => g (ix2 (0 : Fin 1) k)) k := by
  pointwise [k0_pay1]
  rfl

/-- An entry of a product of rows and weights. -/
def prod (n : Vec Ideal S512x2048 .bf16) (w : Vec Ideal S2048x1024 .bf16) (r : Fin 512) (l : Fin 1024) : EReal :=
  ∑ k : Fin 2048, (n (ix2 r k) : EReal) * (w (ix2 k l) : EReal)

/-- The product's entry. -/
theorem pay_prod (n : Vec Ideal S512x2048 .bf16) (w : Vec Ideal S2048x1024 .bf16) (r : Fin 512) (l : Fin 1024) :
    k0_pay13 n w (ix2 r l) = prod n w r l := by
  pointwise [k0_pay13]
  rfl

/-- The cosines as loaded. -/
theorem pay_cos (x : Vec Ideal S512x128 .f32) : k0_pay14 x = x := by
  funext j
  obtain ⟨r, l, rfl⟩ : ∃ (r : Fin 512) (l : Fin 128), j = ix2 r l := ⟨j 0, j 1, eq_ix2 (n0 := 512) (n1 := 128) j⟩
  pointwise [k0_pay14]

/-- A window of columns of a block. -/
theorem cut_apply (p : Vec Ideal S512x1024 .f32) (o : ℕ) (h : S512x1024.Slices ![0, o] S512x128) (r : Fin 512) (l : Fin 128) (L : Fin 1024) (hL : L.val = o + l.val) :
    extractStridedSlice S512x128 ![0, o] p h (ix2 r l) = p (ix2 r L) :=
  extractStridedSlice_apply (![0, o] : Fin 2 → ℕ) p h (ix2 r l) (ix2 r L) fun a => match a with
    | ⟨0, _⟩ => by show r.val = 0 + r.val; omega
    | ⟨1, _⟩ => by show L.val = o + l.val; exact hL

/-- The first half of retention head `h` is its part of the rotated segment. -/
theorem piece_lo (p : FVec Ideal S512x1024 .f32) (c s : FVec Ideal S512x128 .f32) (z : EReal) (o q h : ℕ) (ho : o = 256 * h) (hq : q = 256 * h + 128) (hh : h < 4)
    (so : S512x1024.Slices ![0, o] S512x128) (sq : S512x1024.Slices ![0, q] S512x128)
    (inb : ∀ a, (![0, o] : Fin 2 → ℕ) a + S512x128.size a ≤ S512x1024.size a) (y : S512x128.Idx) :
    (mulf (subf (mulf (extractStridedSlice S512x128 ![0, o] p so) c) (mulf (extractStridedSlice S512x128 ![0, q] p sq) s)) (broadcast S512x128 z) : FVec Ideal S512x128 .f32) y
      = wideV p c s z ((Rect.unit (s := S512x1024) ![0, o] S512x128.size inb).emb y) := by
  obtain ⟨r, l, rfl⟩ : ∃ (r : Fin 512) (l : Fin 128), y = ix2 r l := ⟨y 0, y 1, eq_ix2 (n0 := 512) (n1 := 128) y⟩
  have hl := l.isLt
  have e0 : ((Rect.unit (s := S512x1024) ![0, o] S512x128.size inb).emb (ix2 r l) 0 : Fin 512) = r := Fin.ext (show 0 + 1 * r.val = r.val by omega)
  have e1 : ((Rect.unit (s := S512x1024) ![0, o] S512x128.size inb).emb (ix2 r l) 1 : Fin 1024) = (⟨o + l.val, by omega⟩ : Fin 1024) := Fin.ext (show o + 1 * l.val = o + l.val by omega)
  unfold wideV
  rw [e0, e1]
  unfold wide
  rw [if_pos (show (o + l.val) % 256 < 128 by omega)]
  have ec : (Fin.ofNat 128 (o + l.val)) = l := Fin.ext (show (o + l.val) % 128 = l.val by omega)
  show (extractStridedSlice S512x128 ![0, o] p so (ix2 r l) * c (ix2 r l) - extractStridedSlice S512x128 ![0, q] p sq (ix2 r l) * s (ix2 r l)) * z = _
  rw [cut_apply p o so r l (⟨o + l.val, by omega⟩ : Fin 1024) rfl, cut_apply p q sq r l (Fin.ofNat 1024 (o + l.val + 128)) (show (o + l.val + 128) % 1024 = q + l.val by omega)]
  show _ = (_ * c (ix2 r (Fin.ofNat 128 (o + l.val))) - _ * s (ix2 r (Fin.ofNat 128 (o + l.val)))) * z
  rw [ec]

/-- The second half of retention head `h` is its part of the rotated segment. -/
theorem piece_hi (p : FVec Ideal S512x1024 .f32) (c s : FVec Ideal S512x128 .f32) (z : EReal) (o q h : ℕ) (ho : o = 256 * h) (hq : q = 256 * h + 128) (hh : h < 4)
    (so : S512x1024.Slices ![0, o] S512x128) (sq : S512x1024.Slices ![0, q] S512x128)
    (inb : ∀ a, (![0, q] : Fin 2 → ℕ) a + S512x128.size a ≤ S512x1024.size a) (y : S512x128.Idx) :
    (mulf (addf (mulf (extractStridedSlice S512x128 ![0, q] p sq) c) (mulf (extractStridedSlice S512x128 ![0, o] p so) s)) (broadcast S512x128 z) : FVec Ideal S512x128 .f32) y
      = wideV p c s z ((Rect.unit (s := S512x1024) ![0, q] S512x128.size inb).emb y) := by
  obtain ⟨r, l, rfl⟩ : ∃ (r : Fin 512) (l : Fin 128), y = ix2 r l := ⟨y 0, y 1, eq_ix2 (n0 := 512) (n1 := 128) y⟩
  have hl := l.isLt
  have e0 : ((Rect.unit (s := S512x1024) ![0, q] S512x128.size inb).emb (ix2 r l) 0 : Fin 512) = r := Fin.ext (show 0 + 1 * r.val = r.val by omega)
  have e1 : ((Rect.unit (s := S512x1024) ![0, q] S512x128.size inb).emb (ix2 r l) 1 : Fin 1024) = (⟨q + l.val, by omega⟩ : Fin 1024) := Fin.ext (show q + 1 * l.val = q + l.val by omega)
  unfold wideV
  rw [e0, e1]
  unfold wide
  rw [if_neg (show ¬ (q + l.val) % 256 < 128 by omega)]
  have ec : (Fin.ofNat 128 (q + l.val)) = l := Fin.ext (show (q + l.val) % 128 = l.val by omega)
  show (extractStridedSlice S512x128 ![0, q] p sq (ix2 r l) * c (ix2 r l) + extractStridedSlice S512x128 ![0, o] p so (ix2 r l) * s (ix2 r l)) * z = _
  rw [cut_apply p q sq r l (⟨q + l.val, by omega⟩ : Fin 1024) rfl, cut_apply p o so r l (Fin.ofNat 1024 (q + l.val - 128)) (show (q + l.val - 128) % 1024 = o + l.val by omega)]
  show _ = (_ * c (ix2 r (Fin.ofNat 128 (q + l.val))) + _ * s (ix2 r (Fin.ofNat 128 (q + l.val)))) * z
  rw [ec]

/-- Which lanes lie in the first half of their half head. -/
theorem lanes (r : Fin 512) (l : Fin 128) : (k0_pay28 (ix2 r l) = 1) = (l.val % 64 < 32) := by
  pointwise [k0_pay28]
  revert l
  decide +kernel

/-- Lanes `128h` and on of a rotated attention segment. -/
theorem piece_nar (p : FVec Ideal S512x1024 .f32) (c s : FVec Ideal S512x128 .f32) (o h : ℕ) (ho : o = 128 * h) (hh : h < 8)
    (so : S512x1024.Slices ![0, o] S512x128) (inb : ∀ a, (![0, o] : Fin 2 → ℕ) a + S512x128.size a ≤ S512x1024.size a) (y : S512x128.Idx) :
    (addf (mulf (extractStridedSlice S512x128 ![0, o] p so) c)
      (mulf (select k0_pay28 (dynamicRotate 1 96#32 none (extractStridedSlice S512x128 ![0, o] p so) rotates_S512x128_d1)
        (dynamicRotate 1 32#32 none (extractStridedSlice S512x128 ![0, o] p so) rotates_S512x128_d1)) s) : FVec Ideal S512x128 .f32) y
      = narrowV p c s ((Rect.unit (s := S512x1024) ![0, o] S512x128.size inb).emb y) := by
  obtain ⟨r, l, rfl⟩ : ∃ (r : Fin 512) (l : Fin 128), y = ix2 r l := ⟨y 0, y 1, eq_ix2 (n0 := 512) (n1 := 128) y⟩
  have hl := l.isLt
  have e0 : ((Rect.unit (s := S512x1024) ![0, o] S512x128.size inb).emb (ix2 r l) 0 : Fin 512) = r := Fin.ext (show 0 + 1 * r.val = r.val by omega)
  have e1 : ((Rect.unit (s := S512x1024) ![0, o] S512x128.size inb).emb (ix2 r l) 1 : Fin 1024) = (⟨o + l.val, by omega⟩ : Fin 1024) := Fin.ext (show o + 1 * l.val = o + l.val by omega)
  unfold narrowV
  rw [e0, e1]
  unfold narrow
  have ec : (Fin.ofNat 128 (o + l.val)) = l := Fin.ext (show (o + l.val) % 128 = l.val by omega)
  show (extractStridedSlice S512x128 ![0, o] p so (ix2 r l) * c (ix2 r l) + (if k0_pay28 (ix2 r l) = 1 then dynamicRotate 1 96#32 none (extractStridedSlice S512x128 ![0, o] p so) rotates_S512x128_d1 (ix2 r l)
    else dynamicRotate 1 32#32 none (extractStridedSlice S512x128 ![0, o] p so) rotates_S512x128_d1 (ix2 r l)) * s (ix2 r l) : EReal)
    = p (ix2 r (⟨o + l.val, by omega⟩ : Fin 1024)) * c (ix2 r (Fin.ofNat 128 (o + l.val))) + (if (o + l.val) % 64 < 32 then _ else _) * s (ix2 r (Fin.ofNat 128 (o + l.val)))
  rw [ec, cut_apply p o so r l (⟨o + l.val, by omega⟩ : Fin 1024) rfl]
  refine congrArg₂ (fun a b : EReal => a + b) rfl (congrArg₂ (fun a b : EReal => a * b) ?_ rfl)
  simp only [lanes r l]
  by_cases hm : l.val % 64 < 32
  · rw [if_pos hm, if_pos (show (o + l.val) % 64 < 32 by omega)]
    rw [dynamicRotate_apply 1 96#32 _ rotates_S512x128_d1 (ix2 r l) (ix2 r (⟨l.val + 32, by omega⟩ : Fin 128)) (fun b => match b with
      | ⟨0, _⟩ => rfl
      | ⟨1, _⟩ => by show l.val + 32 = (l.val + 128 - 96 % 128) % 128; omega)]
    exact cut_apply p o so r _ _ (show (o + l.val + 32) % 1024 = o + (l.val + 32) by omega)
  · rw [if_neg hm, if_neg (show ¬ (o + l.val) % 64 < 32 by omega)]
    rw [dynamicRotate_apply 1 32#32 _ rotates_S512x128_d1 (ix2 r l) (ix2 r (⟨l.val - 32, by omega⟩ : Fin 128)) (fun b => match b with
      | ⟨0, _⟩ => rfl
      | ⟨1, _⟩ => by show l.val - 32 = (l.val + 128 - 32 % 128) % 128; omega)]
    exact cut_apply p o so r _ _ (show (o + l.val - 32) % 1024 = o + (l.val - 32) by omega)

section Points
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1024 .f32) (harg9 : arg9.IsWhole) (arg10 : Memref sig .tc .vmem S512x2048 .bf16) (harg10 : arg10.IsWhole)
  (x0 : Vec Ideal S512x2048 .f32) (x1 : Vec Ideal S1x2048 .f32) (x2 : Vec Ideal S2048x1024 .bf16) (x3 x4 x5 x6 : Vec Ideal S512x128 .f32) (n : Vec Ideal S512x2048 .bf16)

/-- What the first point of a row block leaves in its output block. -/
theorem out_A (hc0 : cond0_0 i) (hc1 : cond0_1 i) (hc2 : ¬cond0_2 i) (hc3 : ¬cond0_3 i) :
    out0_A_7 c i arg2 harg2 arg3 harg3 arg4 harg4 arg5 harg5 arg6 harg6 arg7 harg7 arg8 harg8 arg9 harg9 arg10 harg10 hc0 hc1 hc2 hc3 x0 x1 x2 x3 x4 x5 x6 = wideV (k0_pay13 (k0_pay1 x0 x1) x2) (k0_pay14 x3) (k0_pay14 x4) (k0_pay16 (F := Ideal) (BitVec.ofNat 32 (i 1).val)) := by
  funext y
  unfold out0_A_7
  refine View.read_writes_apply_of_pieces _ _ (wideV (k0_pay13 (k0_pay1 x0 x1) x2) (k0_pay14 x3) (k0_pay14 x4) (k0_pay16 (F := Ideal) (BitVec.ofNat 32 (i 1).val))) _ ?_ y (cover0_A_7 c i arg2 harg2 arg3 harg3 arg4 harg4 arg5 harg5 arg6 harg6 arg7 harg7 arg8 harg8 arg9 harg9 arg10 harg10 hc0 hc1 hc2 hc3 x0 x1 x2 x3 x4 x5 x6 y)
  have h2 : View.readAt (Elt Ideal) arg2.view (Rect.unit ![0, 0] S512x2048.size inb_S512x2048_S512x2048_0_0).toLoadRect (harg2.unread x0) = x0 :=
    (View.readAt_full (s := S512x2048) _ _ _).trans (harg2.read_unread _)
  have h3 : View.readAt (Elt Ideal) arg3.view (Rect.unit ![0, 0] S1x2048.size inb_S1x2048_S1x2048_0_0).toLoadRect (harg3.unread x1) = x1 :=
    (View.readAt_full (s := S1x2048) _ _ _).trans (harg3.read_unread _)
  have h4 : View.readAt (Elt Ideal) arg4.view (Rect.unit ![0, 0] S2048x1024.size inb_S2048x1024_S2048x1024_0_0).toLoadRect (harg4.unread x2) = x2 :=
    (View.readAt_full (s := S2048x1024) _ _ _).trans (harg4.read_unread _)
  have h5 : View.readAt (Elt Ideal) arg5.view (Rect.unit ![0, 0] S512x128.size inb_S512x128_S512x128_0_0).toLoadRect (harg5.unread x3) = x3 :=
    (View.readAt_full (s := S512x128) _ _ _).trans (harg5.read_unread _)
  have h6 : View.readAt (Elt Ideal) arg6.view (Rect.unit ![0, 0] S512x128.size inb_S512x128_S512x128_0_0).toLoadRect (harg6.unread x4) = x4 :=
    (View.readAt_full (s := S512x128) _ _ _).trans (harg6.read_unread _)
  have hc : ∀ w : Vec Ideal S512x2048 .bf16, arg10.view.readCov [⟨Rect.unit ![0, 0] S512x2048.size inb_S512x2048_S512x2048_0_0, w⟩] (Rect.unit ![0, 0] S512x2048.size inb_S512x2048_S512x2048_0_0).toLoadRect = w :=
    fun w => View.readCov_full (s := S512x2048) _ _ _ _ _
  unfold kernelRun0_A
  dsimp only
  sl_unfold_words
  simp only [h2, h3, h4, h5, h6, hc]
  refine List.forall_mem_cons.mpr ⟨piece_hi (k0_pay13 (k0_pay1 x0 x1) x2) (k0_pay14 x3) (k0_pay14 x4) (k0_pay16 (F := Ideal) (BitVec.ofNat 32 (i 1).val)) 768 896 3 rfl rfl (by decide) slices_S512x1024_o0_768_S512x128 slices_S512x1024_o0_896_S512x128 inb_S512x1024_S512x128_0_896, ?_⟩
  refine List.forall_mem_cons.mpr ⟨piece_lo (k0_pay13 (k0_pay1 x0 x1) x2) (k0_pay14 x3) (k0_pay14 x4) (k0_pay16 (F := Ideal) (BitVec.ofNat 32 (i 1).val)) 768 896 3 rfl rfl (by decide) slices_S512x1024_o0_768_S512x128 slices_S512x1024_o0_896_S512x128 inb_S512x1024_S512x128_0_768, ?_⟩
  refine List.forall_mem_cons.mpr ⟨piece_hi (k0_pay13 (k0_pay1 x0 x1) x2) (k0_pay14 x3) (k0_pay14 x4) (k0_pay16 (F := Ideal) (BitVec.ofNat 32 (i 1).val)) 512 640 2 rfl rfl (by decide) slices_S512x1024_o0_512_S512x128 slices_S512x1024_o0_640_S512x128 inb_S512x1024_S512x128_0_640, ?_⟩
  refine List.forall_mem_cons.mpr ⟨piece_lo (k0_pay13 (k0_pay1 x0 x1) x2) (k0_pay14 x3) (k0_pay14 x4) (k0_pay16 (F := Ideal) (BitVec.ofNat 32 (i 1).val)) 512 640 2 rfl rfl (by decide) slices_S512x1024_o0_512_S512x128 slices_S512x1024_o0_640_S512x128 inb_S512x1024_S512x128_0_512, ?_⟩
  refine List.forall_mem_cons.mpr ⟨piece_hi (k0_pay13 (k0_pay1 x0 x1) x2) (k0_pay14 x3) (k0_pay14 x4) (k0_pay16 (F := Ideal) (BitVec.ofNat 32 (i 1).val)) 256 384 1 rfl rfl (by decide) slices_S512x1024_o0_256_S512x128 slices_S512x1024_o0_384_S512x128 inb_S512x1024_S512x128_0_384, ?_⟩
  refine List.forall_mem_cons.mpr ⟨piece_lo (k0_pay13 (k0_pay1 x0 x1) x2) (k0_pay14 x3) (k0_pay14 x4) (k0_pay16 (F := Ideal) (BitVec.ofNat 32 (i 1).val)) 256 384 1 rfl rfl (by decide) slices_S512x1024_o0_256_S512x128 slices_S512x1024_o0_384_S512x128 inb_S512x1024_S512x128_0_256, ?_⟩
  refine List.forall_mem_cons.mpr ⟨piece_hi (k0_pay13 (k0_pay1 x0 x1) x2) (k0_pay14 x3) (k0_pay14 x4) (k0_pay16 (F := Ideal) (BitVec.ofNat 32 (i 1).val)) 0 128 0 rfl rfl (by decide) slices_S512x1024_o0_0_S512x128 slices_S512x1024_o0_128_S512x128 inb_S512x1024_S512x128_0_128, ?_⟩
  refine List.forall_mem_cons.mpr ⟨piece_lo (k0_pay13 (k0_pay1 x0 x1) x2) (k0_pay14 x3) (k0_pay14 x4) (k0_pay16 (F := Ideal) (BitVec.ofNat 32 (i 1).val)) 0 128 0 rfl rfl (by decide) slices_S512x1024_o0_0_S512x128 slices_S512x1024_o0_128_S512x128 inb_S512x1024_S512x128_0_0, ?_⟩
  exact fun p hp => absurd hp List.not_mem_nil

/-- What a later point of a retention segment leaves. -/
theorem out_B (hc0 : ¬cond0_0 i) (hc1 : cond0_1 i) (hc2 : ¬cond0_2 i) (hc3 : ¬cond0_3 i) :
    out0_B_7 c i arg2 harg2 arg3 harg3 arg4 harg4 arg5 harg5 arg6 harg6 arg7 harg7 arg8 harg8 arg9 harg9 arg10 harg10 hc0 hc1 hc2 hc3 x0 x1 x2 x3 x4 x5 x6 n = wideV (k0_pay13 n x2) (k0_pay14 x3) (k0_pay14 x4) (k0_pay16 (F := Ideal) (BitVec.ofNat 32 (i 1).val)) := by
  funext y
  unfold out0_B_7
  refine View.read_writes_apply_of_pieces _ _ (wideV (k0_pay13 n x2) (k0_pay14 x3) (k0_pay14 x4) (k0_pay16 (F := Ideal) (BitVec.ofNat 32 (i 1).val))) _ ?_ y (cover0_B_7 c i arg2 harg2 arg3 harg3 arg4 harg4 arg5 harg5 arg6 harg6 arg7 harg7 arg8 harg8 arg9 harg9 arg10 harg10 hc0 hc1 hc2 hc3 x0 x1 x2 x3 x4 x5 x6 n y)
  have h10 : View.readAt (Elt Ideal) arg10.view (Rect.unit ![0, 0] S512x2048.size inb_S512x2048_S512x2048_0_0).toLoadRect (harg10.unread n) = n :=
    (View.readAt_full (s := S512x2048) _ _ _).trans (harg10.read_unread _)
  have h4 : View.readAt (Elt Ideal) arg4.view (Rect.unit ![0, 0] S2048x1024.size inb_S2048x1024_S2048x1024_0_0).toLoadRect (harg4.unread x2) = x2 :=
    (View.readAt_full (s := S2048x1024) _ _ _).trans (harg4.read_unread _)
  have h5 : View.readAt (Elt Ideal) arg5.view (Rect.unit ![0, 0] S512x128.size inb_S512x128_S512x128_0_0).toLoadRect (harg5.unread x3) = x3 :=
    (View.readAt_full (s := S512x128) _ _ _).trans (harg5.read_unread _)
  have h6 : View.readAt (Elt Ideal) arg6.view (Rect.unit ![0, 0] S512x128.size inb_S512x128_S512x128_0_0).toLoadRect (harg6.unread x4) = x4 :=
    (View.readAt_full (s := S512x128) _ _ _).trans (harg6.read_unread _)
  unfold kernelRun0_B
  dsimp only
  sl_unfold_words
  simp only [h10, h4, h5, h6]
  refine List.forall_mem_cons.mpr ⟨piece_hi (k0_pay13 n x2) (k0_pay14 x3) (k0_pay14 x4) (k0_pay16 (F := Ideal) (BitVec.ofNat 32 (i 1).val)) 768 896 3 rfl rfl (by decide) slices_S512x1024_o0_768_S512x128 slices_S512x1024_o0_896_S512x128 inb_S512x1024_S512x128_0_896, ?_⟩
  refine List.forall_mem_cons.mpr ⟨piece_lo (k0_pay13 n x2) (k0_pay14 x3) (k0_pay14 x4) (k0_pay16 (F := Ideal) (BitVec.ofNat 32 (i 1).val)) 768 896 3 rfl rfl (by decide) slices_S512x1024_o0_768_S512x128 slices_S512x1024_o0_896_S512x128 inb_S512x1024_S512x128_0_768, ?_⟩
  refine List.forall_mem_cons.mpr ⟨piece_hi (k0_pay13 n x2) (k0_pay14 x3) (k0_pay14 x4) (k0_pay16 (F := Ideal) (BitVec.ofNat 32 (i 1).val)) 512 640 2 rfl rfl (by decide) slices_S512x1024_o0_512_S512x128 slices_S512x1024_o0_640_S512x128 inb_S512x1024_S512x128_0_640, ?_⟩
  refine List.forall_mem_cons.mpr ⟨piece_lo (k0_pay13 n x2) (k0_pay14 x3) (k0_pay14 x4) (k0_pay16 (F := Ideal) (BitVec.ofNat 32 (i 1).val)) 512 640 2 rfl rfl (by decide) slices_S512x1024_o0_512_S512x128 slices_S512x1024_o0_640_S512x128 inb_S512x1024_S512x128_0_512, ?_⟩
  refine List.forall_mem_cons.mpr ⟨piece_hi (k0_pay13 n x2) (k0_pay14 x3) (k0_pay14 x4) (k0_pay16 (F := Ideal) (BitVec.ofNat 32 (i 1).val)) 256 384 1 rfl rfl (by decide) slices_S512x1024_o0_256_S512x128 slices_S512x1024_o0_384_S512x128 inb_S512x1024_S512x128_0_384, ?_⟩
  refine List.forall_mem_cons.mpr ⟨piece_lo (k0_pay13 n x2) (k0_pay14 x3) (k0_pay14 x4) (k0_pay16 (F := Ideal) (BitVec.ofNat 32 (i 1).val)) 256 384 1 rfl rfl (by decide) slices_S512x1024_o0_256_S512x128 slices_S512x1024_o0_384_S512x128 inb_S512x1024_S512x128_0_256, ?_⟩
  refine List.forall_mem_cons.mpr ⟨piece_hi (k0_pay13 n x2) (k0_pay14 x3) (k0_pay14 x4) (k0_pay16 (F := Ideal) (BitVec.ofNat 32 (i 1).val)) 0 128 0 rfl rfl (by decide) slices_S512x1024_o0_0_S512x128 slices_S512x1024_o0_128_S512x128 inb_S512x1024_S512x128_0_128, ?_⟩
  refine List.forall_mem_cons.mpr ⟨piece_lo (k0_pay13 n x2) (k0_pay14 x3) (k0_pay14 x4) (k0_pay16 (F := Ideal) (BitVec.ofNat 32 (i 1).val)) 0 128 0 rfl rfl (by decide) slices_S512x1024_o0_0_S512x128 slices_S512x1024_o0_128_S512x128 inb_S512x1024_S512x128_0_0, ?_⟩
  exact fun p hp => absurd hp List.not_mem_nil

/-- What a point of a plain segment leaves. -/
theorem out_C (hc0 : ¬cond0_0 i) (hc1 : ¬cond0_1 i) (hc2 : ¬cond0_2 i) (hc3 : cond0_3 i) :
    out0_C_7 c i arg2 harg2 arg3 harg3 arg4 harg4 arg5 harg5 arg6 harg6 arg7 harg7 arg8 harg8 arg9 harg9 arg10 harg10 hc0 hc1 hc2 hc3 x0 x1 x2 x3 x4 x5 x6 n = k0_pay13 n x2 := by
  funext y
  unfold out0_C_7
  refine View.read_writes_apply_of_pieces _ _ (k0_pay13 n x2) _ ?_ y (cover0_C_7 c i arg2 harg2 arg3 harg3 arg4 harg4 arg5 harg5 arg6 harg6 arg7 harg7 arg8 harg8 arg9 harg9 arg10 harg10 hc0 hc1 hc2 hc3 x0 x1 x2 x3 x4 x5 x6 n y)
  have h10 : View.readAt (Elt Ideal) arg10.view (Rect.unit ![0, 0] S512x2048.size inb_S512x2048_S512x2048_0_0).toLoadRect (harg10.unread n) = n :=
    (View.readAt_full (s := S512x2048) _ _ _).trans (harg10.read_unread _)
  have h4 : View.readAt (Elt Ideal) arg4.view (Rect.unit ![0, 0] S2048x1024.size inb_S2048x1024_S2048x1024_0_0).toLoadRect (harg4.unread x2) = x2 :=
    (View.readAt_full (s := S2048x1024) _ _ _).trans (harg4.read_unread _)
  unfold kernelRun0_C
  dsimp only
  sl_unfold_words
  simp only [h10, h4]
  refine List.forall_mem_cons.mpr ⟨fun x => ?_, fun p hp => absurd hp List.not_mem_nil⟩
  exact congrArg (k0_pay13 n x2) (funext fun a => Fin.ext (match a with
    | ⟨0, _⟩ => by show (x 0).val = 0 + 1 * (x 0).val; omega
    | ⟨1, _⟩ => by show (x 1).val = 0 + 1 * (x 1).val; omega))

/-- What a point of an attention segment leaves. -/
theorem out_D (hc0 : ¬cond0_0 i) (hc1 : ¬cond0_1 i) (hc2 : cond0_2 i) (hc3 : ¬cond0_3 i) :
    out0_D_7 c i arg2 harg2 arg3 harg3 arg4 harg4 arg5 harg5 arg6 harg6 arg7 harg7 arg8 harg8 arg9 harg9 arg10 harg10 hc0 hc1 hc2 hc3 x0 x1 x2 x3 x4 x5 x6 n = narrowV (k0_pay13 n x2) (k0_pay14 x5) (k0_pay14 x6) := by
  funext y
  unfold out0_D_7
  refine View.read_writes_apply_of_pieces _ _ (narrowV (k0_pay13 n x2) (k0_pay14 x5) (k0_pay14 x6)) _ ?_ y (cover0_D_7 c i arg2 harg2 arg3 harg3 arg4 harg4 arg5 harg5 arg6 harg6 arg7 harg7 arg8 harg8 arg9 harg9 arg10 harg10 hc0 hc1 hc2 hc3 x0 x1 x2 x3 x4 x5 x6 n y)
  have h10 : View.readAt (Elt Ideal) arg10.view (Rect.unit ![0, 0] S512x2048.size inb_S512x2048_S512x2048_0_0).toLoadRect (harg10.unread n) = n :=
    (View.readAt_full (s := S512x2048) _ _ _).trans (harg10.read_unread _)
  have h4 : View.readAt (Elt Ideal) arg4.view (Rect.unit ![0, 0] S2048x1024.size inb_S2048x1024_S2048x1024_0_0).toLoadRect (harg4.unread x2) = x2 :=
    (View.readAt_full (s := S2048x1024) _ _ _).trans (harg4.read_unread _)
  have h7 : View.readAt (Elt Ideal) arg7.view (Rect.unit ![0, 0] S512x128.size inb_S512x128_S512x128_0_0).toLoadRect (harg7.unread x5) = x5 :=
    (View.readAt_full (s := S512x128) _ _ _).trans (harg7.read_unread _)
  have h8 : View.readAt (Elt Ideal) arg8.view (Rect.unit ![0, 0] S512x128.size inb_S512x128_S512x128_0_0).toLoadRect (harg8.unread x6) = x6 :=
    (View.readAt_full (s := S512x128) _ _ _).trans (harg8.read_unread _)
  unfold kernelRun0_D
  dsimp only
  sl_unfold_words
  simp only [h10, h4, h7, h8]
  refine List.forall_mem_cons.mpr ⟨piece_nar (k0_pay13 n x2) (k0_pay14 x5) (k0_pay14 x6) 896 7 rfl (by decide) slices_S512x1024_o0_896_S512x128 inb_S512x1024_S512x128_0_896, ?_⟩
  refine List.forall_mem_cons.mpr ⟨piece_nar (k0_pay13 n x2) (k0_pay14 x5) (k0_pay14 x6) 768 6 rfl (by decide) slices_S512x1024_o0_768_S512x128 inb_S512x1024_S512x128_0_768, ?_⟩
  refine List.forall_mem_cons.mpr ⟨piece_nar (k0_pay13 n x2) (k0_pay14 x5) (k0_pay14 x6) 640 5 rfl (by decide) slices_S512x1024_o0_640_S512x128 inb_S512x1024_S512x128_0_640, ?_⟩
  refine List.forall_mem_cons.mpr ⟨piece_nar (k0_pay13 n x2) (k0_pay14 x5) (k0_pay14 x6) 512 4 rfl (by decide) slices_S512x1024_o0_512_S512x128 inb_S512x1024_S512x128_0_512, ?_⟩
  refine List.forall_mem_cons.mpr ⟨piece_nar (k0_pay13 n x2) (k0_pay14 x5) (k0_pay14 x6) 384 3 rfl (by decide) slices_S512x1024_o0_384_S512x128 inb_S512x1024_S512x128_0_384, ?_⟩
  refine List.forall_mem_cons.mpr ⟨piece_nar (k0_pay13 n x2) (k0_pay14 x5) (k0_pay14 x6) 256 2 rfl (by decide) slices_S512x1024_o0_256_S512x128 inb_S512x1024_S512x128_0_256, ?_⟩
  refine List.forall_mem_cons.mpr ⟨piece_nar (k0_pay13 n x2) (k0_pay14 x5) (k0_pay14 x6) 128 1 rfl (by decide) slices_S512x1024_o0_128_S512x128 inb_S512x1024_S512x128_0_128, ?_⟩
  refine List.forall_mem_cons.mpr ⟨piece_nar (k0_pay13 n x2) (k0_pay14 x5) (k0_pay14 x6) 0 0 rfl (by decide) slices_S512x1024_o0_0_S512x128 inb_S512x1024_S512x128_0_0, ?_⟩
  exact fun p hp => absurd hp List.not_mem_nil

/-- What the first point of a row block leaves in the scratch: the normalised rows. -/
theorem sout_A (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 hc0 hc1 hc2 hc3 x0 x1 x2 x3 x4 x5 x6 = k0_pay1 x0 x1 := by
  unfold sout0_A_0 kernelRun0_A
  dsimp only
  have h2 : View.readAt (Elt Ideal) arg2.view (Rect.unit ![0, 0] S512x2048.size inb_S512x2048_S512x2048_0_0).toLoadRect (harg2.unread x0) = x0 :=
    (View.readAt_full (s := S512x2048) _ _ _).trans (harg2.read_unread _)
  have h3 : View.readAt (Elt Ideal) arg3.view (Rect.unit ![0, 0] S1x2048.size inb_S1x2048_S1x2048_0_0).toLoadRect (harg3.unread x1) = x1 :=
    (View.readAt_full (s := S1x2048) _ _ _).trans (harg3.read_unread _)
  refine (View.read_writes_full (s := S512x2048) _ _ _ _ _).trans ?_
  sl_unfold_words
  simp only [h2, h3]

/-- The other points leave the scratch as it was. -/
theorem sout_B (hc0 : ¬cond0_0 i) (hc1 : cond0_1 i) (hc2 : ¬cond0_2 i) (hc3 : ¬cond0_3 i) : sout0_B_0 c i arg2 harg2 arg3 harg3 arg4 harg4 arg5 harg5 arg6 harg6 arg7 harg7 arg8 harg8 arg9 harg9 arg10 harg10 hc0 hc1 hc2 hc3 x0 x1 x2 x3 x4 x5 x6 n = n := rfl
/-- Neither does a point of the attention segments change the scratch. -/
theorem sout_C (hc0 : ¬cond0_0 i) (hc1 : ¬cond0_1 i) (hc2 : ¬cond0_2 i) (hc3 : cond0_3 i) : sout0_C_0 c i arg2 harg2 arg3 harg3 arg4 harg4 arg5 harg5 arg6 harg6 arg7 harg7 arg8 harg8 arg9 harg9 arg10 harg10 hc0 hc1 hc2 hc3 x0 x1 x2 x3 x4 x5 x6 n = n := rfl
/-- Nor does a point of the segments that are left as they are. -/
theorem sout_D (hc0 : ¬cond0_0 i) (hc1 : ¬cond0_1 i) (hc2 : cond0_2 i) (hc3 : ¬cond0_3 i) : sout0_D_0 c i arg2 harg2 arg3 harg3 arg4 harg4 arg5 harg5 arg6 harg6 arg7 harg7 arg8 harg8 arg9 harg9 arg10 harg10 hc0 hc1 hc2 hc3 x0 x1 x2 x3 x4 x5 x6 n = n := rfl

end Points

/-- The angle at position `p` of frequency `f` of `n`. -/
def angle (n : BitVec 32) (p f : ℕ) : EReal :=
  FloatOps.mulf (F := Ideal) (φ := .f32) (FloatOps.sitofp .f32 (BitVec.ofNat 32 p))
    (FloatOps.hostPowf (FloatOps.ofBits .f32 0x461C4000#32) (FloatOps.hostDivf (FloatOps.hostNegf (FloatOps.sitofp .f32 (BitVec.ofNat 32 f))) (FloatOps.ofBits .f32 n)))

/-- The cosine and the sine of an angle. -/
def cosA (n : BitVec 32) (p f : ℕ) : EReal := FloatOps.hostUnary (F := Ideal) (φ := .f32) .cos (angle n p f)
/-- The sine of an angle. -/
def sinA (n : BitVec 32) (p f : ℕ) : EReal := FloatOps.hostUnary (F := Ideal) (φ := .f32) .sin (angle n p f)

/-- Columns `1024b` and on of a row. -/
def part (q : Fin 7168 → EReal) (b : ℕ) (l : Fin 1024) : EReal := q (Fin.ofNat 7168 (1024 * b + l.val))

/-- Segment `b` of a row at position `p`: rotated, rotated and scaled, rotated by half heads of 64, or as it is. -/
def seg (b : ℕ) (q : Fin 1024 → EReal) (p : ℕ) (l : Fin 1024) : EReal :=
  if b ≤ 1 then wide q (fun f => cosA 0x43000000#32 p f.val) (fun f => sinA 0x43000000#32 p f.val)
    (if b = 1 then FloatOps.ofBits (F := Ideal) .f32 0x3D800000#32 else FloatOps.ofBits (F := Ideal) .f32 0x3F800000#32) l
  else if b = 4 ∨ b = 5 then narrow q (fun f => cosA 0x42000000#32 p (f.val % 32))
    (fun f => if f.val % 64 < 32 then - sinA 0x42000000#32 p (f.val % 32) else sinA 0x42000000#32 p (f.val % 32)) l
  else q l

/-- Row `R` of the normalised rows. -/
def nrow (x : Vec Ideal S2x8192x2048 .f32) (g : Vec Ideal S1x2048 .f32) (R : Fin 16384) (k : Fin 2048) : EReal :=
  normed (fun k => x (ix3 (⟨R.val / 8192, by omega⟩ : Fin 2) (⟨R.val % 8192, by omega⟩ : Fin 8192) k)) (fun k => g (ix2 (0 : Fin 1) k)) k

/-- Row `R` of their product with the weights. -/
def prow (x : Vec Ideal S2x8192x2048 .f32) (g : Vec Ideal S1x2048 .f32) (w : Vec Ideal S1x2048x7168 .f32) (R : Fin 16384) (C : Fin 7168) : EReal :=
  ∑ k : Fin 2048, nrow x g R k * (w (ix3 (0 : Fin 1) k C) : EReal)

/-- The result: every row's product, segment by segment. -/
def G (x : Vec Ideal S2x8192x2048 .f32) (g : Vec Ideal S1x2048 .f32) (w : Vec Ideal S1x2048x7168 .f32) : Vec Ideal S16384x7168 .f32 := fun i =>
  seg ((i 1).val / 1024) (part (prow x g w (i 0 : Fin 16384)) ((i 1).val / 1024)) ((i 0).val % 8192) (Fin.ofNat 1024 (i 1).val)

/-- The scale by the segment's number. -/
theorem scale0 : k0_pay16 (F := Ideal) (BitVec.ofNat 32 0) = FloatOps.ofBits (F := Ideal) .f32 0x3F800000#32 := rfl
/-- The scale of segment 1. -/
theorem scale1 : k0_pay16 (F := Ideal) (BitVec.ofNat 32 1) = FloatOps.ofBits (F := Ideal) .f32 0x3D800000#32 := rfl

variable (m : (ℓ : Loc nD τ sig) → Buf (Elt Ideal) ℓ)

/-- The rows that the region finds. -/
theorem V0 (c : Dev nD) (R : Fin 16384) (k : Fin 2048) :
    (V m c main_v0 : Vec Ideal S16384x2048 .f32) (ix2 R k)
      = (m ((c : Thread nD τ).loc main_arg0) : Vec Ideal S2x8192x2048 .f32) (ix3 (⟨R.val / 8192, by omega⟩ : Fin 2) (⟨R.val % 8192, by omega⟩ : Fin 8192) k) := by
  unfold V
  after_results
  show shapeCast S16384x2048 (m ((c : Thread nD τ).loc main_arg0) : Vec Ideal S2x8192x2048 .f32) shapeCasts_S2x8192x2048_S16384x2048 (ix2 R k) = _
  refine shapeCast_apply _ _ _ _ ?_
  show (S2x8192x2048.rowMajor (ix3 (⟨R.val / 8192, by omega⟩ : Fin 2) (⟨R.val % 8192, by omega⟩ : Fin 8192) k)).val = (S16384x2048.rowMajor (ix2 R k)).val
  rw [Shape.rowMajor_val_three, Shape.rowMajor_val_two]
  show (R.val / 8192 * 8192 + R.val % 8192) * 2048 + k.val = R.val * 2048 + k.val
  omega

/-- The weights that the region finds. -/
theorem V3 (c : Dev nD) (a : Fin 2048) (b : Fin 7168) :
    (V m c main_v3 : Vec Ideal S2048x7168 .bf16) (ix2 a b) = (m ((c : Thread nD τ).loc main_arg2) : Vec Ideal S1x2048x7168 .f32) (ix3 (0 : Fin 1) a b) := by
  unfold V
  after_results
  show shapeCast S2048x7168 (m ((c : Thread nD τ).loc main_arg2) : Vec Ideal S1x2048x7168 .f32) shapeCasts_S1x2048x7168_S2048x7168 (ix2 a b) = _
  refine shapeCast_apply _ _ _ _ ?_
  show (S1x2048x7168.rowMajor (ix3 (0 : Fin 1) a b)).val = (S2048x7168.rowMajor (ix2 a b)).val
  rw [Shape.rowMajor_val_three, Shape.rowMajor_val_two]
  show (0 * 2048 + a.val) * 7168 + b.val = a.val * 7168 + b.val
  omega

/-- The gain that the region finds. -/
theorem V39 (c : Dev nD) (b : Fin 2048) :
    (V m c main_v39 : Vec Ideal S1x2048 .f32) (ix2 (0 : Fin 1) b) = (m ((c : Thread nD τ).loc main_arg1) : Vec Ideal S1x2048 .f32) (ix2 (0 : Fin 1) b) := by
  unfold V
  after_results
  show shapeCast S1x2048 (shapeCast S2048 (m ((c : Thread nD τ).loc main_arg1) : Vec Ideal S1x2048 .f32) shapeCasts_S1x2048_S2048) shapeCasts_S2048_S1x2048 (ix2 0 b) = _
  generalize (m ((c : Thread nD τ).loc main_arg1) : Vec Ideal S1x2048 .f32) = w
  pointwise []

/-- The retention cosines that the region finds. -/
theorem V16 (c : Dev nD) (p : Fin 8192) (f : Fin 128) : (V m c main_v16 : Vec Ideal S8192x128 .f32) (ix2 p f) = cosA 0x43000000#32 p.val f.val := by
  unfold V
  after_results
  rfl

/-- The retention sines that the region finds. -/
theorem V17 (c : Dev nD) (p : Fin 8192) (f : Fin 128) : (V m c main_v17 : Vec Ideal S8192x128 .f32) (ix2 p f) = sinA 0x43000000#32 p.val f.val := by
  unfold V
  after_results
  rfl

/-- Four copies of a table side by side. -/
theorem four (T : Vec Ideal S8192x32 .f32) (p : Fin 8192) (l : Fin 128) (K : Fin 32) (hK : K.val = l.val % 32) :
    shapeCast S8192x128 (broadcastInDim S1x8192x4x32 ![0, 1, 2, 3] bcast_S1x8192x1x32_S1x8192x4x32_0_1_2_3 (shapeCast S1x8192x1x32 T shapeCasts_S8192x32_S1x8192x1x32))
      shapeCasts_S1x8192x4x32_S8192x128 (ix2 p l) = T (ix2 p K) := by
  have hl := l.isLt
  refine (shapeCast_apply _ shapeCasts_S1x8192x4x32_S8192x128 (ix2 p l) (ix4 (0 : Fin 1) p (⟨l.val / 32, by omega⟩ : Fin 4) K) ?_).trans ?_
  · rw [Shape.rowMajor_val_four, Shape.rowMajor_val_two]
    show ((0 * 8192 + p.val) * 4 + l.val / 32) * 32 + K.val = p.val * 128 + l.val
    omega
  refine (show _ = shapeCast S1x8192x1x32 T shapeCasts_S8192x32_S1x8192x1x32 (ix4 (0 : Fin 1) p (0 : Fin 1) K) from
    broadcastInDim_apply _ bcast_S1x8192x1x32_S1x8192x4x32_0_1_2_3 _ _ _ (fun a => match a with
      | ⟨0, _⟩ => rfl | ⟨1, _⟩ => rfl | ⟨2, _⟩ => rfl | ⟨3, _⟩ => rfl)).trans ?_
  refine shapeCast_apply _ _ _ _ ?_
  rw [Shape.rowMajor_val_four, Shape.rowMajor_val_two]
  show p.val * 32 + K.val = ((0 * 8192 + p.val) * 1 + 0) * 32 + K.val
  omega

/-- Two copies of a table side by side. -/
theorem two (T : Vec Ideal S8192x64 .f32) (p : Fin 8192) (l : Fin 128) (K : Fin 64) (hK : K.val = l.val % 64) :
    shapeCast S8192x128 (broadcastInDim S1x8192x2x64 ![0, 1, 2, 3] bcast_S1x8192x1x64_S1x8192x2x64_0_1_2_3 (shapeCast S1x8192x1x64 T shapeCasts_S8192x64_S1x8192x1x64))
      shapeCasts_S1x8192x2x64_S8192x128 (ix2 p l) = T (ix2 p K) := by
  have hl := l.isLt
  refine (shapeCast_apply _ shapeCasts_S1x8192x2x64_S8192x128 (ix2 p l) (ix4 (0 : Fin 1) p (⟨l.val / 64, by omega⟩ : Fin 2) K) ?_).trans ?_
  · rw [Shape.rowMajor_val_four, Shape.rowMajor_val_two]
    show ((0 * 8192 + p.val) * 2 + l.val / 64) * 64 + K.val = p.val * 128 + l.val
    omega
  refine (show _ = shapeCast S1x8192x1x64 T shapeCasts_S8192x64_S1x8192x1x64 (ix4 (0 : Fin 1) p (0 : Fin 1) K) from
    broadcastInDim_apply _ bcast_S1x8192x1x64_S1x8192x2x64_0_1_2_3 _ _ _ (fun a => match a with
      | ⟨0, _⟩ => rfl | ⟨1, _⟩ => rfl | ⟨2, _⟩ => rfl | ⟨3, _⟩ => rfl)).trans ?_
  refine shapeCast_apply _ _ _ _ ?_
  rw [Shape.rowMajor_val_four, Shape.rowMajor_val_two]
  show p.val * 64 + K.val = ((0 * 8192 + p.val) * 1 + 0) * 64 + K.val
  omega

/-- A table next to another one. -/
theorem beside (A B : Vec Ideal S8192x32 .f32) (p : Fin 8192) (K : Fin 64) :
    concatenate S8192x64 1 [⟨S8192x32, A⟩, ⟨S8192x32, B⟩] concatenates_S8192x32_S8192x32_S8192x64_d1 (ix2 p K)
      = if K.val < 32 then A (ix2 p (Fin.ofNat 32 K.val)) else B (ix2 p (Fin.ofNat 32 K.val)) := by
  have hk := K.isLt
  split
  case isTrue h =>
    exact concatenate_pair_apply_left (t := S8192x64) (s₁ := S8192x32) (s₂ := S8192x32) 1 _ _ _ (ix2 p K) rfl (ix2 p (Fin.ofNat 32 K.val))
      (fun b => match b with | ⟨0, _⟩ => rfl | ⟨1, _⟩ => Nat.mod_eq_of_lt h)
  case isFalse h =>
    exact concatenate_pair_apply_right (t := S8192x64) (s₁ := S8192x32) (s₂ := S8192x32) 1 _ _ _ (ix2 p K) rfl rfl (ix2 p (Fin.ofNat 32 K.val))
      (fun b hb => match b with | ⟨0, _⟩ => rfl | ⟨1, _⟩ => absurd rfl hb) (show K.val % 32 + 32 = K.val by omega)

/-- The attention cosines that the region finds: four copies side by side. -/
theorem V33 (c : Dev nD) (p : Fin 8192) (l : Fin 128) : (V m c main_v33 : Vec Ideal S8192x128 .f32) (ix2 p l) = cosA 0x42000000#32 p.val (l.val % 32) := by
  unfold V
  after_results
  exact (four _ p l (⟨l.val % 32, by omega⟩ : Fin 32) rfl).trans rfl

/-- The attention sines that the region finds, the first of each pair of copies negated. -/
theorem V38 (c : Dev nD) (p : Fin 8192) (l : Fin 128) : (V m c main_v38 : Vec Ideal S8192x128 .f32) (ix2 p l)
    = if l.val % 64 < 32 then - sinA 0x42000000#32 p.val (l.val % 32) else sinA 0x42000000#32 p.val (l.val % 32) := by
  unfold V
  after_results
  refine (two _ p l (⟨l.val % 64, by omega⟩ : Fin 64) rfl).trans ((beside _ _ p _).trans ?_)
  have e : l.val % 64 % 32 = l.val % 32 := by omega
  rw [← e]
  rfl

/-- The blocks at the points. -/
theorem idx0 : ∀ t : Fin cfg0.N, win0_0.index t 0 = t.val / 7 ∧ win0_0.index t 1 = 0 :=
  (by decide +kernel : ∀ t : Fin grid0.N, win0_0.index t 0 = t.val / 7 ∧ win0_0.index t 1 = 0)
/-- The block of window 1 at a point. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The block of window 2 at a point. -/
theorem idx2 : ∀ t : Fin cfg0.N, win0_2.index t 0 = 0 ∧ win0_2.index t 1 = t.val % 7 :=
  (by decide +kernel : ∀ t : Fin grid0.N, win0_2.index t 0 = 0 ∧ win0_2.index t 1 = t.val % 7)
/-- The block of window 3 at a point. -/
theorem idx3 : ∀ t : Fin cfg0.N, win0_3.index t 0 = t.val / 7 % 16 ∧ win0_3.index t 1 = 0 :=
  (by decide +kernel : ∀ t : Fin grid0.N, win0_3.index t 0 = t.val / 7 % 16 ∧ win0_3.index t 1 = 0)
/-- The block of window 4 at a point. -/
theorem idx4 : ∀ t : Fin cfg0.N, win0_4.index t 0 = t.val / 7 % 16 ∧ win0_4.index t 1 = 0 :=
  (by decide +kernel : ∀ t : Fin grid0.N, win0_4.index t 0 = t.val / 7 % 16 ∧ win0_4.index t 1 = 0)
/-- The block of window 5 at a point. -/
theorem idx5 : ∀ t : Fin cfg0.N, win0_5.index t 0 = t.val / 7 % 16 ∧ win0_5.index t 1 = 0 :=
  (by decide +kernel : ∀ t : Fin grid0.N, win0_5.index t 0 = t.val / 7 % 16 ∧ win0_5.index t 1 = 0)
/-- The block of window 6 at a point. -/
theorem idx6 : ∀ t : Fin cfg0.N, win0_6.index t 0 = t.val / 7 % 16 ∧ win0_6.index t 1 = 0 :=
  (by decide +kernel : ∀ t : Fin grid0.N, win0_6.index t 0 = t.val / 7 % 16 ∧ win0_6.index t 1 = 0)
/-- The block of window 7 at a point. -/
theorem idx7 : ∀ t : Fin cfg0.N, win0_7.index t 0 = t.val / 7 ∧ win0_7.index t 1 = t.val % 7 :=
  (by decide +kernel : ∀ t : Fin grid0.N, win0_7.index t 0 = t.val / 7 ∧ win0_7.index t 1 = t.val % 7)

/-- The segment's number at a point. -/
theorem segment : ∀ t : Fin cfg0.N, ((grid0.coords t) 1).val = t.val % 7 :=
  (by decide +kernel : ∀ t : Fin grid0.N, ((grid0.coords t) 1).val = t.val % 7)

/-- The rows that point `t` reads. -/
theorem iblk0 (c : Dev nD) (t : Fin cfg0.N) (r : Fin 512) (k : Fin 2048) (R : Fin 16384) (hR : R.val = 512 * (t.val / 7) + r.val) :
    (iblk m c 0 t : Vec Ideal S512x2048 .f32) (ix2 r k)
      = (m ((c : Thread nD τ).loc main_arg0) : Vec Ideal S2x8192x2048 .f32) (ix3 (⟨R.val / 8192, by omega⟩ : Fin 2) (⟨R.val % 8192, by omega⟩ : Fin 8192) k) := by
  have hi := idx0 t
  refine Eq.trans ?_ (V0 m c R k)
  unfold iblk
  rw [View.read_apply]
  show V m c main_v0 _ = V m c main_v0 _
  congr 1
  funext a
  apply Fin.ext
  match a with
  | ⟨0, _⟩ => show win0_0.index t 0 * 512 + 1 * r.val = R.val; rw [hi.1]; omega
  | ⟨1, _⟩ => show win0_0.index t 1 * 2048 + 1 * k.val = k.val; rw [hi.2]; omega

/-- Every point reads the gain. -/
theorem iblk1 (c : Dev nD) (t : Fin cfg0.N) (k : Fin 2048) :
    (iblk m c 1 t : Vec Ideal S1x2048 .f32) (ix2 (0 : Fin 1) k) = (m ((c : Thread nD τ).loc main_arg1) : Vec Ideal S1x2048 .f32) (ix2 (0 : Fin 1) k) := by
  have hi := idx1 t
  refine Eq.trans ?_ (V39 m c k)
  unfold iblk
  rw [View.read_apply]
  show V m c main_v39 _ = V m c main_v39 _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

/-- The weights that point `t` reads. -/
theorem iblk2 (c : Dev nD) (t : Fin cfg0.N) (k : Fin 2048) (l : Fin 1024) :
    (iblk m c 2 t : Vec Ideal S2048x1024 .bf16) (ix2 k l)
      = (m ((c : Thread nD τ).loc main_arg2) : Vec Ideal S1x2048x7168 .f32) (ix3 (0 : Fin 1) k (Fin.ofNat 7168 (1024 * (t.val % 7) + l.val))) := by
  have hi := idx2 t
  refine Eq.trans ?_ (V3 m c k (Fin.ofNat 7168 (1024 * (t.val % 7) + l.val)))
  unfold iblk
  rw [View.read_apply]
  show V m c main_v3 _ = V m c main_v3 _
  congr 1
  funext a
  apply Fin.ext
  match a with
  | ⟨0, _⟩ => show win0_2.index t 0 * 2048 + 1 * k.val = k.val; rw [hi.1]; omega
  | ⟨1, _⟩ => show win0_2.index t 1 * 1024 + 1 * l.val = (1024 * (t.val % 7) + l.val) % 7168; rw [hi.2]; omega

/-- The retention cosines that point `t` reads. -/
theorem iblk3 (c : Dev nD) (t : Fin cfg0.N) (r : Fin 512) (f : Fin 128) (P : ℕ) (hP : P = 512 * (t.val / 7 % 16) + r.val) :
    (iblk m c 3 t : Vec Ideal S512x128 .f32) (ix2 r f) = cosA 0x43000000#32 P f.val := by
  have hi := idx3 t
  refine Eq.trans ?_ (V16 m c (⟨P, by omega⟩ : Fin 8192) f)
  unfold iblk
  rw [View.read_apply]
  show V m c main_v16 _ = V m c main_v16 _
  congr 1
  funext a
  apply Fin.ext
  match a with
  | ⟨0, _⟩ => show win0_3.index t 0 * 512 + 1 * r.val = P; rw [hi.1]; omega
  | ⟨1, _⟩ => show win0_3.index t 1 * 128 + 1 * f.val = f.val; rw [hi.2]; omega

/-- The retention sines that point `t` reads. -/
theorem iblk4 (c : Dev nD) (t : Fin cfg0.N) (r : Fin 512) (f : Fin 128) (P : ℕ) (hP : P = 512 * (t.val / 7 % 16) + r.val) :
    (iblk m c 4 t : Vec Ideal S512x128 .f32) (ix2 r f) = sinA 0x43000000#32 P f.val := by
  have hi := idx4 t
  refine Eq.trans ?_ (V17 m c (⟨P, by omega⟩ : Fin 8192) f)
  unfold iblk
  rw [View.read_apply]
  show V m c main_v17 _ = V m c main_v17 _
  congr 1
  funext a
  apply Fin.ext
  match a with
  | ⟨0, _⟩ => show win0_4.index t 0 * 512 + 1 * r.val = P; rw [hi.1]; omega
  | ⟨1, _⟩ => show win0_4.index t 1 * 128 + 1 * f.val = f.val; rw [hi.2]; omega

/-- The attention cosines that point `t` reads. -/
theorem iblk5 (c : Dev nD) (t : Fin cfg0.N) (r : Fin 512) (f : Fin 128) (P : ℕ) (hP : P = 512 * (t.val / 7 % 16) + r.val) :
    (iblk m c 5 t : Vec Ideal S512x128 .f32) (ix2 r f) = cosA 0x42000000#32 P (f.val % 32) := by
  have hi := idx5 t
  refine Eq.trans ?_ (V33 m c (⟨P, by omega⟩ : Fin 8192) f)
  unfold iblk
  rw [View.read_apply]
  show V m c main_v33 _ = V m c main_v33 _
  congr 1
  funext a
  apply Fin.ext
  match a with
  | ⟨0, _⟩ => show win0_5.index t 0 * 512 + 1 * r.val = P; rw [hi.1]; omega
  | ⟨1, _⟩ => show win0_5.index t 1 * 128 + 1 * f.val = f.val; rw [hi.2]; omega

/-- The signed attention sines that point `t` reads. -/
theorem iblk6 (c : Dev nD) (t : Fin cfg0.N) (r : Fin 512) (f : Fin 128) (P : ℕ) (hP : P = 512 * (t.val / 7 % 16) + r.val) :
    (iblk m c 6 t : Vec Ideal S512x128 .f32) (ix2 r f) = (if f.val % 64 < 32 then - sinA 0x42000000#32 P (f.val % 32) else sinA 0x42000000#32 P (f.val % 32)) := by
  have hi := idx6 t
  refine Eq.trans ?_ (V38 m c (⟨P, by omega⟩ : Fin 8192) f)
  unfold iblk
  rw [View.read_apply]
  show V m c main_v38 _ = V m c main_v38 _
  congr 1
  funext a
  apply Fin.ext
  match a with
  | ⟨0, _⟩ => show win0_6.index t 0 * 512 + 1 * r.val = P; rw [hi.1]; omega
  | ⟨1, _⟩ => show win0_6.index t 1 * 128 + 1 * f.val = f.val; rw [hi.2]; omega

/-- The rows that a point normalises. -/
theorem norm_iblk (c : Dev nD) (t : Fin cfg0.N) (r : Fin 512) (k : Fin 2048) (R : Fin 16384) (hR : R.val = 512 * (t.val / 7) + r.val) :
    k0_pay1 (iblk m c 0 t) (iblk m c 1 t) (ix2 r k) = nrow (m ((c : Thread nD τ).loc main_arg0)) (m ((c : Thread nD τ).loc main_arg1)) R k := by
  refine (pay_norm _ _ r k).trans ?_
  unfold nrow
  congr 1
  · funext k; exact iblk0 m c t r k R hR
  · funext k; exact iblk1 m c t k

/-- The scratch holds the normalised rows of the row block after each of its points. -/
theorem scratch (c : Dev nD) : ∀ (n : ℕ) (hn : n < cfg0.N) (r : Fin 512) (k : Fin 2048) (R : Fin 16384), R.val = 512 * (n / 7) + r.val →
    ((outsAt0 m c n hn).2 : Vec Ideal S512x2048 .bf16) (ix2 r k) = nrow (m ((c : Thread nD τ).loc main_arg0)) (m ((c : Thread nD τ).loc main_arg1)) R k := by
  intro n
  induction n with
  | zero =>
    intro hn r k R hR
    refine (congrArg (fun z => (z.2 : Vec Ideal S512x2048 .bf16) (ix2 r k)) (outsAt0_A m c ⟨0, hn⟩ rfl (by show 0 % 7 ≤ 1; decide) (by show ¬ (4 ≤ 0 % 7 ∧ 0 % 7 ≤ 5); decide) (by show ¬ (0 % 7 = 2 ∨ 0 % 7 = 3 ∨ 0 % 7 = 6); decide))).trans ?_
    dsimp only
    rw [sout_A]
    exact norm_iblk m c ⟨0, hn⟩ r k R hR
  | succ n ih =>
    intro hn r k R hR
    have h7 : (n + 1) % 7 < 7 := Nat.mod_lt _ (by decide)
    by_cases h0 : (n + 1) % 7 = 0
    · refine (congrArg (fun z => (z.2 : Vec Ideal S512x2048 .bf16) (ix2 r k)) (outsAt0_A m c ⟨n + 1, hn⟩ h0 (by show (n + 1) % 7 ≤ 1; omega) (by show ¬ (4 ≤ (n + 1) % 7 ∧ _); omega) (by show ¬ ((n + 1) % 7 = 2 ∨ (n + 1) % 7 = 3 ∨ (n + 1) % 7 = 6); omega))).trans ?_
      dsimp only
      rw [sout_A]
      exact norm_iblk m c ⟨n + 1, hn⟩ r k R hR
    · have step := ih (Nat.lt_of_succ_lt hn) r k R (by omega)
      by_cases h1 : (n + 1) % 7 ≤ 1
      · refine (congrArg (fun z => (z.2 : Vec Ideal S512x2048 .bf16) (ix2 r k)) (outsAt0_B m c ⟨n + 1, hn⟩ h0 h1 (by show ¬ (4 ≤ (n + 1) % 7 ∧ (n + 1) % 7 ≤ 5); omega) (by show ¬ ((n + 1) % 7 = 2 ∨ (n + 1) % 7 = 3 ∨ (n + 1) % 7 = 6); omega))).trans ?_
        dsimp only; rw [sout_B]; exact step
      · by_cases h2 : 4 ≤ (n + 1) % 7 ∧ (n + 1) % 7 ≤ 5
        · refine (congrArg (fun z => (z.2 : Vec Ideal S512x2048 .bf16) (ix2 r k)) (outsAt0_D m c ⟨n + 1, hn⟩ h0 h1 h2 (by show ¬ ((n + 1) % 7 = 2 ∨ (n + 1) % 7 = 3 ∨ (n + 1) % 7 = 6); omega))).trans ?_
          dsimp only; rw [sout_D]; exact step
        · refine (congrArg (fun z => (z.2 : Vec Ideal S512x2048 .bf16) (ix2 r k)) (outsAt0_C m c ⟨n + 1, hn⟩ h0 h1 h2 (by show ((n + 1) % 7 = 2 ∨ (n + 1) % 7 = 3 ∨ (n + 1) % 7 = 6); omega))).trans ?_
          dsimp only; rw [sout_C]; exact step

/-- The product of a point, over any block that holds its normalised rows. -/
theorem prod_iblk (c : Dev nD) (t : Fin cfg0.N) (n : Vec Ideal S512x2048 .bf16) (r : Fin 512) (l : Fin 1024) (R : Fin 16384)
    (hn : ∀ k, n (ix2 r k) = nrow (m ((c : Thread nD τ).loc main_arg0)) (m ((c : Thread nD τ).loc main_arg1)) R k) :
    k0_pay13 n (iblk m c 2 t) (ix2 r l)
      = part (prow (m ((c : Thread nD τ).loc main_arg0)) (m ((c : Thread nD τ).loc main_arg1)) (m ((c : Thread nD τ).loc main_arg2)) R) (t.val % 7) l := by
  refine (pay_prod _ _ r l).trans ?_
  unfold prod part prow
  exact Finset.sum_congr rfl fun k _ => congrArg₂ (fun a b : EReal => a * b) (hn k) (iblk2 m c t k l)

/-- A rotated retention segment's entry at a point. -/
theorem wide_at (c : Dev nD) (t : Fin cfg0.N) (h : t.val % 7 ≤ 1) (n : Vec Ideal S512x2048 .bf16) (r : Fin 512) (l : Fin 1024) (R : Fin 16384) (hR : R.val = 512 * (t.val / 7) + r.val)
    (hn : ∀ k, n (ix2 r k) = nrow (m ((c : Thread nD τ).loc main_arg0)) (m ((c : Thread nD τ).loc main_arg1)) R k) :
    wideV (k0_pay13 n (iblk m c 2 t)) (k0_pay14 (iblk m c 3 t)) (k0_pay14 (iblk m c 4 t)) (k0_pay16 (F := Ideal) (BitVec.ofNat 32 ((grid0.coords t) 1).val)) (ix2 r l)
      = seg (t.val % 7) (part (prow (m ((c : Thread nD τ).loc main_arg0)) (m ((c : Thread nD τ).loc main_arg1)) (m ((c : Thread nD τ).loc main_arg2)) R) (t.val % 7)) (R.val % 8192) l := by
  rw [pay_cos, pay_cos, segment]
  unfold seg
  rw [if_pos h]
  show wide (fun l => k0_pay13 n (iblk m c 2 t) (ix2 r l)) (fun f => (iblk m c 3 t : Vec Ideal S512x128 .f32) (ix2 r f)) (fun f => (iblk m c 4 t : Vec Ideal S512x128 .f32) (ix2 r f)) _ l = _
  congr 1
  · funext l; exact prod_iblk m c t n r l R hn
  · funext f; exact iblk3 m c t r f (R.val % 8192) (by omega)
  · funext f; exact iblk4 m c t r f (R.val % 8192) (by omega)
  · obtain h | h : t.val % 7 = 0 ∨ t.val % 7 = 1 := by omega
    · rw [h, if_neg (by decide)]; exact scale0
    · rw [h, if_pos rfl]; exact scale1

/-- A rotated attention segment's entry at a point. -/
theorem narrow_at (c : Dev nD) (t : Fin cfg0.N) (h : 4 ≤ t.val % 7 ∧ t.val % 7 ≤ 5) (n : Vec Ideal S512x2048 .bf16) (r : Fin 512) (l : Fin 1024) (R : Fin 16384) (hR : R.val = 512 * (t.val / 7) + r.val)
    (hn : ∀ k, n (ix2 r k) = nrow (m ((c : Thread nD τ).loc main_arg0)) (m ((c : Thread nD τ).loc main_arg1)) R k) :
    narrowV (k0_pay13 n (iblk m c 2 t)) (k0_pay14 (iblk m c 5 t)) (k0_pay14 (iblk m c 6 t)) (ix2 r l)
      = seg (t.val % 7) (part (prow (m ((c : Thread nD τ).loc main_arg0)) (m ((c : Thread nD τ).loc main_arg1)) (m ((c : Thread nD τ).loc main_arg2)) R) (t.val % 7)) (R.val % 8192) l := by
  rw [pay_cos, pay_cos]
  unfold seg
  rw [if_neg (show ¬ t.val % 7 ≤ 1 by omega), if_pos (show t.val % 7 = 4 ∨ t.val % 7 = 5 by omega)]
  show narrow (fun l => k0_pay13 n (iblk m c 2 t) (ix2 r l)) (fun f => (iblk m c 5 t : Vec Ideal S512x128 .f32) (ix2 r f)) (fun f => (iblk m c 6 t : Vec Ideal S512x128 .f32) (ix2 r f)) l = _
  congr 1
  · funext l; exact prod_iblk m c t n r l R hn
  · funext f; exact iblk5 m c t r f (R.val % 8192) (by omega)
  · funext f; exact iblk6 m c t r f (R.val % 8192) (by omega)

/-- Each write-back writes its block of `G`. -/
theorem flushed_eq (c : Dev nD) (t : Fin cfg0.N) (hf : (cfg0.win 7).flush t = true) :
    (dats m 0 c).flushed 7 t = ((cfg0.win 7).blk t).view.read (Elt Ideal)
      (G (m ((c : Thread nD τ).loc main_arg0)) (m ((c : Thread nD τ).loc main_arg1)) (m ((c : Thread nD τ).loc main_arg2))) := by
  have hi := idx7 t
  have hN : t.val < 224 := lt_of_lt_of_eq t.isLt (show cfg0.N = 224 from N_0)
  have h7 : t.val % 7 < 7 := Nat.mod_lt _ (by decide)
  have key : ∀ (r : Fin 512) (l : Fin 1024) (R : Fin 16384), R.val = 512 * (t.val / 7) + r.val →
      ((dats m 0 c).flushed 7 t : Vec Ideal S512x1024 .f32) (ix2 r l)
        = seg (t.val % 7) (part (prow (m ((c : Thread nD τ).loc main_arg0)) (m ((c : Thread nD τ).loc main_arg1)) (m ((c : Thread nD τ).loc main_arg2)) R) (t.val % 7)) (R.val % 8192) l := by
    intro r l R hR
    by_cases h0 : t.val % 7 = 0
    · rw [Value.flushed7_A m c t h0 (by omega) (by omega) (by omega), out_A]
      exact wide_at m c t (by omega) _ r l R hR fun k => norm_iblk m c t r k R hR
    · have hs := fun k => scratch m c (t.val - 1) (Nat.lt_of_le_of_lt (Nat.sub_le _ _) t.isLt) r k R (by omega)
      by_cases h1 : t.val % 7 ≤ 1
      · rw [Value.flushed7_B m c t h0 h1 (by omega) (by omega), out_B]
        exact wide_at m c t h1 _ r l R hR hs
      · by_cases h2 : 4 ≤ t.val % 7 ∧ t.val % 7 ≤ 5
        · rw [Value.flushed7_D m c t h0 h1 h2 (by omega), out_D]
          exact narrow_at m c t h2 _ r l R hR hs
        · rw [Value.flushed7_C m c t h0 h1 h2 (by omega), out_C]
          unfold seg
          rw [if_neg h1, if_neg (show ¬ (t.val % 7 = 4 ∨ t.val % 7 = 5) by omega)]
          exact prod_iblk m c t _ r l R hs
  funext j
  obtain ⟨r, l, rfl⟩ : ∃ (r : Fin 512) (l : Fin 1024), j = ix2 r l := ⟨j 0, j 1, eq_ix2 (n0 := 512) (n1 := 1024) j⟩
  rw [View.read_apply]
  have hr := r.isLt
  have hl := l.isLt
  refine (key r l (⟨512 * (t.val / 7) + r.val, by omega⟩ : Fin 16384) rfl).trans ?_
  have h0 : ∀ i : S16384x7168.Idx, (i 0).val = 512 * (t.val / 7) + r.val → (i 1).val = 1024 * (t.val % 7) + l.val →
      seg (t.val % 7) (part (prow (m ((c : Thread nD τ).loc main_arg0)) (m ((c : Thread nD τ).loc main_arg1)) (m ((c : Thread nD τ).loc main_arg2)) (⟨512 * (t.val / 7) + r.val, by omega⟩ : Fin 16384)) (t.val % 7)) ((512 * (t.val / 7) + r.val) % 8192) l
        = G (m ((c : Thread nD τ).loc main_arg0)) (m ((c : Thread nD τ).loc main_arg1)) (m ((c : Thread nD τ).loc main_arg2)) i := by
    intro i e0 e1
    obtain ⟨R, L, rfl⟩ : ∃ (R : Fin 16384) (L : Fin 7168), i = ix2 R L := ⟨i 0, i 1, eq_ix2 (n0 := 16384) (n1 := 7168) i⟩
    have hR : R.val = 512 * (t.val / 7) + r.val := e0
    have hL : L.val = 1024 * (t.val % 7) + l.val := e1
    rw [show (⟨512 * (t.val / 7) + r.val, by omega⟩ : Fin 16384) = R from Fin.ext hR.symm, ← hR]
    show _ = seg (L.val / 1024) (part (prow _ _ _ _) (L.val / 1024)) _ (Fin.ofNat 1024 L.val)
    rw [show L.val / 1024 = t.val % 7 by omega, show Fin.ofNat 1024 L.val = l from Fin.ext (show L.val % 1024 = l.val by omega)]
    rfl
  refine h0 _ ?_ ?_
  · show win0_7.index t 0 * 512 + 1 * r.val = _
    rw [hi.1]; omega
  · show win0_7.index t 1 * 1024 + 1 * l.val = _
    rw [hi.2]; omega

/-- The result array after the run. -/
theorem final (c : Dev nD) : (dats m 0 c).arrAt 7 cfg0.N
    = G (m ((c : Thread nD τ).loc main_arg0)) (m ((c : Thread nD τ).loc main_arg1)) (m ((c : Thread nD τ).loc main_arg2)) :=
  (dats m 0 c).arrAt_eq_of_cover 7 _ (flushed_eq m c) fun i => by
    have h0 : ((i : S16384x7168.Idx) 0).val < 16384 := (i 0).isLt
    have h1 : ((i : S16384x7168.Idx) 1).val < 7168 := (i 1).isLt
    have hN : cfg0.N = 224 := N_0
    refine ⟨⟨7 * ((i 0).val / 512) + (i 1).val / 1024, by rw [hN]; omega⟩, flush0_7 _, ?_⟩
    generalize ht : (⟨7 * ((i 0).val / 512) + (i 1).val / 1024, _⟩ : Fin cfg0.N) = t
    have hv : t.val = 7 * ((i 0).val / 512) + (i 1).val / 1024 := by rw [← ht]
    have hi := idx7 t
    show i ∈ ((View.whole main_v40).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [hi.1]; omega
    | ⟨1, _⟩ => show win0_7.index t 1 * 1024 ≤ (i 1 : Nat) ∧ (i 1 : Nat) < win0_7.index t 1 * 1024 + 1024
                rw [hi.2]; omega

end Cert.Kernel6Ideal.Proj

namespace Cert.Reference6Ideal.Proj
open Cert.Reference6Ideal Cert.Reference6Ideal.Gen Idealize.ShloMosaic Cert.Reference6Ideal.Read Cert.Reference2Ideal.Proj Cert.Reference5Ideal.Proj
open Cert.Kernel6Ideal.Proj (normed wide narrow cosA sinA part seg nrow prow G)

/-- A row's place among the batches. -/
abbrev batch (R : Fin 16384) : Fin 2 := ⟨R.val / 8192, by omega⟩
/-- A row's place within its batch. -/
abbrev place (R : Fin 16384) : Fin 8192 := ⟨R.val % 8192, by omega⟩

/-- The reference's normalised rows. -/
theorem norm_eq (x : Vec Ideal S2x8192x2048 .f32) (g : Vec Ideal S1x2048 .f32) (R : Fin 16384) (k : Fin 2048) :
    val_main_v13 (F := Ideal) x g (ix3 (batch R) (place R) k) = nrow x g R k := by
  have e1 : ∀ q : Fin 2048, idx_main_v2 (idx_main_v3 (idx_main_v9 (ix3 (batch R) (place R) k))) q = ix3 (batch R) (place R) q := fun q => by
    funext a
    match a with
    | ⟨0, _⟩ => rfl
    | ⟨1, _⟩ => rfl
    | ⟨2, _⟩ => rfl
  have e2 : idx_main_v0 (idx_main_v11 (idx_main_v12 (ix3 (batch R) (place R) k))) = ix2 (0 : Fin 1) k := by
    funext a; apply Fin.ext
    match a with
    | ⟨0, _⟩ => rfl
    | ⟨1, _⟩ => exact Nat.mod_eq_of_lt k.isLt
  simp only [val_main_v13_apply, val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply, val_main_cst_0_apply, val_main_cst_1_apply]
  simp only [e1, e2]
  rw [zero_word]
  rfl

/-- The reference's product. -/
theorem prod_eq (x : Vec Ideal S2x8192x2048 .f32) (g : Vec Ideal S1x2048 .f32) (w : Vec Ideal S1x2048x7168 .f32) (R : Fin 16384) (C : Fin 7168) :
    val_main_v15 (F := Ideal) x g w (ix3 (batch R) (place R) C) = prow x g w R C := by
  rw [val_main_v15_apply]
  unfold prow
  refine Finset.sum_congr rfl fun k _ => congrArg₂ (fun a b : EReal => a * b) ?_ ?_
  · refine (congrArg _ ?_).trans (norm_eq x g R k)
    funext a
    match a with
    | ⟨0, _⟩ => rfl
    | ⟨1, _⟩ => rfl
    | ⟨2, _⟩ => rfl
  · rw [val_main_v14_apply]
    refine congrArg _ ?_
    have hk := k.isLt
    have hC := C.isLt
    funext a; apply Fin.ext
    match a with
    | ⟨0, _⟩ => rfl
    | ⟨1, _⟩ => show (k.val * 7168 + C.val) / 7168 % 2048 = k.val; omega
    | ⟨2, _⟩ => show (k.val * 7168 + C.val) % 7168 = C.val; omega

/-- The reference's tables for heads of 256. -/
theorem cos4 (b : Fin 2) (p : Fin 8192) (h : Fin 4) (l : Fin 128) : val_main_v36 (F := Ideal) (ix4 b p h l) = cosA 0x43000000#32 p.val l.val := by
  rw [val_main_v36_apply, val_main_v31_apply]
  refine (congrArg _ (?_ : _ = ix2 p l)).trans (show val_main_v30 (F := Ideal) (ix2 p l) = _ from rfl)
  have hp := p.isLt
  have hl := l.isLt
  funext a; apply Fin.ext
  match a with
  | ⟨0, _⟩ => show (((0 * 8192 + p.val) * 1 + 0) * 128 + l.val) / 128 = p.val; omega
  | ⟨1, _⟩ => show (((0 * 8192 + p.val) * 1 + 0) * 128 + l.val) % 128 = l.val; omega
/-- The reference's table of sines for heads of 256. -/
theorem sin4 (b : Fin 2) (p : Fin 8192) (h : Fin 4) (l : Fin 128) : val_main_v38 (F := Ideal) (ix4 b p h l) = sinA 0x43000000#32 p.val l.val := by
  rw [val_main_v38_apply, val_main_v33_apply]
  refine (congrArg _ (?_ : _ = ix2 p l)).trans (show val_main_v32 (F := Ideal) (ix2 p l) = _ from rfl)
  have hp := p.isLt
  have hl := l.isLt
  funext a; apply Fin.ext
  match a with
  | ⟨0, _⟩ => show (((0 * 8192 + p.val) * 1 + 0) * 128 + l.val) / 128 = p.val; omega
  | ⟨1, _⟩ => show (((0 * 8192 + p.val) * 1 + 0) * 128 + l.val) % 128 = l.val; omega

/-- The reference's tables for half heads of 64. -/
theorem cos5 (b : Fin 2) (p : Fin 8192) (h : Fin 8) (s : Fin 2) (l : Fin 32) : val_main_v98 (F := Ideal) (ix5 b p h s l) = cosA 0x42000000#32 p.val l.val := by
  rw [val_main_v98_apply, val_main_v93_apply]
  refine (congrArg _ (?_ : _ = ix2 p l)).trans (show val_main_v92 (F := Ideal) (ix2 p l) = _ from rfl)
  have hp := p.isLt
  have hl := l.isLt
  funext a; apply Fin.ext
  match a with
  | ⟨0, _⟩ => show ((((0 * 8192 + p.val) * 1 + 0) * 1 + 0) * 32 + l.val) / 32 = p.val; omega
  | ⟨1, _⟩ => show ((((0 * 8192 + p.val) * 1 + 0) * 1 + 0) * 32 + l.val) % 32 = l.val; omega
/-- The reference's table of sines for half heads of 64. -/
theorem sin5 (b : Fin 2) (p : Fin 8192) (h : Fin 8) (s : Fin 2) (l : Fin 32) : val_main_v100 (F := Ideal) (ix5 b p h s l) = sinA 0x42000000#32 p.val l.val := by
  rw [val_main_v100_apply, val_main_v95_apply]
  refine (congrArg _ (?_ : _ = ix2 p l)).trans (show val_main_v94 (F := Ideal) (ix2 p l) = _ from rfl)
  have hp := p.isLt
  have hl := l.isLt
  funext a; apply Fin.ext
  match a with
  | ⟨0, _⟩ => show ((((0 * 8192 + p.val) * 1 + 0) * 1 + 0) * 32 + l.val) / 32 = p.val; omega
  | ⟨1, _⟩ => show ((((0 * 8192 + p.val) * 1 + 0) * 1 + 0) * 32 + l.val) % 32 = l.val; omega

/-- The halves of the heads of 256. -/
def lo4 (P : FVec Ideal S2x8192x4x256 .f32) : FVec Ideal S2x8192x4x128 .f32 :=
  extractStridedSlice S2x8192x4x128 ![0, 0, 0, 0] P slices_S2x8192x4x256_S2x8192x4x128_0_0_0_0
/-- The second halves of the heads of 256. -/
def hi4 (P : FVec Ideal S2x8192x4x256 .f32) : FVec Ideal S2x8192x4x128 .f32 :=
  extractStridedSlice S2x8192x4x128 ![0, 0, 0, 128] P slices_S2x8192x4x256_S2x8192x4x128_0_0_0_128

/-- The rotation of heads of 256. -/
def turn4 (P : FVec Ideal S2x8192x4x256 .f32) : FVec Ideal S2x8192x4x256 .f32 :=
  concatenate S2x8192x4x256 3
    [⟨S2x8192x4x128, (subf (mulf (lo4 P) (val_main_v36 (F := Ideal))) (mulf (hi4 P) (val_main_v38 (F := Ideal))) : FVec Ideal S2x8192x4x128 .f32)⟩,
     ⟨S2x8192x4x128, (addf (mulf (hi4 P) (val_main_v36 (F := Ideal))) (mulf (lo4 P) (val_main_v38 (F := Ideal))) : FVec Ideal S2x8192x4x128 .f32)⟩]
    concatenates_S2x8192x4x128_S2x8192x4x128_S2x8192x4x256_d3

/-- An entry of the first halves of the heads of 256. -/
theorem lo4_apply (P : FVec Ideal S2x8192x4x256 .f32) (b : Fin 2) (p : Fin 8192) (h : Fin 4) (l : Fin 128) (L : Fin 256) (hL : L.val = l.val) :
    lo4 P (ix4 b p h l) = P (ix4 b p h L) :=
  extractStridedSlice_apply (![0, 0, 0, 0] : Fin 4 → ℕ) P slices_S2x8192x4x256_S2x8192x4x128_0_0_0_0 (ix4 b p h l) (ix4 b p h L) fun a => match a with
    | ⟨0, _⟩ => by show b.val = 0 + b.val; omega
    | ⟨1, _⟩ => by show p.val = 0 + p.val; omega
    | ⟨2, _⟩ => by show h.val = 0 + h.val; omega
    | ⟨3, _⟩ => by show L.val = 0 + l.val; omega
/-- An entry of the second halves of the heads of 256. -/
theorem hi4_apply (P : FVec Ideal S2x8192x4x256 .f32) (b : Fin 2) (p : Fin 8192) (h : Fin 4) (l : Fin 128) (L : Fin 256) (hL : L.val = 128 + l.val) :
    hi4 P (ix4 b p h l) = P (ix4 b p h L) :=
  extractStridedSlice_apply (![0, 0, 0, 128] : Fin 4 → ℕ) P slices_S2x8192x4x256_S2x8192x4x128_0_0_0_128 (ix4 b p h l) (ix4 b p h L) fun a => match a with
    | ⟨0, _⟩ => by show b.val = 0 + b.val; omega
    | ⟨1, _⟩ => by show p.val = 0 + p.val; omega
    | ⟨2, _⟩ => by show h.val = 0 + h.val; omega
    | ⟨3, _⟩ => by show L.val = 128 + l.val; exact hL

/-- A rotated and scaled segment, by the row it came from. -/
theorem wide_of (P : FVec Ideal S2x8192x4x256 .f32) (q : Fin 1024 → EReal) (b : Fin 2) (p : Fin 8192) (z : EReal)
    (hP : ∀ (h : Fin 4) (l : Fin 256), P (ix4 b p h l) = q (Fin.ofNat 1024 (256 * h.val + l.val))) (L : Fin 1024) :
    turn4 P (ix4 b p (⟨L.val / 256, by omega⟩ : Fin 4) (⟨L.val % 256, by omega⟩ : Fin 256)) * z
      = wide q (fun f => cosA 0x43000000#32 p.val f.val) (fun f => sinA 0x43000000#32 p.val f.val) z L := by
  have hL := L.isLt
  have hP' : ∀ (h : Fin 4) (l : Fin 256) (M : Fin 1024), M.val = 256 * h.val + l.val → P (ix4 b p h l) = q M := fun h l M hM =>
    (hP h l).trans (congrArg q (Fin.ext (show (256 * h.val + l.val) % 1024 = M.val by have := M.isLt; omega)))
  unfold turn4 wide
  by_cases hm : L.val % 256 < 128
  · rw [if_pos hm]
    refine congrArg (fun a : EReal => a * z) ?_
    refine (concatenate_pair_apply_left (t := S2x8192x4x256) (s₁ := S2x8192x4x128) (s₂ := S2x8192x4x128) 3 _ _ _ _ rfl
      (ix4 b p (⟨L.val / 256, by omega⟩ : Fin 4) (⟨L.val % 256, hm⟩ : Fin 128))
      (fun a => match a with | ⟨0, _⟩ => rfl | ⟨1, _⟩ => rfl | ⟨2, _⟩ => rfl | ⟨3, _⟩ => rfl)).trans ?_
    show (lo4 P _ * val_main_v36 (F := Ideal) _ - hi4 P _ * val_main_v38 (F := Ideal) _ : EReal) = _
    rw [cos4, sin4, lo4_apply P b p _ _ (⟨L.val % 256, by omega⟩ : Fin 256) rfl, hi4_apply P b p _ _ (⟨128 + L.val % 256, by omega⟩ : Fin 256) rfl,
      hP' (⟨L.val / 256, by omega⟩ : Fin 4) (⟨L.val % 256, by omega⟩ : Fin 256) L (show L.val = 256 * (L.val / 256) + L.val % 256 by omega),
      hP' (⟨L.val / 256, by omega⟩ : Fin 4) (⟨128 + L.val % 256, by omega⟩ : Fin 256) (Fin.ofNat 1024 (L.val + 128)) (show (L.val + 128) % 1024 = 256 * (L.val / 256) + (128 + L.val % 256) by omega)]
    dsimp only
    rw [show (Fin.ofNat 128 L.val).val = L.val % 256 from (show L.val % 128 = L.val % 256 by omega)]
  · rw [if_neg hm]
    refine congrArg (fun a : EReal => a * z) ?_
    refine (concatenate_pair_apply_right (t := S2x8192x4x256) (s₁ := S2x8192x4x128) (s₂ := S2x8192x4x128) 3 _ _ _ (ix4 b p (⟨L.val / 256, by omega⟩ : Fin 4) (⟨L.val % 256, by omega⟩ : Fin 256)) rfl rfl
      (ix4 b p (⟨L.val / 256, by omega⟩ : Fin 4) (⟨L.val % 256 - 128, by omega⟩ : Fin 128))
      (fun a ha => match a with | ⟨0, _⟩ => rfl | ⟨1, _⟩ => rfl | ⟨2, _⟩ => rfl | ⟨3, _⟩ => absurd rfl ha) (show L.val % 256 - 128 + 128 = L.val % 256 by omega)).trans ?_
    show (hi4 P _ * val_main_v36 (F := Ideal) _ + lo4 P _ * val_main_v38 (F := Ideal) _ : EReal) = _
    rw [cos4, sin4, hi4_apply P b p _ _ (⟨L.val % 256, by omega⟩ : Fin 256) (show L.val % 256 = 128 + (L.val % 256 - 128) by omega),
      lo4_apply P b p _ _ (⟨L.val % 256 - 128, by omega⟩ : Fin 256) rfl,
      hP' (⟨L.val / 256, by omega⟩ : Fin 4) (⟨L.val % 256, by omega⟩ : Fin 256) L (show L.val = 256 * (L.val / 256) + L.val % 256 by omega),
      hP' (⟨L.val / 256, by omega⟩ : Fin 4) (⟨L.val % 256 - 128, by omega⟩ : Fin 256) (Fin.ofNat 1024 (L.val - 128)) (show (L.val - 128) % 1024 = 256 * (L.val / 256) + (L.val % 256 - 128) by omega)]
    dsimp only
    rw [show (Fin.ofNat 128 L.val).val = L.val % 256 - 128 from (show L.val % 128 = L.val % 256 - 128 by omega)]

/-- The halves of the half heads of 64. -/
def lo5 (P : FVec Ideal S2x8192x8x2x64 .f32) : FVec Ideal S2x8192x8x2x32 .f32 :=
  extractStridedSlice S2x8192x8x2x32 ![0, 0, 0, 0, 0] P slices_S2x8192x8x2x64_S2x8192x8x2x32_0_0_0_0_0
/-- The second halves of the half heads of 64. -/
def hi5 (P : FVec Ideal S2x8192x8x2x64 .f32) : FVec Ideal S2x8192x8x2x32 .f32 :=
  extractStridedSlice S2x8192x8x2x32 ![0, 0, 0, 0, 32] P slices_S2x8192x8x2x64_S2x8192x8x2x32_0_0_0_0_32

/-- The rotation of half heads of 64. -/
def turn5 (P : FVec Ideal S2x8192x8x2x64 .f32) : FVec Ideal S2x8192x8x2x64 .f32 :=
  concatenate S2x8192x8x2x64 4
    [⟨S2x8192x8x2x32, (subf (mulf (lo5 P) (val_main_v98 (F := Ideal))) (mulf (hi5 P) (val_main_v100 (F := Ideal))) : FVec Ideal S2x8192x8x2x32 .f32)⟩,
     ⟨S2x8192x8x2x32, (addf (mulf (hi5 P) (val_main_v98 (F := Ideal))) (mulf (lo5 P) (val_main_v100 (F := Ideal))) : FVec Ideal S2x8192x8x2x32 .f32)⟩]
    concatenates_S2x8192x8x2x32_S2x8192x8x2x32_S2x8192x8x2x64_d4

/-- An entry of the first halves of the half heads. -/
theorem lo5_apply (P : FVec Ideal S2x8192x8x2x64 .f32) (b : Fin 2) (p : Fin 8192) (h : Fin 8) (s : Fin 2) (l : Fin 32) (L : Fin 64) (hL : L.val = l.val) :
    lo5 P (ix5 b p h s l) = P (ix5 b p h s L) :=
  extractStridedSlice_apply (![0, 0, 0, 0, 0] : Fin 5 → ℕ) P slices_S2x8192x8x2x64_S2x8192x8x2x32_0_0_0_0_0 (ix5 b p h s l) (ix5 b p h s L) fun a => match a with
    | ⟨0, _⟩ => by show b.val = 0 + b.val; omega
    | ⟨1, _⟩ => by show p.val = 0 + p.val; omega
    | ⟨2, _⟩ => by show h.val = 0 + h.val; omega
    | ⟨3, _⟩ => by show s.val = 0 + s.val; omega
    | ⟨4, _⟩ => by show L.val = 0 + l.val; omega
/-- An entry of the second halves of the half heads. -/
theorem hi5_apply (P : FVec Ideal S2x8192x8x2x64 .f32) (b : Fin 2) (p : Fin 8192) (h : Fin 8) (s : Fin 2) (l : Fin 32) (L : Fin 64) (hL : L.val = 32 + l.val) :
    hi5 P (ix5 b p h s l) = P (ix5 b p h s L) :=
  extractStridedSlice_apply (![0, 0, 0, 0, 32] : Fin 5 → ℕ) P slices_S2x8192x8x2x64_S2x8192x8x2x32_0_0_0_0_32 (ix5 b p h s l) (ix5 b p h s L) fun a => match a with
    | ⟨0, _⟩ => by show b.val = 0 + b.val; omega
    | ⟨1, _⟩ => by show p.val = 0 + p.val; omega
    | ⟨2, _⟩ => by show h.val = 0 + h.val; omega
    | ⟨3, _⟩ => by show s.val = 0 + s.val; omega
    | ⟨4, _⟩ => by show L.val = 32 + l.val; exact hL

/-- A segment rotated by half heads, by the row it came from: a difference is the sum with the negated sine. -/
theorem narrow_of (P : FVec Ideal S2x8192x8x2x64 .f32) (q : Fin 1024 → EReal) (b : Fin 2) (p : Fin 8192)
    (hP : ∀ (h : Fin 8) (s : Fin 2) (l : Fin 64), P (ix5 b p h s l) = q (Fin.ofNat 1024 (128 * h.val + 64 * s.val + l.val))) (L : Fin 1024) :
    turn5 P (ix5 b p (⟨L.val / 128, by omega⟩ : Fin 8) (⟨L.val / 64 % 2, by omega⟩ : Fin 2) (⟨L.val % 64, by omega⟩ : Fin 64))
      = narrow q (fun f => cosA 0x42000000#32 p.val (f.val % 32))
          (fun f => if f.val % 64 < 32 then - sinA 0x42000000#32 p.val (f.val % 32) else sinA 0x42000000#32 p.val (f.val % 32)) L := by
  have hL := L.isLt
  have hP' : ∀ (h : Fin 8) (s : Fin 2) (l : Fin 64) (M : Fin 1024), M.val = 128 * h.val + 64 * s.val + l.val → P (ix5 b p h s l) = q M := fun h s l M hM =>
    (hP h s l).trans (congrArg q (Fin.ext (show (128 * h.val + 64 * s.val + l.val) % 1024 = M.val by have := M.isLt; omega)))
  have ef : (Fin.ofNat 128 L.val).val % 64 = L.val % 64 := show L.val % 128 % 64 = L.val % 64 by omega
  have eg : (Fin.ofNat 128 L.val).val % 32 = L.val % 32 := show L.val % 128 % 32 = L.val % 32 by omega
  unfold turn5 narrow
  dsimp only
  rw [ef, eg]
  by_cases hm : L.val % 64 < 32
  · rw [if_pos hm, if_pos hm]
    refine (concatenate_pair_apply_left (t := S2x8192x8x2x64) (s₁ := S2x8192x8x2x32) (s₂ := S2x8192x8x2x32) 4 _ _ _ _ rfl
      (ix5 b p (⟨L.val / 128, by omega⟩ : Fin 8) (⟨L.val / 64 % 2, by omega⟩ : Fin 2) (⟨L.val % 64, hm⟩ : Fin 32))
      (fun a => match a with | ⟨0, _⟩ => rfl | ⟨1, _⟩ => rfl | ⟨2, _⟩ => rfl | ⟨3, _⟩ => rfl | ⟨4, _⟩ => rfl)).trans ?_
    show (lo5 P _ * val_main_v98 (F := Ideal) _ - hi5 P _ * val_main_v100 (F := Ideal) _ : EReal) = _
    rw [cos5, sin5, lo5_apply P b p _ _ _ (⟨L.val % 64, by omega⟩ : Fin 64) rfl, hi5_apply P b p _ _ _ (⟨32 + L.val % 64, by omega⟩ : Fin 64) rfl,
      hP' (⟨L.val / 128, by omega⟩ : Fin 8) (⟨L.val / 64 % 2, by omega⟩ : Fin 2) (⟨L.val % 64, by omega⟩ : Fin 64) L (show L.val = 128 * (L.val / 128) + 64 * (L.val / 64 % 2) + L.val % 64 by omega),
      hP' (⟨L.val / 128, by omega⟩ : Fin 8) (⟨L.val / 64 % 2, by omega⟩ : Fin 2) (⟨32 + L.val % 64, by omega⟩ : Fin 64) (Fin.ofNat 1024 (L.val + 32)) (show (L.val + 32) % 1024 = 128 * (L.val / 128) + 64 * (L.val / 64 % 2) + (32 + L.val % 64) by omega)]
    show (_ * cosA _ _ (L.val % 64) - _ * sinA _ _ (L.val % 64) : EReal) = _
    rw [show L.val % 64 = L.val % 32 by omega, mul_neg]
    exact sub_eq_add_neg _ _
  · rw [if_neg hm, if_neg hm]
    refine (concatenate_pair_apply_right (t := S2x8192x8x2x64) (s₁ := S2x8192x8x2x32) (s₂ := S2x8192x8x2x32) 4 _ _ _ (ix5 b p (⟨L.val / 128, by omega⟩ : Fin 8) (⟨L.val / 64 % 2, by omega⟩ : Fin 2) (⟨L.val % 64, by omega⟩ : Fin 64)) rfl rfl
      (ix5 b p (⟨L.val / 128, by omega⟩ : Fin 8) (⟨L.val / 64 % 2, by omega⟩ : Fin 2) (⟨L.val % 64 - 32, by omega⟩ : Fin 32))
      (fun a ha => match a with | ⟨0, _⟩ => rfl | ⟨1, _⟩ => rfl | ⟨2, _⟩ => rfl | ⟨3, _⟩ => rfl | ⟨4, _⟩ => absurd rfl ha) (show L.val % 64 - 32 + 32 = L.val % 64 by omega)).trans ?_
    show (hi5 P _ * val_main_v98 (F := Ideal) _ + lo5 P _ * val_main_v100 (F := Ideal) _ : EReal) = _
    rw [cos5, sin5, hi5_apply P b p _ _ _ (⟨L.val % 64, by omega⟩ : Fin 64) (show L.val % 64 = 32 + (L.val % 64 - 32) by omega),
      lo5_apply P b p _ _ _ (⟨L.val % 64 - 32, by omega⟩ : Fin 64) rfl,
      hP' (⟨L.val / 128, by omega⟩ : Fin 8) (⟨L.val / 64 % 2, by omega⟩ : Fin 2) (⟨L.val % 64, by omega⟩ : Fin 64) L (show L.val = 128 * (L.val / 128) + 64 * (L.val / 64 % 2) + L.val % 64 by omega),
      hP' (⟨L.val / 128, by omega⟩ : Fin 8) (⟨L.val / 64 % 2, by omega⟩ : Fin 2) (⟨L.val % 64 - 32, by omega⟩ : Fin 64) (Fin.ofNat 1024 (L.val - 32)) (show (L.val - 32) % 1024 = 128 * (L.val / 128) + 64 * (L.val / 64 % 2) + (L.val % 64 - 32) by omega)]
    show (_ * cosA _ _ (L.val % 64 - 32) + _ * sinA _ _ (L.val % 64 - 32) : EReal) = _
    rw [show L.val % 64 - 32 = L.val % 32 by omega]

section Segments
variable (x : Vec Ideal S2x8192x2048 .f32) (g : Vec Ideal S1x2048 .f32) (w : Vec Ideal S1x2048x7168 .f32) (R : Fin 16384)

/-- A segment of the product. -/
theorem part_eq (b : ℕ) (C : Fin 7168) (l : Fin 1024) (hC : C.val = 1024 * b + l.val) :
    val_main_v15 (F := Ideal) x g w (ix3 (batch R) (place R) C) = part (prow x g w R) b l :=
  (prod_eq x g w R C).trans (congrArg _ (Fin.ext (show C.val = (1024 * b + l.val) % 7168 by have := C.isLt; omega)))

/-- The retention segments before their rotation. -/
theorem pre0 (h : Fin 4) (l : Fin 256) : val_main_v18 (F := Ideal) x g w (ix4 (batch R) (place R) h l) = part (prow x g w R) 0 (Fin.ofNat 1024 (256 * h.val + l.val)) := by
  rw [val_main_v18_apply, val_main_v17_apply]
  have hh := h.isLt
  have hl := l.isLt
  refine (congrArg _ ?_).trans (part_eq x g w R 0 (⟨256 * h.val + l.val, by omega⟩ : Fin 7168) _ (show 256 * h.val + l.val = 1024 * 0 + (256 * h.val + l.val) % 1024 by omega))
  funext a; apply Fin.ext
  match a with
  | ⟨0, _⟩ => show (((R.val / 8192 * 8192 + R.val % 8192) * 4 + h.val) * 256 + l.val) / 8388608 = R.val / 8192; omega
  | ⟨1, _⟩ => show (((R.val / 8192 * 8192 + R.val % 8192) * 4 + h.val) * 256 + l.val) / 1024 % 8192 = R.val % 8192; omega
  | ⟨2, _⟩ => show (((R.val / 8192 * 8192 + R.val % 8192) * 4 + h.val) * 256 + l.val) % 1024 = 256 * h.val + l.val; omega
/-- The retention's keys before their rotation. -/
theorem pre1 (h : Fin 4) (l : Fin 256) : val_main_v48 (F := Ideal) x g w (ix4 (batch R) (place R) h l) = part (prow x g w R) 1 (Fin.ofNat 1024 (256 * h.val + l.val)) := by
  rw [val_main_v48_apply, val_main_v47_apply]
  have hh := h.isLt
  have hl := l.isLt
  refine (congrArg _ ?_).trans (part_eq x g w R 1 (⟨1024 + (256 * h.val + l.val), by omega⟩ : Fin 7168) _ (show 1024 + (256 * h.val + l.val) = 1024 * 1 + (256 * h.val + l.val) % 1024 by omega))
  funext a; apply Fin.ext
  match a with
  | ⟨0, _⟩ => show (((R.val / 8192 * 8192 + R.val % 8192) * 4 + h.val) * 256 + l.val) / 8388608 = R.val / 8192; omega
  | ⟨1, _⟩ => show (((R.val / 8192 * 8192 + R.val % 8192) * 4 + h.val) * 256 + l.val) / 1024 % 8192 = R.val % 8192; omega
  | ⟨2, _⟩ => show 1024 + (((R.val / 8192 * 8192 + R.val % 8192) * 4 + h.val) * 256 + l.val) % 1024 = 1024 + (256 * h.val + l.val); omega

/-- The attention segments before their rotation. -/
theorem pre4 (h : Fin 8) (s : Fin 2) (l : Fin 64) : val_main_v80 (F := Ideal) x g w (ix5 (batch R) (place R) h s l) = part (prow x g w R) 4 (Fin.ofNat 1024 (128 * h.val + 64 * s.val + l.val)) := by
  rw [val_main_v80_apply, val_main_v79_apply]
  have hh := h.isLt
  have hs := s.isLt
  have hl := l.isLt
  refine (congrArg _ ?_).trans (part_eq x g w R 4 (⟨4096 + (128 * h.val + 64 * s.val + l.val), by omega⟩ : Fin 7168) _ (show 4096 + (128 * h.val + 64 * s.val + l.val) = 1024 * 4 + (128 * h.val + 64 * s.val + l.val) % 1024 by omega))
  funext a; apply Fin.ext
  match a with
  | ⟨0, _⟩ => show ((((R.val / 8192 * 8192 + R.val % 8192) * 8 + h.val) * 2 + s.val) * 64 + l.val) / 8388608 = R.val / 8192; omega
  | ⟨1, _⟩ => show ((((R.val / 8192 * 8192 + R.val % 8192) * 8 + h.val) * 2 + s.val) * 64 + l.val) / 1024 % 8192 = R.val % 8192; omega
  | ⟨2, _⟩ => show 4096 + ((((R.val / 8192 * 8192 + R.val % 8192) * 8 + h.val) * 2 + s.val) * 64 + l.val) % 1024 = 4096 + (128 * h.val + 64 * s.val + l.val); omega
/-- The attention's keys before their rotation. -/
theorem pre5 (h : Fin 8) (s : Fin 2) (l : Fin 64) : val_main_v110 (F := Ideal) x g w (ix5 (batch R) (place R) h s l) = part (prow x g w R) 5 (Fin.ofNat 1024 (128 * h.val + 64 * s.val + l.val)) := by
  rw [val_main_v110_apply, val_main_v109_apply]
  have hh := h.isLt
  have hs := s.isLt
  have hl := l.isLt
  refine (congrArg _ ?_).trans (part_eq x g w R 5 (⟨5120 + (128 * h.val + 64 * s.val + l.val), by omega⟩ : Fin 7168) _ (show 5120 + (128 * h.val + 64 * s.val + l.val) = 1024 * 5 + (128 * h.val + 64 * s.val + l.val) % 1024 by omega))
  funext a; apply Fin.ext
  match a with
  | ⟨0, _⟩ => show ((((R.val / 8192 * 8192 + R.val % 8192) * 8 + h.val) * 2 + s.val) * 64 + l.val) / 8388608 = R.val / 8192; omega
  | ⟨1, _⟩ => show ((((R.val / 8192 * 8192 + R.val % 8192) * 8 + h.val) * 2 + s.val) * 64 + l.val) / 1024 % 8192 = R.val % 8192; omega
  | ⟨2, _⟩ => show 5120 + ((((R.val / 8192 * 8192 + R.val % 8192) * 8 + h.val) * 2 + s.val) * 64 + l.val) % 1024 = 5120 + (128 * h.val + 64 * s.val + l.val); omega

/-- Where a row's entry lies among the heads. -/
theorem at4 (L : Fin 1024) : idx_main_v139 (ix2 R L) = ix4 (batch R) (place R) (⟨L.val / 256, by omega⟩ : Fin 4) (⟨L.val % 256, by omega⟩ : Fin 256) := by
  have hR := R.isLt
  have hL := L.isLt
  funext a; apply Fin.ext
  match a with
  | ⟨0, _⟩ => show (R.val * 1024 + L.val) / 8388608 = R.val / 8192; omega
  | ⟨1, _⟩ => show (R.val * 1024 + L.val) / 1024 % 8192 = R.val % 8192; omega
  | ⟨2, _⟩ => show (R.val * 1024 + L.val) / 256 % 4 = L.val / 256; omega
  | ⟨3, _⟩ => show (R.val * 1024 + L.val) % 256 = L.val % 256; omega
/-- Where a row's entry lies among the half heads. -/
theorem at5 (L : Fin 1024) : idx_main_v145 (ix2 R L) = ix5 (batch R) (place R) (⟨L.val / 128, by omega⟩ : Fin 8) (⟨L.val / 64 % 2, by omega⟩ : Fin 2) (⟨L.val % 64, by omega⟩ : Fin 64) := by
  have hR := R.isLt
  have hL := L.isLt
  funext a; apply Fin.ext
  match a with
  | ⟨0, _⟩ => show (R.val * 1024 + L.val) / 8388608 = R.val / 8192; omega
  | ⟨1, _⟩ => show (R.val * 1024 + L.val) / 1024 % 8192 = R.val % 8192; omega
  | ⟨2, _⟩ => show (R.val * 1024 + L.val) / 128 % 8 = L.val / 128; omega
  | ⟨3, _⟩ => show (R.val * 1024 + L.val) / 64 % 2 = L.val / 64 % 2; omega
  | ⟨4, _⟩ => show (R.val * 1024 + L.val) % 64 = L.val % 64; omega

/-- The segments of a row, one by one. -/
theorem seg0 (L : Fin 1024) : val_main_v139 (F := Ideal) x g w (ix2 R L) = seg 0 (part (prow x g w R) 0) (R.val % 8192) L := by
  rw [val_main_v139_apply, at4, show val_main_v46 (F := Ideal) x g w = turn4 (val_main_v18 (F := Ideal) x g w) from rfl]
  refine (mul_one _).symm.trans ((wide_of _ _ (batch R) (place R) 1 (pre0 x g w R) L).trans ?_)
  unfold seg
  rw [if_pos (by decide), if_neg (by decide), one_word]
/-- Segment 1 of a row. -/
theorem seg1 (L : Fin 1024) : val_main_v140 (F := Ideal) x g w (ix2 R L) = seg 1 (part (prow x g w R) 1) (R.val % 8192) L := by
  rw [val_main_v140_apply, show idx_main_v140 (ix2 R L) = _ from at4 R L, val_main_v78_apply, val_main_v77_apply, val_main_cst_6_apply, show val_main_v76 (F := Ideal) x g w = turn4 (val_main_v48 (F := Ideal) x g w) from rfl]
  refine (wide_of _ _ (batch R) (place R) _ (pre1 x g w R) L).trans ?_
  unfold seg
  rw [if_pos (by decide), if_pos rfl]
/-- Segment 4 of a row. -/
theorem seg4 (L : Fin 1024) : val_main_v145 (F := Ideal) x g w (ix2 R L) = seg 4 (part (prow x g w R) 4) (R.val % 8192) L := by
  rw [val_main_v145_apply, at5, show val_main_v108 (F := Ideal) x g w = turn5 (val_main_v80 (F := Ideal) x g w) from rfl]
  refine (narrow_of _ _ (batch R) (place R) (pre4 x g w R) L).trans ?_
  unfold seg
  rw [if_neg (by decide), if_pos (by decide)]
/-- Segment 5 of a row. -/
theorem seg5 (L : Fin 1024) : val_main_v146 (F := Ideal) x g w (ix2 R L) = seg 5 (part (prow x g w R) 5) (R.val % 8192) L := by
  rw [val_main_v146_apply, show idx_main_v146 (ix2 R L) = _ from at5 R L, show val_main_v138 (F := Ideal) x g w = turn5 (val_main_v110 (F := Ideal) x g w) from rfl]
  refine (narrow_of _ _ (batch R) (place R) (pre5 x g w R) L).trans ?_
  unfold seg
  rw [if_neg (by decide), if_pos (by decide)]
/-- Segment 2 of a row. -/
theorem seg2 (L : Fin 1024) : val_main_v142 (F := Ideal) x g w (ix2 R L) = seg 2 (part (prow x g w R) 2) (R.val % 8192) L := by
  have hR := R.isLt
  have hL := L.isLt
  rw [val_main_v142_apply, val_main_v141_apply]
  unfold seg
  rw [if_neg (by decide), if_neg (by decide)]
  refine (congrArg _ ?_).trans (part_eq x g w R 2 (⟨2048 + L.val, by omega⟩ : Fin 7168) L rfl)
  funext a; apply Fin.ext
  match a with
  | ⟨0, _⟩ => show (R.val * 1024 + L.val) / 8388608 = R.val / 8192; omega
  | ⟨1, _⟩ => show (R.val * 1024 + L.val) / 1024 % 8192 = R.val % 8192; omega
  | ⟨2, _⟩ => show 2048 + (R.val * 1024 + L.val) % 1024 = 2048 + L.val; omega
/-- Segment 3 of a row. -/
theorem seg3 (L : Fin 1024) : val_main_v144 (F := Ideal) x g w (ix2 R L) = seg 3 (part (prow x g w R) 3) (R.val % 8192) L := by
  have hR := R.isLt
  have hL := L.isLt
  rw [val_main_v144_apply, val_main_v143_apply]
  unfold seg
  rw [if_neg (by decide), if_neg (by decide)]
  refine (congrArg _ ?_).trans (part_eq x g w R 3 (⟨3072 + L.val, by omega⟩ : Fin 7168) L rfl)
  funext a; apply Fin.ext
  match a with
  | ⟨0, _⟩ => show (R.val * 1024 + L.val) / 8388608 = R.val / 8192; omega
  | ⟨1, _⟩ => show (R.val * 1024 + L.val) / 1024 % 8192 = R.val % 8192; omega
  | ⟨2, _⟩ => show 3072 + (R.val * 1024 + L.val) % 1024 = 3072 + L.val; omega
/-- Segment 6 of a row. -/
theorem seg6 (L : Fin 1024) : val_main_v148 (F := Ideal) x g w (ix2 R L) = seg 6 (part (prow x g w R) 6) (R.val % 8192) L := by
  have hR := R.isLt
  have hL := L.isLt
  rw [val_main_v148_apply, val_main_v147_apply]
  unfold seg
  rw [if_neg (by decide), if_neg (by decide)]
  refine (congrArg _ ?_).trans (part_eq x g w R 6 (⟨6144 + L.val, by omega⟩ : Fin 7168) L rfl)
  funext a; apply Fin.ext
  match a with
  | ⟨0, _⟩ => show (R.val * 1024 + L.val) / 8388608 = R.val / 8192; omega
  | ⟨1, _⟩ => show (R.val * 1024 + L.val) / 1024 % 8192 = R.val % 8192; omega
  | ⟨2, _⟩ => show 6144 + (R.val * 1024 + L.val) % 1024 = 6144 + L.val; omega

/-- The reference's result is the same function. -/
theorem out_eq : val_main_v149 (F := Ideal) x g w = G x g w := by
  funext i
  obtain ⟨R, C, rfl⟩ : ∃ (R : Fin 16384) (C : Fin 7168), i = ix2 R C := ⟨i 0, i 1, eq_ix2 (n0 := 16384) (n1 := 7168) i⟩
  have hC := C.isLt
  show _ = seg (C.val / 1024) (part (prow x g w R) (C.val / 1024)) (R.val % 8192) (Fin.ofNat 1024 C.val)
  have off : ∀ a : Fin 2, a ≠ 1 → (ix2 R (Fin.ofNat 1024 C.val) a).val = (ix2 R C a).val := fun a ha => match a with | ⟨0, _⟩ => rfl | ⟨1, _⟩ => absurd rfl ha
  unfold val_main_v149
  obtain h | h | h | h | h | h | h : C.val / 1024 = 0 ∨ C.val / 1024 = 1 ∨ C.val / 1024 = 2 ∨ C.val / 1024 = 3 ∨ C.val / 1024 = 4 ∨ C.val / 1024 = 5 ∨ C.val / 1024 = 6 := by omega
  · rw [h]
    exact (concatenate_apply_piece (t := S16384x7168) 1 _ _ (ix2 R C) 0 (by show 0 < 7; omega) S16384x1024 (val_main_v139 (F := Ideal) x g w) rfl rfl 0 rfl (ix2 R (Fin.ofNat 1024 C.val)) off
      (show 0 + C.val % 1024 = C.val by omega)).trans (seg0 x g w R _)
  · rw [h]
    exact (concatenate_apply_piece (t := S16384x7168) 1 _ _ (ix2 R C) 1 (by show 1 < 7; omega) S16384x1024 (val_main_v140 (F := Ideal) x g w) rfl rfl 1024 rfl (ix2 R (Fin.ofNat 1024 C.val)) off
      (show 1024 + C.val % 1024 = C.val by omega)).trans (seg1 x g w R _)
  · rw [h]
    exact (concatenate_apply_piece (t := S16384x7168) 1 _ _ (ix2 R C) 2 (by show 2 < 7; omega) S16384x1024 (val_main_v142 (F := Ideal) x g w) rfl rfl 2048 rfl (ix2 R (Fin.ofNat 1024 C.val)) off
      (show 2048 + C.val % 1024 = C.val by omega)).trans (seg2 x g w R _)
  · rw [h]
    exact (concatenate_apply_piece (t := S16384x7168) 1 _ _ (ix2 R C) 3 (by show 3 < 7; omega) S16384x1024 (val_main_v144 (F := Ideal) x g w) rfl rfl 3072 rfl (ix2 R (Fin.ofNat 1024 C.val)) off
      (show 3072 + C.val % 1024 = C.val by omega)).trans (seg3 x g w R _)
  · rw [h]
    exact (concatenate_apply_piece (t := S16384x7168) 1 _ _ (ix2 R C) 4 (by show 4 < 7; omega) S16384x1024 (val_main_v145 (F := Ideal) x g w) rfl rfl 4096 rfl (ix2 R (Fin.ofNat 1024 C.val)) off
      (show 4096 + C.val % 1024 = C.val by omega)).trans (seg4 x g w R _)
  · rw [h]
    exact (concatenate_apply_piece (t := S16384x7168) 1 _ _ (ix2 R C) 5 (by show 5 < 7; omega) S16384x1024 (val_main_v146 (F := Ideal) x g w) rfl rfl 5120 (by show 1024 + (1024 + (1024 + (1024 + (1024 + 0)))) = 5120; rfl) (ix2 R (Fin.ofNat 1024 C.val)) off
      (show 5120 + C.val % 1024 = C.val by omega)).trans (seg5 x g w R _)
  · rw [h]
    exact (concatenate_apply_piece (t := S16384x7168) 1 _ _ (ix2 R C) 6 (by show 6 < 7; omega) S16384x1024 (val_main_v148 (F := Ideal) x g w) rfl rfl 6144 (by show 1024 + (1024 + (1024 + (1024 + (1024 + (1024 + 0))))) = 6144; rfl) (ix2 R (Fin.ofNat 1024 C.val)) off
      (show 6144 + C.val % 1024 = C.val by omega)).trans (seg6 x g w R _)

end Segments

end Cert.Reference6Ideal.Proj
end
-- ==== Proof.Proj7.lean ====
/-
  The memory attention: four heads of 512 columns, each row's softmax over the memory's 256 keys against the memory's values.
-/
module

public import proofs.«01_k».proof.Proof.Gen.Kernel7Ideal.Value
public import proofs.«01_k».proof.Proof.Gen.Reference7Ideal.Read
public import proofs.«01_k».proof.Proof.Proj2
public import proofs.«01_k».proof.Proof.Online
public import Idealize.ShloMosaic.Lib.ValueIdx
public import Idealize.ShloMosaic.Lib.VecWindow
public import Idealize.ShloMosaic.Lib.Pipeline.Value

@[expose] public section
noncomputable section
namespace Cert.Kernel7Ideal.Proj
open Cert.Kernel7Ideal Cert.Kernel7Ideal.Gen Idealize.ShloMosaic Idealize.ShloMosaic.TcCoe Idealize.SL.Sem Idealize.ShloMosaic.Tactic
open Idealize.ShloMosaic.Pipeline (Dat)

/-- A query's scaled score against a key. -/
def score (q : Fin 512 → EReal) (K : Fin 256 → Fin 512 → EReal) (j : Fin 256) : EReal := (∑ e, q e * K j e) * Ideal.ofBits .f32 0x3D3504F3#32

/-- A score's exponential, the largest score subtracted. -/
def ex (s : Fin 256 → EReal) (j : Fin 256) : EReal := Ideal.exp (s j - Finset.univ.fold max (Ideal.ofBits .f32 0xFF800000#32) s)

/-- A query's attention: the values weighted by the softmax of the scores. -/
def att (q : Fin 512 → EReal) (K V : Fin 256 → Fin 512 → EReal) (l : Fin 512) : EReal :=
  ∑ j, Ideal.div (ex (score q K) j) (∑ i, ex (score q K) i) * V j l

/-- A column of head `h`. -/
def col (h : ℕ) (e : Fin 512) : Fin 2048 := Fin.ofNat 2048 (512 * h + e.val)

/-- The result array: each row's attention to its batch's memory, head by head. -/
def G (q : Vec Ideal S16384x2048 .f32) (mk mv : Vec Ideal S2x256x2048 .f32) : Vec Ideal S16384x2048 .f32 := fun i =>
  att (fun e => q (ix2 (i 0 : Fin 16384) (col ((i 1).val / 512) e)))
    (fun j e => mk (ix3 (Fin.ofNat 2 ((i 0).val / 8192)) j (col ((i 1).val / 512) e)))
    (fun j e => mv (ix3 (Fin.ofNat 2 ((i 0).val / 8192)) j (col ((i 1).val / 512) e))) (Fin.ofNat 512 (i 1).val)

/-- The result block, likewise. -/
def attV (x0 : Vec Ideal S512x2048 .f32) (x1 x2 : Vec Ideal S1x256x2048 .f32) : Vec Ideal S512x2048 .f32 := fun i =>
  att (fun e => x0 (ix2 (i 0 : Fin 512) (col ((i 1).val / 512) e))) (fun j e => x1 (ix3 (0 : Fin 1) j (col ((i 1).val / 512) e)))
    (fun j e => x2 (ix3 (0 : Fin 1) j (col ((i 1).val / 512) e))) (Fin.ofNat 512 (i 1).val)

/-- A head's block from its queries, keys and values, entry by entry. -/
theorem pay (y : FVec Ideal S512x512 .bf16) (K V : Vec Ideal S1x256x512 .f32) (r l : Fin 512) :
    k0_pay1 y K V (ix2 r l) = att (fun e => (y (ix2 r e) : EReal)) (fun j e => K (ix3 (0 : Fin 1) j e)) (fun j e => V (ix3 (0 : Fin 1) j e)) l := by
  pointwise [k0_pay1]
  rfl

/-- The queries of one head. -/
def head (x : Vec Ideal S512x2048 .f32) (o : ℕ) (so : S512x2048.Slices ![0, o] S512x512) : FVec Ideal S512x512 .bf16 :=
  truncf .bf16 (extractStridedSlice S512x512 ![0, o] x so) bitsLt_bf16_f32

/-- The first head's block is the general one. -/
theorem pay2_eq (x : Vec Ideal S512x2048 .f32) (K V : Vec Ideal S1x256x512 .f32) : k0_pay2 x K V = k0_pay1 (head x 0 slices_S512x2048_o0_0_S512x512) K V := rfl
/-- The second head's block is the general one. -/
theorem pay4_eq (x : Vec Ideal S512x2048 .f32) (K V : Vec Ideal S1x256x512 .f32) : k0_pay4 (k0_pay3 x K) V = k0_pay1 (head x 512 slices_S512x2048_o0_512_S512x512) K V := rfl
/-- The third head's block is the general one. -/
theorem pay5_eq (x : Vec Ideal S512x2048 .f32) (K V : Vec Ideal S1x256x512 .f32) : k0_pay5 x K V = k0_pay1 (head x 1024 slices_S512x2048_o0_1024_S512x512) K V := rfl
/-- The fourth head's queries are the general ones. -/
theorem pay6_eq (x : Vec Ideal S512x2048 .f32) : k0_pay6 x = head x 1536 slices_S512x2048_o0_1536_S512x512 := rfl

/-- A head's store is its part of the result block. -/
theorem piece (x0 : Vec Ideal S512x2048 .f32) (x1 x2 : Vec Ideal S1x256x2048 .f32) (o h : ℕ) (ho : o = 512 * h) (hh : h < 4) (so : S512x2048.Slices ![0, o] S512x512)
    (inbw : ∀ a, (![0, 0] : Fin 2 → ℕ) a + S512x2048.size a ≤ S512x2048.size a)
    (inb0 : ∀ a, (![0, 0, o] : Fin 3 → ℕ) a + S1x256x512.size a ≤ S1x256x2048.size a) (inb1 : ∀ a, (![0, o] : Fin 2 → ℕ) a + S512x512.size a ≤ S512x2048.size a) (y : S512x512.Idx) :
    k0_pay1 (head (View.ld (Val := Elt Ideal) (e' := .f32) x0 (Rect.unit (s := S512x2048) ![0, 0] S512x2048.size inbw)) o so)
        (View.ld (Val := Elt Ideal) (e' := .f32) x1 (Rect.unit (s := S1x256x2048) ![0, 0, o] S1x256x512.size inb0))
        (View.ld (Val := Elt Ideal) (e' := .f32) x2 (Rect.unit (s := S1x256x2048) ![0, 0, o] S1x256x512.size inb0)) y
      = attV x0 x1 x2 ((Rect.unit (s := S512x2048) ![0, o] S512x512.size inb1).emb y) := by
  obtain ⟨r, l, rfl⟩ : ∃ (r l : Fin 512), y = ix2 r l := ⟨y 0, y 1, eq_ix2 (n0 := 512) (n1 := 512) y⟩
  refine (pay _ _ _ r l).trans ?_
  have hl := l.isLt
  have e0 : ((Rect.unit (s := S512x2048) ![0, o] S512x512.size inb1).emb (ix2 r l) 0 : Fin 512) = r := Fin.ext (show 0 + 1 * r.val = r.val by omega)
  have e1 : ((Rect.unit (s := S512x2048) ![0, o] S512x512.size inb1).emb (ix2 r l) 1).val = o + l.val := show o + 1 * l.val = _ by omega
  have eh : ((Rect.unit (s := S512x2048) ![0, o] S512x512.size inb1).emb (ix2 r l) 1).val / 512 = h := by rw [e1]; omega
  have el : (Fin.ofNat 512 ((Rect.unit (s := S512x2048) ![0, o] S512x512.size inb1).emb (ix2 r l) 1).val : Fin 512) = l :=
    Fin.ext (show ((Rect.unit (s := S512x2048) ![0, o] S512x512.size inb1).emb (ix2 r l) 1).val % 512 = l.val by rw [e1]; omega)
  unfold attV
  rw [e0, eh, el]
  congr 1
  · funext e
    have he := e.isLt
    refine congrArg x0 (funext fun a => Fin.ext ?_)
    match a with
    | ⟨0, _⟩ => show 0 + 1 * (0 + r.val) = r.val; omega
    | ⟨1, _⟩ => show 0 + 1 * (o + e.val) = (512 * h + e.val) % 2048; omega
  · funext j e
    have he := e.isLt
    refine congrArg x1 (funext fun a => Fin.ext ?_)
    match a with
    | ⟨0, _⟩ => rfl
    | ⟨1, _⟩ => show 0 + 1 * j.val = j.val; omega
    | ⟨2, _⟩ => show o + 1 * e.val = (512 * h + e.val) % 2048; omega
  · funext j e
    have he := e.isLt
    refine congrArg x2 (funext fun a => Fin.ext ?_)
    match a with
    | ⟨0, _⟩ => rfl
    | ⟨1, _⟩ => show 0 + 1 * j.val = j.val; omega
    | ⟨2, _⟩ => show o + 1 * e.val = (512 * h + e.val) % 2048; omega

/-- What the body leaves in the result's block. -/
theorem out_eq (x0 : Vec Ideal S512x2048 .f32) (x1 x2 : Vec Ideal S1x256x2048 .f32) (y : S512x2048.Idx) : out0_3 x0 x1 x2 y = attV x0 x1 x2 y := by
  unfold out0_3
  refine View.canon_apply_of_pieces (attV x0 x1 x2) _ ?_ y (cover0_3 _ _ _ _ y)
  intro p hp
  simp only [List.mem_cons, List.not_mem_nil, or_false] at hp
  rcases hp with rfl | rfl | rfl | rfl
  · intro z
    rw [pay6_eq]
    exact piece x0 x1 x2 1536 3 rfl (by omega) _ _ _ inb_S512x2048_S512x512_0_1536 z
  · intro z
    rw [pay5_eq]
    exact piece x0 x1 x2 1024 2 rfl (by omega) _ _ _ inb_S512x2048_S512x512_0_1024 z
  · intro z
    rw [pay4_eq]
    exact piece x0 x1 x2 512 1 rfl (by omega) _ _ _ inb_S512x2048_S512x512_0_512 z
  · intro z
    rw [pay2_eq]
    exact piece x0 x1 x2 0 0 rfl (by omega) _ _ _ inb_S512x2048_S512x512_0_0 z

variable (m : (ℓ : Loc nD τ sig) → Buf (Elt Ideal) ℓ)

/-- The block of window 0 at a point. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The block of window 1 at a point. -/
theorem idx1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
/-- The block of window 2 at a point. -/
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
/-- The block of window 3 at a point. -/
theorem idx3 : ∀ t : Fin cfg0.N, win0_3.index t 0 = t.val ∧ win0_3.index t 1 = 0 :=
  (by decide +kernel : ∀ t : Fin grid0.N, win0_3.index t 0 = t.val ∧ win0_3.index t 1 = 0)

/-- The queries that point `t` reads. -/
theorem iblk0 (c : Dev nD) (t : Fin cfg0.N) (r : Fin 512) (k : Fin 2048) (R : Fin 16384) (hR : R.val = 512 * t.val + r.val) :
    (iblk m c 0 t : Vec Ideal S512x2048 .f32) (ix2 r k) = (m ((c : Thread nD τ).loc main_arg0) : Vec Ideal S16384x2048 .f32) (ix2 R k) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [hi.1]; omega
  | ⟨1, _⟩ => show win0_0.index t 1 * 2048 + 1 * k.val = k.val; rw [hi.2]; omega

/-- The memory's keys that point `t` reads. -/
theorem iblk1 (c : Dev nD) (t : Fin cfg0.N) (j : Fin 256) (k : Fin 2048) (B : Fin 2) (hB : B.val = t.val / 16) :
    (iblk m c 1 t : Vec Ideal S1x256x2048 .f32) (ix3 (0 : Fin 1) j k) = (m ((c : Thread nD τ).loc main_arg1) : Vec Ideal S2x256x2048 .f32) (ix3 B j k) := by
  have hi := idx1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = B.val; rw [hi.1]; omega
  | ⟨1, _⟩ => show win0_1.index t 1 * 256 + 1 * j.val = j.val; rw [hi.2.1]; omega
  | ⟨2, _⟩ => show win0_1.index t 2 * 2048 + 1 * k.val = k.val; rw [hi.2.2]; omega

/-- The memory's values that point `t` reads. -/
theorem iblk2 (c : Dev nD) (t : Fin cfg0.N) (j : Fin 256) (k : Fin 2048) (B : Fin 2) (hB : B.val = t.val / 16) :
    (iblk m c 2 t : Vec Ideal S1x256x2048 .f32) (ix3 (0 : Fin 1) j k) = (m ((c : Thread nD τ).loc main_arg2) : Vec Ideal S2x256x2048 .f32) (ix3 B j k) := by
  have hi := idx2 t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = B.val; rw [hi.1]; omega
  | ⟨1, _⟩ => show win0_2.index t 1 * 256 + 1 * j.val = j.val; rw [hi.2.1]; omega
  | ⟨2, _⟩ => show win0_2.index t 2 * 2048 + 1 * k.val = k.val; rw [hi.2.2]; omega

/-- Each write-back writes its block of `G`. -/
theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hi := idx3 t
  have hN : t.val < 32 := lt_of_lt_of_eq t.isLt (show cfg0.N = 32 from N_0)
  rw [Value.flushed3 m c t]
  funext j
  obtain ⟨r, l, rfl⟩ : ∃ (r : Fin 512) (l : Fin 2048), j = ix2 r l := ⟨j 0, j 1, eq_ix2 (n0 := 512) (n1 := 2048) j⟩
  rw [View.read_apply]
  refine (out_eq _ _ _ (ix2 r l)).trans ?_
  have h0 : ∀ i : S16384x2048.Idx, (i 0).val = 512 * t.val + r.val → (i 1).val = l.val →
      attV (iblk m c 0 t) (iblk m c 1 t) (iblk m c 2 t) (ix2 r l)
        = G (m ((c : Thread nD τ).loc main_arg0)) (m ((c : Thread nD τ).loc main_arg1)) (m ((c : Thread nD τ).loc main_arg2)) i := by
    intro i e0 e1
    obtain ⟨R, L, rfl⟩ : ∃ (R : Fin 16384) (L : Fin 2048), i = ix2 R L := ⟨i 0, i 1, eq_ix2 (n0 := 16384) (n1 := 2048) i⟩
    have hR : R.val = 512 * t.val + r.val := e0
    have hB : (Fin.ofNat 2 (R.val / 8192) : Fin 2).val = t.val / 16 := by
      have hr := r.isLt
      show R.val / 8192 % 2 = _
      omega
    obtain rfl : L = l := Fin.ext e1
    unfold attV G
    congr 1
    · funext e; exact iblk0 m c t r _ R hR
    · funext j e; exact iblk1 m c t j _ _ hB
    · funext j e; exact iblk2 m c t j _ _ hB
  refine h0 _ ?_ ?_
  · show win0_3.index t 0 * 512 + 1 * r.val = _
    rw [hi.1]; omega
  · show win0_3.index t 1 * 2048 + 1 * l.val = _
    rw [hi.2]; omega

/-- The result array after the run. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (flushed_eq m c) fun i => by
    have h0 : ((i : S16384x2048.Idx) 0).val < 16384 := (i 0).isLt
    have h1 : ((i : S16384x2048.Idx) 1).val < 2048 := (i 1).isLt
    have hN : cfg0.N = 32 := N_0
    refine ⟨⟨(i 0).val / 512, by rw [hN]; omega⟩, flush0_3 _, ?_⟩
    generalize ht : (⟨(i 0).val / 512, _⟩ : Fin cfg0.N) = t
    have hv : t.val = (i 0).val / 512 := by rw [← ht]
    have hi := idx3 t
    show i ∈ ((View.whole main_v0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [hi.1]; omega
    | ⟨1, _⟩ => show win0_3.index t 1 * 2048 ≤ (i 1 : Nat) ∧ (i 1 : Nat) < win0_3.index t 1 * 2048 + 2048
                rw [hi.2]; omega

end Cert.Kernel7Ideal.Proj

namespace Cert.Reference7Ideal.Proj
open Cert.Reference7Ideal Cert.Reference7Ideal.Gen Idealize.ShloMosaic Cert.Reference7Ideal.Read Cert.Reference2Ideal.Proj
open Cert.Kernel7Ideal.Proj (score ex att col)

/-- The scores of a row. -/
theorem score_eq (q : Vec Ideal S16384x2048 .f32) (mk : Vec Ideal S2x256x2048 .f32) (b : Fin 2) (h : Fin 4) (p : Fin 8192) (j : Fin 256) (R : Fin 16384) (hR : R.val = 8192 * b.val + p.val) :
    val_main_v5 (F := Ideal) q mk (ix4 b h p j) = score (fun e => q (ix2 R (col h.val e))) (fun j e => mk (ix3 b j (col h.val e))) j := by
  have e0 : ∀ k : Fin 512, idx_main_v0 (lidx_main_v3 (ix4 b h p j) k) = ix2 R (col h.val k) := fun k => by
    have hk := k.isLt
    have hh := h.isLt
    have hp := p.isLt
    funext a; apply Fin.ext
    match a with
    | ⟨0, _⟩ => show (((b.val * 8192 + p.val) * 4 + h.val) * 512 + k.val) / 2048 = R.val; omega
    | ⟨1, _⟩ => show (((b.val * 8192 + p.val) * 4 + h.val) * 512 + k.val) % 2048 = (512 * h.val + k.val) % 2048; omega
  have e1 : ∀ k : Fin 512, idx_main_v1 (ridx_main_v3 (ix4 b h p j) k) = ix3 b j (col h.val k) := fun k => by
    have hk := k.isLt
    have hh := h.isLt
    have hj := j.isLt
    have hb := b.isLt
    funext a; apply Fin.ext
    match a with
    | ⟨0, _⟩ => show (((b.val * 256 + j.val) * 4 + h.val) * 512 + k.val) / 524288 = b.val; omega
    | ⟨1, _⟩ => show (((b.val * 256 + j.val) * 4 + h.val) * 512 + k.val) / 2048 % 256 = j.val; omega
    | ⟨2, _⟩ => show (((b.val * 256 + j.val) * 4 + h.val) * 512 + k.val) % 2048 = (512 * h.val + k.val) % 2048; omega
  rw [val_main_v5_apply, val_main_v4_apply, val_main_cst_apply, val_main_v3_apply]
  simp only [val_main_v0_apply, val_main_v1_apply, e0, e1]
  rfl

/-- The largest score of a row. -/
theorem top_eq (q : Vec Ideal S16384x2048 .f32) (mk : Vec Ideal S2x256x2048 .f32) (b : Fin 2) (h : Fin 4) (p : Fin 8192) (s : Fin 256 → EReal)
    (hs : ∀ j, val_main_v5 (F := Ideal) q mk (ix4 b h p j) = s j) :
    val_main_v8 (F := Ideal) q mk (ix3 b h p) = Finset.univ.fold max (Ideal.ofBits .f32 0xFF800000#32) s := by
  have hr : S2x4x8192x256.Reduces [3] S2x4x8192 := by decide
  have e : ∀ k : Fin 256, val_main_v5 (F := Ideal) q mk (hr.lift (ix3 b h p) k) = s k := fun k =>
    (congrArg (val_main_v5 (F := Ideal) q mk) (funext fun a => Fin.ext (by match a with | ⟨0, _⟩ => rfl | ⟨1, _⟩ => rfl | ⟨2, _⟩ => rfl | ⟨3, _⟩ => rfl))).trans (hs k)
  have h6 : val_main_v6 (F := Ideal) q mk (ix3 b h p) = Finset.univ.fold max (Ideal.ofBits .f32 0xFF800000#32) s := by
    unfold val_main_v6
    rw [Host.reduce_eq_fold_single FloatOps.maximumf _ _ _ hr]
    have h1 : val_main_v5 (F := Ideal) q mk ∘ hr.lift (ix3 b h p) = s := funext e
    rw [h1]
    rfl
  rw [val_main_v8_apply, val_main_v7_apply, val_main_cst_1_apply, h6]
  exact (congrArg (max · _) Cert.KernelIdeal.Att.negInf).trans (max_eq_right bot_le)

/-- The weights of a row before the division. -/
theorem ex_eq (q : Vec Ideal S16384x2048 .f32) (mk : Vec Ideal S2x256x2048 .f32) (b : Fin 2) (h : Fin 4) (p : Fin 8192) (s : Fin 256 → EReal)
    (hs : ∀ j, val_main_v5 (F := Ideal) q mk (ix4 b h p j) = s j) (j : Fin 256) :
    val_main_v12 (F := Ideal) q mk (ix4 b h p j) = ex s j := by
  have e : idx_main_v9 (idx_main_v10 (ix4 b h p j)) = ix3 b h p := by
    funext a
    match a with
    | ⟨0, _⟩ => rfl
    | ⟨1, _⟩ => rfl
    | ⟨2, _⟩ => rfl
  rw [val_main_v12_apply, val_main_v11_apply, val_main_v10_apply, val_main_v9_apply, e, top_eq q mk b h p s hs, hs]
  rfl

/-- The weights of a row. -/
theorem soft_eq (q : Vec Ideal S16384x2048 .f32) (mk : Vec Ideal S2x256x2048 .f32) (b : Fin 2) (h : Fin 4) (p : Fin 8192) (s : Fin 256 → EReal)
    (hs : ∀ j, val_main_v5 (F := Ideal) q mk (ix4 b h p j) = s j) (j : Fin 256) :
    val_main_v16 (F := Ideal) q mk (ix4 b h p j) = Ideal.div (ex s j) (∑ i, ex s i) := by
  have e : ∀ k : Fin 256, idx_main_v13 (idx_main_v14 (idx_main_v15 (ix4 b h p j))) k = ix4 b h p k := fun k => by
    funext a
    match a with
    | ⟨0, _⟩ => rfl
    | ⟨1, _⟩ => rfl
    | ⟨2, _⟩ => rfl
    | ⟨3, _⟩ => rfl
  rw [val_main_v16_apply, val_main_v15_apply, val_main_v14_apply, val_main_v13_apply, val_main_cst_2_apply, zero_word]
  simp only [e, ex_eq q mk b h p s hs]
  rfl

/-- The reference's result is the same function. -/
theorem out_eq (q : Vec Ideal S16384x2048 .f32) (mk mv : Vec Ideal S2x256x2048 .f32) :
    val_main_v19 (F := Ideal) q mk mv = Cert.Kernel7Ideal.Proj.G q mk mv := by
  funext i
  obtain ⟨a, c, rfl⟩ : ∃ (a : Fin 16384) (c : Fin 2048), i = ix2 a c := ⟨i 0, i 1, eq_ix2 (n0 := 16384) (n1 := 2048) i⟩
  have ha := a.isLt
  have hc := c.isLt
  obtain ⟨b, hb⟩ : ∃ b : Fin 2, b.val = a.val / 8192 := ⟨⟨a.val / 8192, by omega⟩, rfl⟩
  obtain ⟨p, hp⟩ : ∃ p : Fin 8192, p.val = a.val % 8192 := ⟨⟨a.val % 8192, by omega⟩, rfl⟩
  obtain ⟨h, hh⟩ : ∃ h : Fin 4, h.val = c.val / 512 := ⟨⟨c.val / 512, by omega⟩, rfl⟩
  obtain ⟨l, hl⟩ : ∃ l : Fin 512, l.val = c.val % 512 := ⟨⟨c.val % 512, by omega⟩, rfl⟩
  have e0 : idx_main_v18 (idx_main_v19 (ix2 a c)) = ix4 b h l p := by
    funext x; apply Fin.ext
    match x with
    | ⟨0, _⟩ => show (a.val * 2048 + c.val) / 16777216 = b.val; omega
    | ⟨1, _⟩ => show (a.val * 2048 + c.val) / 512 % 4 = h.val; omega
    | ⟨2, _⟩ => show (a.val * 2048 + c.val) % 512 = l.val; omega
    | ⟨3, _⟩ => show (a.val * 2048 + c.val) / 2048 % 8192 = p.val; omega
  have e1 : ∀ k : Fin 256, idx_main_v2 (lidx_main_v17 (ix4 b h l p) k) = ix3 b k (col h.val l) := fun k => by
    have hk := k.isLt
    have h2 := b.isLt
    have h3 := h.isLt
    have h4 := l.isLt
    funext x; apply Fin.ext
    match x with
    | ⟨0, _⟩ => show (((b.val * 256 + k.val) * 4 + h.val) * 512 + l.val) / 524288 = b.val; omega
    | ⟨1, _⟩ => show (((b.val * 256 + k.val) * 4 + h.val) * 512 + l.val) / 2048 % 256 = k.val; omega
    | ⟨2, _⟩ => show (((b.val * 256 + k.val) * 4 + h.val) * 512 + l.val) % 2048 = (512 * h.val + l.val) % 2048; omega
  have e2 : ∀ k : Fin 256, ridx_main_v17 (ix4 b h l p) k = ix4 b h p k := fun k => by
    funext x
    match x with
    | ⟨0, _⟩ => rfl
    | ⟨1, _⟩ => rfl
    | ⟨2, _⟩ => rfl
    | ⟨3, _⟩ => rfl
  have hB : (Fin.ofNat 2 (a.val / 8192) : Fin 2) = b := Fin.ext (show a.val / 8192 % 2 = b.val by omega)
  have hL : (Fin.ofNat 512 c.val : Fin 512) = l := Fin.ext (show c.val % 512 = l.val by omega)
  have hG : Cert.Kernel7Ideal.Proj.G q mk mv (ix2 a c)
      = att (fun e => q (ix2 a (col h.val e))) (fun j e => mk (ix3 b j (col h.val e))) (fun j e => mv (ix3 b j (col h.val e))) l := by
    rw [hh, ← hB, ← hL]
    rfl
  rw [hG, val_main_v19_apply, val_main_v18_apply, e0, val_main_v17_apply]
  refine Finset.sum_congr rfl fun k _ => ?_
  rw [val_main_v2_apply, e1, e2, soft_eq q mk b h p _ (fun j => score_eq q mk b h p j a (by omega))]
  exact mul_comm _ _

end Cert.Reference7Ideal.Proj
-- ==== Proof.lean ====
/-
  The proof of `Cert.Claim`: the frames and the idealization are the generated modules'; each value claim joins the
  kernel's result and the reference's, which the modules under Proof/ bring to one formula at every index.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6.Points
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7.Points
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.Finite
public import proofs.«01_k».proof.Proof.Out
public import proofs.«01_k».proof.Proof.RefOut
public import proofs.«01_k».proof.Proof.Proj2
public import proofs.«01_k».proof.Proof.Proj3
public import proofs.«01_k».proof.Proof.Proj4
public import proofs.«01_k».proof.Proof.Proj5
public import proofs.«01_k».proof.Proof.Proj6
public import proofs.«01_k».proof.Proof.Proj7
public import Idealize.ShloMosaic.Adequacy
public import Idealize.ShloMosaic.Init

@[expose] public section

noncomputable section

namespace Cert.Proof

open Idealize.ShloMosaic Idealize.SL.Sem

/-- The reference runs, keeps its arguments and leaves every semaphore at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Of finite arrays, the kernel's and the reference's results are the same function. -/
theorem result_eq (X : FVec Ideal Cert.KernelIdeal.S16384x7168 .f32) (Λ : FVec Ideal Cert.KernelIdeal.S4x64 .f32)
    (hX : Cert.KernelIdeal.Att.Fin' X) (hΛ : Cert.KernelIdeal.Att.Fin' Λ) :
    Cert.ReferenceIdeal.Read.val_main_v52 (F := Ideal) X Λ = Cert.KernelIdeal.Att.G X Λ := by
  funext i
  obtain ⟨a, c, rfl⟩ : ∃ (a : Fin 16384) (c : Fin 1024), i = ix2 a c := ⟨i 0, i 1, eq_ix2 i⟩
  exact (Cert.ReferenceIdeal.Att.out_apply hX hΛ a c).trans (Cert.KernelIdeal.Att.G_apply hX Λ a c).symm

/-- At exact values, from finite arrays, the kernel's result array ends equal to the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.Att.facts) := by
  intro m ρ m' ρ' hpre hagree
  refine ⟨fun c => (Cert.KernelIdeal.Gen.dats m 0 c).arrAt 4 Cert.KernelIdeal.cfg0.N, Cert.KernelIdeal.Value.run_blocks (F := Ideal) m ρ, ?_⟩
  refine (θ_run Cert.ReferenceIdeal.defs _ _).mono (fun r h c => ⟨(h c).1.trans ?_, (h c).2⟩) (Cert.ReferenceIdeal.Value.run (F := Ideal) m' ρ')
  haveI := Cert.Pre_finite.Att.facts
  obtain ⟨hX, hΛ⟩ := Cert.Pre_finite.Att.real_of_fn (h := hpre c)
  rw [Cert.ReferenceIdeal.Read.val_main_v52_eq, (hagree c).1, (hagree c).2, result_eq _ _ hX hΛ]
  exact (Cert.KernelIdeal.Att.final m c).symm

/-- The reference of the normalised projection runs, keeps its arguments and leaves every semaphore at zero. -/
theorem reference2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- At exact values, the normalised projection of the kernel ends equal to the reference's. -/
theorem value2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 3 Cert.Kernel2Ideal.cfg0.N, Cert.Kernel2Ideal.Value.run_blocks (F := Ideal) m ρ, ?_⟩
  refine (θ_run Cert.Reference2Ideal.defs _ _).mono (fun r h c => ⟨(h c).1.trans ?_, (h c).2⟩) (Cert.Reference2Ideal.Value.run (F := Ideal) m' ρ')
  rw [Cert.Reference2Ideal.Read.val_main_v15_eq, (hagree c).1, (hagree c).2.1, (hagree c).2.2, Cert.Reference2Ideal.Proj.out_eq]
  exact (Cert.Kernel2Ideal.Proj.final m c).symm

/-- The reference of the projection with a residual runs, keeps its arguments and leaves every semaphore at zero. -/
theorem reference3_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- At exact values, the projection with a residual of the kernel ends equal to the reference's. -/
theorem value3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 3 Cert.Kernel3Ideal.cfg0.N, Cert.Kernel3Ideal.Value.run_blocks (F := Ideal) m ρ, ?_⟩
  refine (θ_run Cert.Reference3Ideal.defs _ _).mono (fun r h c => ⟨(h c).1.trans ?_, (h c).2⟩) (Cert.Reference3Ideal.Value.run (F := Ideal) m' ρ')
  rw [Cert.Reference3Ideal.Read.val_main_v2_eq, (hagree c).1, (hagree c).2.1, (hagree c).2.2, Cert.Reference3Ideal.Proj.out_eq]
  exact (Cert.Kernel3Ideal.Proj.final m c).symm

/-- The reference of the memory's projection runs, keeps its arguments and leaves every semaphore at zero. -/
theorem reference4_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- At exact values, the memory's projection of the kernel ends equal to the reference's. -/
theorem value4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 3 Cert.Kernel4Ideal.cfg0.N, Cert.Kernel4Ideal.Value.run_blocks (F := Ideal) m ρ, ?_⟩
  refine (θ_run Cert.Reference4Ideal.defs _ _).mono (fun r h c => ⟨(h c).1.trans ?_, (h c).2⟩) (Cert.Reference4Ideal.Value.run (F := Ideal) m' ρ')
  rw [Cert.Reference4Ideal.Read.val_main_v16_eq, (hagree c).1, (hagree c).2.1, (hagree c).2.2, Cert.Reference4Ideal.Proj.out_eq]
  exact (Cert.Kernel4Ideal.Proj.final m c).symm

/-- The reference of the merge of the heads runs, keeps its arguments and leaves every semaphore at zero. -/
theorem reference5_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- At exact values, the merge of the heads of the kernel ends equal to the reference's. -/
theorem value5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => (Cert.Kernel5Ideal.Gen.dats m 0 c).arrAt 6 Cert.Kernel5Ideal.cfg0.N, Cert.Kernel5Ideal.Value.run_blocks (F := Ideal) m ρ, ?_⟩
  refine (θ_run Cert.Reference5Ideal.defs _ _).mono (fun r h c => ⟨(h c).1.trans ?_, (h c).2⟩) (Cert.Reference5Ideal.Value.run (F := Ideal) m' ρ')
  rw [Cert.Reference5Ideal.Read.val_main_v37_eq, (hagree c).1, (hagree c).2.1, (hagree c).2.2.1, (hagree c).2.2.2.1, (hagree c).2.2.2.2.1, (hagree c).2.2.2.2.2, Cert.Reference5Ideal.Proj.out_eq]
  exact (Cert.Kernel5Ideal.Proj.final m c).symm

/-- The reference of the input's projection runs, keeps its arguments and leaves every semaphore at zero. -/
theorem reference6_frame : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- At exact values, the input's projection with its rotations of the kernel ends equal to the reference's. -/
theorem value6 : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => (Cert.Kernel6Ideal.Gen.dats m 0 c).arrAt 7 Cert.Kernel6Ideal.cfg0.N, Cert.Kernel6Ideal.Value.run_blocks (F := Ideal) m ρ, ?_⟩
  refine (θ_run Cert.Reference6Ideal.defs _ _).mono (fun r h c => ⟨(h c).1.trans ?_, (h c).2⟩) (Cert.Reference6Ideal.Value.run (F := Ideal) m' ρ')
  rw [Cert.Reference6Ideal.Read.val_main_v149_eq, (hagree c).1, (hagree c).2.1, (hagree c).2.2, Cert.Reference6Ideal.Proj.out_eq]
  exact (Cert.Kernel6Ideal.Proj.final m c).symm

/-- The reference of the memory attention runs, keeps its arguments and leaves every semaphore at zero. -/
theorem reference7_frame : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- At exact values, the memory attention of the kernel ends equal to the reference's. -/
theorem value7 : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => (Cert.Kernel7Ideal.Gen.dats m 0 c).arrAt 3 Cert.Kernel7Ideal.cfg0.N, Cert.Kernel7Ideal.Value.run_blocks (F := Ideal) m ρ, ?_⟩
  refine (θ_run Cert.Reference7Ideal.defs _ _).mono (fun r h c => ⟨(h c).1.trans ?_, (h c).2⟩) (Cert.Reference7Ideal.Value.run (F := Ideal) m' ρ')
  rw [Cert.Reference7Ideal.Read.val_main_v19_eq, (hagree c).1, (hagree c).2.1, (hagree c).2.2, Cert.Reference7Ideal.Proj.out_eq]
  exact (Cert.Kernel7Ideal.Proj.final m c).symm

/-- Every claim of the statement, of the seven programs. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Att.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  ⟨IdealRules.named_const.statement Cert.KernelIdeal.κ "qscale" .f32 0x3E38AA3B#32 (((8 * (Real.log 2))⁻¹ : ℝ) : EReal) rfl,
   IdealRules.named_const.statement Cert.KernelIdeal.κ "mask" .f32 0xF149F2CA#32 ⊥ rfl⟩,
  value, trivial, value2, trivial, value3, trivial, value4, trivial, value5, trivial, value6, trivial, value7⟩

end Cert.Proof

end
